-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attn_finite [hPre_attn_finite : Cert.Pre_attn_finite.Facts] (m : (ℓ : Loc Cert.KernelIdeal.nD Cert.KernelIdeal.τ Cert.KernelIdeal.sig) → Buf (Elt Ideal) ℓ) : Prop :=
  ∀ c : Dev Cert.KernelIdeal.nD,
    (Cert.Pre_attn_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attn_finite [hPre_attn_finite : Cert.Pre_attn_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attn_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_FfnFinalRefIdeal (m : (ℓ : Loc Cert.FfnFinalRefIdeal.nD Cert.FfnFinalRefIdeal.τ Cert.FfnFinalRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnNext (m : (ℓ : Loc Cert.FfnNext.nD Cert.FfnNext.τ Cert.FfnNext.sig) → Buf (Elt Bits) ℓ) : Prop :=
  True

def Pre_FfnNextIdeal (m : (ℓ : Loc Cert.FfnNextIdeal.nD Cert.FfnNextIdeal.τ Cert.FfnNextIdeal.sig) → Buf (Elt Ideal) ℓ) : Prop :=
  True

def Pre_FfnNextRefIdeal (m : (ℓ : Loc Cert.FfnNextRefIdeal.nD Cert.FfnNextRefIdeal.τ Cert.FfnNextRefIdeal.sig) → Buf (Elt Ideal) ℓ) : Prop :=
  True

def Pre_OutGdn (m : (ℓ : Loc Cert.OutGdn.nD Cert.OutGdn.τ Cert.OutGdn.sig) → Buf (Elt Bits) ℓ) : Prop :=
  True

def Pre_OutGdnIdeal (m : (ℓ : Loc Cert.OutGdnIdeal.nD Cert.OutGdnIdeal.τ Cert.OutGdnIdeal.sig) → Buf (Elt Ideal) ℓ) : Prop :=
  True

def Pre_OutGdnRefIdeal (m : (ℓ : Loc Cert.OutGdnRefIdeal.nD Cert.OutGdnRefIdeal.τ Cert.OutGdnRefIdeal.sig) → Buf (Elt Ideal) ℓ) : Prop :=
  True

def Pre_OutAttn (m : (ℓ : Loc Cert.OutAttn.nD Cert.OutAttn.τ Cert.OutAttn.sig) → Buf (Elt Bits) ℓ) : Prop :=
  True

def Pre_OutAttnIdeal (m : (ℓ : Loc Cert.OutAttnIdeal.nD Cert.OutAttnIdeal.τ Cert.OutAttnIdeal.sig) → Buf (Elt Ideal) ℓ) : Prop :=
  True

def Pre_OutAttnRefIdeal (m : (ℓ : Loc Cert.OutAttnRefIdeal.nD Cert.OutAttnRefIdeal.τ Cert.OutAttnRefIdeal.sig) → Buf (Elt Ideal) ℓ) : Prop :=
  True

def Pre_ProjConv (m : (ℓ : Loc Cert.ProjConv.nD Cert.ProjConv.τ Cert.ProjConv.sig) → Buf (Elt Bits) ℓ) : Prop :=
  True

def Pre_ProjConvIdeal (m : (ℓ : Loc Cert.ProjConvIdeal.nD Cert.ProjConvIdeal.τ Cert.ProjConvIdeal.sig) → Buf (Elt Ideal) ℓ) : Prop :=
  True

def Pre_ProjConvRefIdeal (m : (ℓ : Loc Cert.ProjConvRefIdeal.nD Cert.ProjConvRefIdeal.τ Cert.ProjConvRefIdeal.sig) → Buf (Elt Ideal) ℓ) : Prop :=
  True

def Pre_ProjRope (m : (ℓ : Loc Cert.ProjRope.nD Cert.ProjRope.τ Cert.ProjRope.sig) → Buf (Elt Bits) ℓ) : Prop :=
  True

def Pre_ProjRopeIdeal (m : (ℓ : Loc Cert.ProjRopeIdeal.nD Cert.ProjRopeIdeal.τ Cert.ProjRopeIdeal.sig) → Buf (Elt Ideal) ℓ) : Prop :=
  True

def Pre_ProjRopeRefIdeal (m : (ℓ : Loc Cert.ProjRopeRefIdeal.nD Cert.ProjRopeRefIdeal.τ Cert.ProjRopeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_attn_finite [hKernelIdeal : Cert.KernelIdeal.Facts] [hPre_attn_finite : Cert.Pre_attn_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attn_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_attn_finite [hReferenceIdeal : Cert.ReferenceIdeal.Facts] [hPre_attn_finite : Cert.Pre_attn_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attn_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4)
      ∧ r.2.mem ((c.tc : Thread Cert.FfnFinal.nD Cert.FfnFinal.τ).loc Cert.FfnFinal.main_arg5) = m ((c.tc : Thread Cert.FfnFinal.nD Cert.FfnFinal.τ).loc Cert.FfnFinal.main_arg5))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
      ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ r.2.sem = fun _ => 0)

def quiescent_FfnFinalRefIdeal [hFfnFinalRefIdeal : Cert.FfnFinalRefIdeal.Facts] : Prop :=
  ∀ (m : (ℓ : Loc Cert.FfnFinalRefIdeal.nD Cert.FfnFinalRefIdeal.τ Cert.FfnFinalRefIdeal.sig) → Buf (Elt Ideal) ℓ) (g : Dev Cert.FfnFinalRefIdeal.nD → PrngReg), Pre_FfnFinalRefIdeal m →
    θ_run (Cert.FfnFinalRefIdeal.defs (F := Ideal)) (onTc (τ := Cert.FfnFinalRefIdeal.τ) (Cert.FfnFinalRefIdeal.main (F := Ideal))) ⟨m, fun _ => 0, g⟩ (fun r => (∀ c : Dev Cert.FfnFinalRefIdeal.nD,
      r.2.mem ((c.tc : Thread Cert.FfnFinalRefIdeal.nD Cert.FfnFinalRefIdeal.τ).loc Cert.FfnFinalRefIdeal.main_arg0) = m ((c.tc : Thread Cert.FfnFinalRefIdeal.nD Cert.FfnFinalRefIdeal.τ).loc Cert.FfnFinalRefIdeal.main_arg0)
      ∧ r.2.mem ((c.tc : Thread Cert.FfnFinalRefIdeal.nD Cert.FfnFinalRefIdeal.τ).loc Cert.FfnFinalRefIdeal.main_arg1) = m ((c.tc : Thread Cert.FfnFinalRefIdeal.nD Cert.FfnFinalRefIdeal.τ).loc Cert.FfnFinalRefIdeal.main_arg1)
      ∧ r.2.mem ((c.tc : Thread Cert.FfnFinalRefIdeal.nD Cert.FfnFinalRefIdeal.τ).loc Cert.FfnFinalRefIdeal.main_arg2) = m ((c.tc : Thread Cert.FfnFinalRefIdeal.nD Cert.FfnFinalRefIdeal.τ).loc Cert.FfnFinalRefIdeal.main_arg2)
      ∧ r.2.mem ((c.tc : Thread Cert.FfnFinalRefIdeal.nD Cert.FfnFinalRefIdeal.τ).loc Cert.FfnFinalRefIdeal.main_arg3) = m ((c.tc : Thread Cert.FfnFinalRefIdeal.nD Cert.FfnFinalRefIdeal.τ).loc Cert.FfnFinalRefIdeal.main_arg3)
      ∧ r.2.mem ((c.tc : Thread Cert.FfnFinalRefIdeal.nD Cert.FfnFinalRefIdeal.τ).loc Cert.FfnFinalRefIdeal.main_arg4) = m ((c.tc : Thread Cert.FfnFinalRefIdeal.nD Cert.FfnFinalRefIdeal.τ).loc Cert.FfnFinalRefIdeal.main_arg4)
      ∧ r.2.mem ((c.tc : Thread Cert.FfnFinalRefIdeal.nD Cert.FfnFinalRefIdeal.τ).loc Cert.FfnFinalRefIdeal.main_arg5) = m ((c.tc : Thread Cert.FfnFinalRefIdeal.nD Cert.FfnFinalRefIdeal.τ).loc Cert.FfnFinalRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnNext [hFfnNext : Cert.FfnNext.Facts] : Prop :=
  ∀ (m : (ℓ : Loc Cert.FfnNext.nD Cert.FfnNext.τ Cert.FfnNext.sig) → Buf (Elt Bits) ℓ) (g : Dev Cert.FfnNext.nD → PrngReg), Pre_FfnNext m →
    θ_run (Cert.FfnNext.defs (F := Bits)) (onTc (τ := Cert.FfnNext.τ) (Cert.FfnNext.main (F := Bits))) ⟨m, fun _ => 0, g⟩ (fun r => (∀ c : Dev Cert.FfnNext.nD,
      r.2.mem ((c.tc : Thread Cert.FfnNext.nD Cert.FfnNext.τ).loc Cert.FfnNext.main_arg0) = m ((c.tc : Thread Cert.FfnNext.nD Cert.FfnNext.τ).loc Cert.FfnNext.main_arg0)
      ∧ r.2.mem ((c.tc : Thread Cert.FfnNext.nD Cert.FfnNext.τ).loc Cert.FfnNext.main_arg1) = m ((c.tc : Thread Cert.FfnNext.nD Cert.FfnNext.τ).loc Cert.FfnNext.main_arg1)
      ∧ r.2.mem ((c.tc : Thread Cert.FfnNext.nD Cert.FfnNext.τ).loc Cert.FfnNext.main_arg2) = m ((c.tc : Thread Cert.FfnNext.nD Cert.FfnNext.τ).loc Cert.FfnNext.main_arg2)
      ∧ r.2.mem ((c.tc : Thread Cert.FfnNext.nD Cert.FfnNext.τ).loc Cert.FfnNext.main_arg3) = m ((c.tc : Thread Cert.FfnNext.nD Cert.FfnNext.τ).loc Cert.FfnNext.main_arg3)
      ∧ r.2.mem ((c.tc : Thread Cert.FfnNext.nD Cert.FfnNext.τ).loc Cert.FfnNext.main_arg4) = m ((c.tc : Thread Cert.FfnNext.nD Cert.FfnNext.τ).loc Cert.FfnNext.main_arg4)
      ∧ r.2.mem ((c.tc : Thread Cert.FfnNext.nD Cert.FfnNext.τ).loc Cert.FfnNext.main_arg5) = m ((c.tc : Thread Cert.FfnNext.nD Cert.FfnNext.τ).loc Cert.FfnNext.main_arg5))
      ∧ r.2.sem = fun _ => 0)

def quiescent_FfnNextIdeal [hFfnNextIdeal : Cert.FfnNextIdeal.Facts] : Prop :=
  ∀ (m : (ℓ : Loc Cert.FfnNextIdeal.nD Cert.FfnNextIdeal.τ Cert.FfnNextIdeal.sig) → Buf (Elt Ideal) ℓ) (g : Dev Cert.FfnNextIdeal.nD → PrngReg), Pre_FfnNextIdeal m →
    θ_run (Cert.FfnNextIdeal.defs (F := Ideal)) (onTc (τ := Cert.FfnNextIdeal.τ) (Cert.FfnNextIdeal.main (F := Ideal))) ⟨m, fun _ => 0, g⟩ (fun r => (∀ c : Dev Cert.FfnNextIdeal.nD,
      r.2.mem ((c.tc : Thread Cert.FfnNextIdeal.nD Cert.FfnNextIdeal.τ).loc Cert.FfnNextIdeal.main_arg0) = m ((c.tc : Thread Cert.FfnNextIdeal.nD Cert.FfnNextIdeal.τ).loc Cert.FfnNextIdeal.main_arg0)
      ∧ r.2.mem ((c.tc : Thread Cert.FfnNextIdeal.nD Cert.FfnNextIdeal.τ).loc Cert.FfnNextIdeal.main_arg1) = m ((c.tc : Thread Cert.FfnNextIdeal.nD Cert.FfnNextIdeal.τ).loc Cert.FfnNextIdeal.main_arg1)
      ∧ r.2.mem ((c.tc : Thread Cert.FfnNextIdeal.nD Cert.FfnNextIdeal.τ).loc Cert.FfnNextIdeal.main_arg2) = m ((c.tc : Thread Cert.FfnNextIdeal.nD Cert.FfnNextIdeal.τ).loc Cert.FfnNextIdeal.main_arg2)
      ∧ r.2.mem ((c.tc : Thread Cert.FfnNextIdeal.nD Cert.FfnNextIdeal.τ).loc Cert.FfnNextIdeal.main_arg3) = m ((c.tc : Thread Cert.FfnNextIdeal.nD Cert.FfnNextIdeal.τ).loc Cert.FfnNextIdeal.main_arg3)
      ∧ r.2.mem ((c.tc : Thread Cert.FfnNextIdeal.nD Cert.FfnNextIdeal.τ).loc Cert.FfnNextIdeal.main_arg4) = m ((c.tc : Thread Cert.FfnNextIdeal.nD Cert.FfnNextIdeal.τ).loc Cert.FfnNextIdeal.main_arg4)
      ∧ r.2.mem ((c.tc : Thread Cert.FfnNextIdeal.nD Cert.FfnNextIdeal.τ).loc Cert.FfnNextIdeal.main_arg5) = m ((c.tc : Thread Cert.FfnNextIdeal.nD Cert.FfnNextIdeal.τ).loc Cert.FfnNextIdeal.main_arg5))
      ∧ r.2.sem = fun _ => 0)

def quiescent_FfnNextRefIdeal [hFfnNextRefIdeal : Cert.FfnNextRefIdeal.Facts] : Prop :=
  ∀ (m : (ℓ : Loc Cert.FfnNextRefIdeal.nD Cert.FfnNextRefIdeal.τ Cert.FfnNextRefIdeal.sig) → Buf (Elt Ideal) ℓ) (g : Dev Cert.FfnNextRefIdeal.nD → PrngReg), Pre_FfnNextRefIdeal m →
    θ_run (Cert.FfnNextRefIdeal.defs (F := Ideal)) (onTc (τ := Cert.FfnNextRefIdeal.τ) (Cert.FfnNextRefIdeal.main (F := Ideal))) ⟨m, fun _ => 0, g⟩ (fun r => (∀ c : Dev Cert.FfnNextRefIdeal.nD,
      r.2.mem ((c.tc : Thread Cert.FfnNextRefIdeal.nD Cert.FfnNextRefIdeal.τ).loc Cert.FfnNextRefIdeal.main_arg0) = m ((c.tc : Thread Cert.FfnNextRefIdeal.nD Cert.FfnNextRefIdeal.τ).loc Cert.FfnNextRefIdeal.main_arg0)
      ∧ r.2.mem ((c.tc : Thread Cert.FfnNextRefIdeal.nD Cert.FfnNextRefIdeal.τ).loc Cert.FfnNextRefIdeal.main_arg1) = m ((c.tc : Thread Cert.FfnNextRefIdeal.nD Cert.FfnNextRefIdeal.τ).loc Cert.FfnNextRefIdeal.main_arg1)
      ∧ r.2.mem ((c.tc : Thread Cert.FfnNextRefIdeal.nD Cert.FfnNextRefIdeal.τ).loc Cert.FfnNextRefIdeal.main_arg2) = m ((c.tc : Thread Cert.FfnNextRefIdeal.nD Cert.FfnNextRefIdeal.τ).loc Cert.FfnNextRefIdeal.main_arg2)
      ∧ r.2.mem ((c.tc : Thread Cert.FfnNextRefIdeal.nD Cert.FfnNextRefIdeal.τ).loc Cert.FfnNextRefIdeal.main_arg3) = m ((c.tc : Thread Cert.FfnNextRefIdeal.nD Cert.FfnNextRefIdeal.τ).loc Cert.FfnNextRefIdeal.main_arg3)
      ∧ r.2.mem ((c.tc : Thread Cert.FfnNextRefIdeal.nD Cert.FfnNextRefIdeal.τ).loc Cert.FfnNextRefIdeal.main_arg4) = m ((c.tc : Thread Cert.FfnNextRefIdeal.nD Cert.FfnNextRefIdeal.τ).loc Cert.FfnNextRefIdeal.main_arg4)
      ∧ r.2.mem ((c.tc : Thread Cert.FfnNextRefIdeal.nD Cert.FfnNextRefIdeal.τ).loc Cert.FfnNextRefIdeal.main_arg5) = m ((c.tc : Thread Cert.FfnNextRefIdeal.nD Cert.FfnNextRefIdeal.τ).loc Cert.FfnNextRefIdeal.main_arg5))
      ∧ r.2.sem = fun _ => 0)

def quiescent_OutGdn [hOutGdn : Cert.OutGdn.Facts] : Prop :=
  ∀ (m : (ℓ : Loc Cert.OutGdn.nD Cert.OutGdn.τ Cert.OutGdn.sig) → Buf (Elt Bits) ℓ) (g : Dev Cert.OutGdn.nD → PrngReg), Pre_OutGdn m →
    θ_run (Cert.OutGdn.defs (F := Bits)) (onTc (τ := Cert.OutGdn.τ) (Cert.OutGdn.main (F := Bits))) ⟨m, fun _ => 0, g⟩ (fun r => (∀ c : Dev Cert.OutGdn.nD,
      r.2.mem ((c.tc : Thread Cert.OutGdn.nD Cert.OutGdn.τ).loc Cert.OutGdn.main_arg0) = m ((c.tc : Thread Cert.OutGdn.nD Cert.OutGdn.τ).loc Cert.OutGdn.main_arg0)
      ∧ r.2.mem ((c.tc : Thread Cert.OutGdn.nD Cert.OutGdn.τ).loc Cert.OutGdn.main_arg1) = m ((c.tc : Thread Cert.OutGdn.nD Cert.OutGdn.τ).loc Cert.OutGdn.main_arg1)
      ∧ r.2.mem ((c.tc : Thread Cert.OutGdn.nD Cert.OutGdn.τ).loc Cert.OutGdn.main_arg2) = m ((c.tc : Thread Cert.OutGdn.nD Cert.OutGdn.τ).loc Cert.OutGdn.main_arg2))
      ∧ r.2.sem = fun _ => 0)

def quiescent_OutGdnIdeal [hOutGdnIdeal : Cert.OutGdnIdeal.Facts] : Prop :=
  ∀ (m : (ℓ : Loc Cert.OutGdnIdeal.nD Cert.OutGdnIdeal.τ Cert.OutGdnIdeal.sig) → Buf (Elt Ideal) ℓ) (g : Dev Cert.OutGdnIdeal.nD → PrngReg), Pre_OutGdnIdeal m →
    θ_run (Cert.OutGdnIdeal.defs (F := Ideal)) (onTc (τ := Cert.OutGdnIdeal.τ) (Cert.OutGdnIdeal.main (F := Ideal))) ⟨m, fun _ => 0, g⟩ (fun r => (∀ c : Dev Cert.OutGdnIdeal.nD,
      r.2.mem ((c.tc : Thread Cert.OutGdnIdeal.nD Cert.OutGdnIdeal.τ).loc Cert.OutGdnIdeal.main_arg0) = m ((c.tc : Thread Cert.OutGdnIdeal.nD Cert.OutGdnIdeal.τ).loc Cert.OutGdnIdeal.main_arg0)
      ∧ r.2.mem ((c.tc : Thread Cert.OutGdnIdeal.nD Cert.OutGdnIdeal.τ).loc Cert.OutGdnIdeal.main_arg1) = m ((c.tc : Thread Cert.OutGdnIdeal.nD Cert.OutGdnIdeal.τ).loc Cert.OutGdnIdeal.main_arg1)
      ∧ r.2.mem ((c.tc : Thread Cert.OutGdnIdeal.nD Cert.OutGdnIdeal.τ).loc Cert.OutGdnIdeal.main_arg2) = m ((c.tc : Thread Cert.OutGdnIdeal.nD Cert.OutGdnIdeal.τ).loc Cert.OutGdnIdeal.main_arg2))
      ∧ r.2.sem = fun _ => 0)

def quiescent_OutGdnRefIdeal [hOutGdnRefIdeal : Cert.OutGdnRefIdeal.Facts] : Prop :=
  ∀ (m : (ℓ : Loc Cert.OutGdnRefIdeal.nD Cert.OutGdnRefIdeal.τ Cert.OutGdnRefIdeal.sig) → Buf (Elt Ideal) ℓ) (g : Dev Cert.OutGdnRefIdeal.nD → PrngReg), Pre_OutGdnRefIdeal m →
    θ_run (Cert.OutGdnRefIdeal.defs (F := Ideal)) (onTc (τ := Cert.OutGdnRefIdeal.τ) (Cert.OutGdnRefIdeal.main (F := Ideal))) ⟨m, fun _ => 0, g⟩ (fun r => (∀ c : Dev Cert.OutGdnRefIdeal.nD,
      r.2.mem ((c.tc : Thread Cert.OutGdnRefIdeal.nD Cert.OutGdnRefIdeal.τ).loc Cert.OutGdnRefIdeal.main_arg0) = m ((c.tc : Thread Cert.OutGdnRefIdeal.nD Cert.OutGdnRefIdeal.τ).loc Cert.OutGdnRefIdeal.main_arg0)
      ∧ r.2.mem ((c.tc : Thread Cert.OutGdnRefIdeal.nD Cert.OutGdnRefIdeal.τ).loc Cert.OutGdnRefIdeal.main_arg1) = m ((c.tc : Thread Cert.OutGdnRefIdeal.nD Cert.OutGdnRefIdeal.τ).loc Cert.OutGdnRefIdeal.main_arg1)
      ∧ r.2.mem ((c.tc : Thread Cert.OutGdnRefIdeal.nD Cert.OutGdnRefIdeal.τ).loc Cert.OutGdnRefIdeal.main_arg2) = m ((c.tc : Thread Cert.OutGdnRefIdeal.nD Cert.OutGdnRefIdeal.τ).loc Cert.OutGdnRefIdeal.main_arg2))
      ∧ r.2.sem = fun _ => 0)

def quiescent_OutAttn [hOutAttn : Cert.OutAttn.Facts] : Prop :=
  ∀ (m : (ℓ : Loc Cert.OutAttn.nD Cert.OutAttn.τ Cert.OutAttn.sig) → Buf (Elt Bits) ℓ) (g : Dev Cert.OutAttn.nD → PrngReg), Pre_OutAttn m →
    θ_run (Cert.OutAttn.defs (F := Bits)) (onTc (τ := Cert.OutAttn.τ) (Cert.OutAttn.main (F := Bits))) ⟨m, fun _ => 0, g⟩ (fun r => (∀ c : Dev Cert.OutAttn.nD,
      r.2.mem ((c.tc : Thread Cert.OutAttn.nD Cert.OutAttn.τ).loc Cert.OutAttn.main_arg0) = m ((c.tc : Thread Cert.OutAttn.nD Cert.OutAttn.τ).loc Cert.OutAttn.main_arg0)
      ∧ r.2.mem ((c.tc : Thread Cert.OutAttn.nD Cert.OutAttn.τ).loc Cert.OutAttn.main_arg1) = m ((c.tc : Thread Cert.OutAttn.nD Cert.OutAttn.τ).loc Cert.OutAttn.main_arg1)
      ∧ r.2.mem ((c.tc : Thread Cert.OutAttn.nD Cert.OutAttn.τ).loc Cert.OutAttn.main_arg2) = m ((c.tc : Thread Cert.OutAttn.nD Cert.OutAttn.τ).loc Cert.OutAttn.main_arg2))
      ∧ r.2.sem = fun _ => 0)

def quiescent_OutAttnIdeal [hOutAttnIdeal : Cert.OutAttnIdeal.Facts] : Prop :=
  ∀ (m : (ℓ : Loc Cert.OutAttnIdeal.nD Cert.OutAttnIdeal.τ Cert.OutAttnIdeal.sig) → Buf (Elt Ideal) ℓ) (g : Dev Cert.OutAttnIdeal.nD → PrngReg), Pre_OutAttnIdeal m →
    θ_run (Cert.OutAttnIdeal.defs (F := Ideal)) (onTc (τ := Cert.OutAttnIdeal.τ) (Cert.OutAttnIdeal.main (F := Ideal))) ⟨m, fun _ => 0, g⟩ (fun r => (∀ c : Dev Cert.OutAttnIdeal.nD,
      r.2.mem ((c.tc : Thread Cert.OutAttnIdeal.nD Cert.OutAttnIdeal.τ).loc Cert.OutAttnIdeal.main_arg0) = m ((c.tc : Thread Cert.OutAttnIdeal.nD Cert.OutAttnIdeal.τ).loc Cert.OutAttnIdeal.main_arg0)
      ∧ r.2.mem ((c.tc : Thread Cert.OutAttnIdeal.nD Cert.OutAttnIdeal.τ).loc Cert.OutAttnIdeal.main_arg1) = m ((c.tc : Thread Cert.OutAttnIdeal.nD Cert.OutAttnIdeal.τ).loc Cert.OutAttnIdeal.main_arg1)
      ∧ r.2.mem ((c.tc : Thread Cert.OutAttnIdeal.nD Cert.OutAttnIdeal.τ).loc Cert.OutAttnIdeal.main_arg2) = m ((c.tc : Thread Cert.OutAttnIdeal.nD Cert.OutAttnIdeal.τ).loc Cert.OutAttnIdeal.main_arg2))
      ∧ r.2.sem = fun _ => 0)

def quiescent_OutAttnRefIdeal [hOutAttnRefIdeal : Cert.OutAttnRefIdeal.Facts] : Prop :=
  ∀ (m : (ℓ : Loc Cert.OutAttnRefIdeal.nD Cert.OutAttnRefIdeal.τ Cert.OutAttnRefIdeal.sig) → Buf (Elt Ideal) ℓ) (g : Dev Cert.OutAttnRefIdeal.nD → PrngReg), Pre_OutAttnRefIdeal m →
    θ_run (Cert.OutAttnRefIdeal.defs (F := Ideal)) (onTc (τ := Cert.OutAttnRefIdeal.τ) (Cert.OutAttnRefIdeal.main (F := Ideal))) ⟨m, fun _ => 0, g⟩ (fun r => (∀ c : Dev Cert.OutAttnRefIdeal.nD,
      r.2.mem ((c.tc : Thread Cert.OutAttnRefIdeal.nD Cert.OutAttnRefIdeal.τ).loc Cert.OutAttnRefIdeal.main_arg0) = m ((c.tc : Thread Cert.OutAttnRefIdeal.nD Cert.OutAttnRefIdeal.τ).loc Cert.OutAttnRefIdeal.main_arg0)
      ∧ r.2.mem ((c.tc : Thread Cert.OutAttnRefIdeal.nD Cert.OutAttnRefIdeal.τ).loc Cert.OutAttnRefIdeal.main_arg1) = m ((c.tc : Thread Cert.OutAttnRefIdeal.nD Cert.OutAttnRefIdeal.τ).loc Cert.OutAttnRefIdeal.main_arg1)
      ∧ r.2.mem ((c.tc : Thread Cert.OutAttnRefIdeal.nD Cert.OutAttnRefIdeal.τ).loc Cert.OutAttnRefIdeal.main_arg2) = m ((c.tc : Thread Cert.OutAttnRefIdeal.nD Cert.OutAttnRefIdeal.τ).loc Cert.OutAttnRefIdeal.main_arg2))
      ∧ r.2.sem = fun _ => 0)

def quiescent_ProjConv [hProjConv : Cert.ProjConv.Facts] : Prop :=
  ∀ (m : (ℓ : Loc Cert.ProjConv.nD Cert.ProjConv.τ Cert.ProjConv.sig) → Buf (Elt Bits) ℓ) (g : Dev Cert.ProjConv.nD → PrngReg), Pre_ProjConv m →
    θ_run (Cert.ProjConv.defs (F := Bits)) (onTc (τ := Cert.ProjConv.τ) (Cert.ProjConv.main (F := Bits))) ⟨m, fun _ => 0, g⟩ (fun r => (∀ c : Dev Cert.ProjConv.nD,
      r.2.mem ((c.tc : Thread Cert.ProjConv.nD Cert.ProjConv.τ).loc Cert.ProjConv.main_arg0) = m ((c.tc : Thread Cert.ProjConv.nD Cert.ProjConv.τ).loc Cert.ProjConv.main_arg0)
      ∧ r.2.mem ((c.tc : Thread Cert.ProjConv.nD Cert.ProjConv.τ).loc Cert.ProjConv.main_arg1) = m ((c.tc : Thread Cert.ProjConv.nD Cert.ProjConv.τ).loc Cert.ProjConv.main_arg1)
      ∧ r.2.mem ((c.tc : Thread Cert.ProjConv.nD Cert.ProjConv.τ).loc Cert.ProjConv.main_arg2) = m ((c.tc : Thread Cert.ProjConv.nD Cert.ProjConv.τ).loc Cert.ProjConv.main_arg2))
      ∧ r.2.sem = fun _ => 0)

def quiescent_ProjConvIdeal [hProjConvIdeal : Cert.ProjConvIdeal.Facts] : Prop :=
  ∀ (m : (ℓ : Loc Cert.ProjConvIdeal.nD Cert.ProjConvIdeal.τ Cert.ProjConvIdeal.sig) → Buf (Elt Ideal) ℓ) (g : Dev Cert.ProjConvIdeal.nD → PrngReg), Pre_ProjConvIdeal m →
    θ_run (Cert.ProjConvIdeal.defs (F := Ideal)) (onTc (τ := Cert.ProjConvIdeal.τ) (Cert.ProjConvIdeal.main (F := Ideal))) ⟨m, fun _ => 0, g⟩ (fun r => (∀ c : Dev Cert.ProjConvIdeal.nD,
      r.2.mem ((c.tc : Thread Cert.ProjConvIdeal.nD Cert.ProjConvIdeal.τ).loc Cert.ProjConvIdeal.main_arg0) = m ((c.tc : Thread Cert.ProjConvIdeal.nD Cert.ProjConvIdeal.τ).loc Cert.ProjConvIdeal.main_arg0)
      ∧ r.2.mem ((c.tc : Thread Cert.ProjConvIdeal.nD Cert.ProjConvIdeal.τ).loc Cert.ProjConvIdeal.main_arg1) = m ((c.tc : Thread Cert.ProjConvIdeal.nD Cert.ProjConvIdeal.τ).loc Cert.ProjConvIdeal.main_arg1)
      ∧ r.2.mem ((c.tc : Thread Cert.ProjConvIdeal.nD Cert.ProjConvIdeal.τ).loc Cert.ProjConvIdeal.main_arg2) = m ((c.tc : Thread Cert.ProjConvIdeal.nD Cert.ProjConvIdeal.τ).loc Cert.ProjConvIdeal.main_arg2))
      ∧ r.2.sem = fun _ => 0)

def quiescent_ProjConvRefIdeal [hProjConvRefIdeal : Cert.ProjConvRefIdeal.Facts] : Prop :=
  ∀ (m : (ℓ : Loc Cert.ProjConvRefIdeal.nD Cert.ProjConvRefIdeal.τ Cert.ProjConvRefIdeal.sig) → Buf (Elt Ideal) ℓ) (g : Dev Cert.ProjConvRefIdeal.nD → PrngReg), Pre_ProjConvRefIdeal m →
    θ_run (Cert.ProjConvRefIdeal.defs (F := Ideal)) (onTc (τ := Cert.ProjConvRefIdeal.τ) (Cert.ProjConvRefIdeal.main (F := Ideal))) ⟨m, fun _ => 0, g⟩ (fun r => (∀ c : Dev Cert.ProjConvRefIdeal.nD,
      r.2.mem ((c.tc : Thread Cert.ProjConvRefIdeal.nD Cert.ProjConvRefIdeal.τ).loc Cert.ProjConvRefIdeal.main_arg0) = m ((c.tc : Thread Cert.ProjConvRefIdeal.nD Cert.ProjConvRefIdeal.τ).loc Cert.ProjConvRefIdeal.main_arg0)
      ∧ r.2.mem ((c.tc : Thread Cert.ProjConvRefIdeal.nD Cert.ProjConvRefIdeal.τ).loc Cert.ProjConvRefIdeal.main_arg1) = m ((c.tc : Thread Cert.ProjConvRefIdeal.nD Cert.ProjConvRefIdeal.τ).loc Cert.ProjConvRefIdeal.main_arg1)
      ∧ r.2.mem ((c.tc : Thread Cert.ProjConvRefIdeal.nD Cert.ProjConvRefIdeal.τ).loc Cert.ProjConvRefIdeal.main_arg2) = m ((c.tc : Thread Cert.ProjConvRefIdeal.nD Cert.ProjConvRefIdeal.τ).loc Cert.ProjConvRefIdeal.main_arg2))
      ∧ r.2.sem = fun _ => 0)

def quiescent_ProjRope [hProjRope : Cert.ProjRope.Facts] : Prop :=
  ∀ (m : (ℓ : Loc Cert.ProjRope.nD Cert.ProjRope.τ Cert.ProjRope.sig) → Buf (Elt Bits) ℓ) (g : Dev Cert.ProjRope.nD → PrngReg), Pre_ProjRope m →
    θ_run (Cert.ProjRope.defs (F := Bits)) (onTc (τ := Cert.ProjRope.τ) (Cert.ProjRope.main (F := Bits))) ⟨m, fun _ => 0, g⟩ (fun r => (∀ c : Dev Cert.ProjRope.nD,
      r.2.mem ((c.tc : Thread Cert.ProjRope.nD Cert.ProjRope.τ).loc Cert.ProjRope.main_arg0) = m ((c.tc : Thread Cert.ProjRope.nD Cert.ProjRope.τ).loc Cert.ProjRope.main_arg0)
      ∧ r.2.mem ((c.tc : Thread Cert.ProjRope.nD Cert.ProjRope.τ).loc Cert.ProjRope.main_arg1) = m ((c.tc : Thread Cert.ProjRope.nD Cert.ProjRope.τ).loc Cert.ProjRope.main_arg1))
      ∧ r.2.sem = fun _ => 0)

def quiescent_ProjRopeIdeal [hProjRopeIdeal : Cert.ProjRopeIdeal.Facts] : Prop :=
  ∀ (m : (ℓ : Loc Cert.ProjRopeIdeal.nD Cert.ProjRopeIdeal.τ Cert.ProjRopeIdeal.sig) → Buf (Elt Ideal) ℓ) (g : Dev Cert.ProjRopeIdeal.nD → PrngReg), Pre_ProjRopeIdeal m →
    θ_run (Cert.ProjRopeIdeal.defs (F := Ideal)) (onTc (τ := Cert.ProjRopeIdeal.τ) (Cert.ProjRopeIdeal.main (F := Ideal))) ⟨m, fun _ => 0, g⟩ (fun r => (∀ c : Dev Cert.ProjRopeIdeal.nD,
      r.2.mem ((c.tc : Thread Cert.ProjRopeIdeal.nD Cert.ProjRopeIdeal.τ).loc Cert.ProjRopeIdeal.main_arg0) = m ((c.tc : Thread Cert.ProjRopeIdeal.nD Cert.ProjRopeIdeal.τ).loc Cert.ProjRopeIdeal.main_arg0)
      ∧ r.2.mem ((c.tc : Thread Cert.ProjRopeIdeal.nD Cert.ProjRopeIdeal.τ).loc Cert.ProjRopeIdeal.main_arg1) = m ((c.tc : Thread Cert.ProjRopeIdeal.nD Cert.ProjRopeIdeal.τ).loc Cert.ProjRopeIdeal.main_arg1))
      ∧ r.2.sem = fun _ => 0)

def quiescent_ProjRopeRefIdeal [hProjRopeRefIdeal : Cert.ProjRopeRefIdeal.Facts] : Prop :=
  ∀ (m : (ℓ : Loc Cert.ProjRopeRefIdeal.nD Cert.ProjRopeRefIdeal.τ Cert.ProjRopeRefIdeal.sig) → Buf (Elt Ideal) ℓ) (g : Dev Cert.ProjRopeRefIdeal.nD → PrngReg), Pre_ProjRopeRefIdeal m →
    θ_run (Cert.ProjRopeRefIdeal.defs (F := Ideal)) (onTc (τ := Cert.ProjRopeRefIdeal.τ) (Cert.ProjRopeRefIdeal.main (F := Ideal))) ⟨m, fun _ => 0, g⟩ (fun r => (∀ c : Dev Cert.ProjRopeRefIdeal.nD,
      r.2.mem ((c.tc : Thread Cert.ProjRopeRefIdeal.nD Cert.ProjRopeRefIdeal.τ).loc Cert.ProjRopeRefIdeal.main_arg0) = m ((c.tc : Thread Cert.ProjRopeRefIdeal.nD Cert.ProjRopeRefIdeal.τ).loc Cert.ProjRopeRefIdeal.main_arg0)
      ∧ r.2.mem ((c.tc : Thread Cert.ProjRopeRefIdeal.nD Cert.ProjRopeRefIdeal.τ).loc Cert.ProjRopeRefIdeal.main_arg1) = m ((c.tc : Thread Cert.ProjRopeRefIdeal.nD Cert.ProjRopeRefIdeal.τ).loc Cert.ProjRopeRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_attn_finite [hKernelIdeal : Cert.KernelIdeal.Facts] [hReferenceIdeal : Cert.ReferenceIdeal.Facts] [hPre_attn_finite : Cert.Pre_attn_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attn_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnFinal_FfnFinalIdeal : Prop :=
  True

def algebraic_FfnFinalIdeal_FfnFinalRefIdeal [hFfnFinalIdeal : Cert.FfnFinalIdeal.Facts] [hFfnFinalRefIdeal : Cert.FfnFinalRefIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.FfnFinalRefIdeal.nD Cert.FfnFinalRefIdeal.τ Cert.FfnFinalRefIdeal.sig) → Buf (Elt Ideal) ℓ) (g' : Dev Cert.FfnFinalRefIdeal.nD → PrngReg), Pre_FfnFinalIdeal m →
    (∀ c : Dev Cert.FfnFinalIdeal.nD,
      m' ((c.tc : Thread Cert.FfnFinalRefIdeal.nD Cert.FfnFinalRefIdeal.τ).loc Cert.FfnFinalRefIdeal.main_arg0) = m ((c.tc : Thread Cert.FfnFinalIdeal.nD Cert.FfnFinalIdeal.τ).loc Cert.FfnFinalIdeal.main_arg0)
      ∧ m' ((c.tc : Thread Cert.FfnFinalRefIdeal.nD Cert.FfnFinalRefIdeal.τ).loc Cert.FfnFinalRefIdeal.main_arg1) = m ((c.tc : Thread Cert.FfnFinalIdeal.nD Cert.FfnFinalIdeal.τ).loc Cert.FfnFinalIdeal.main_arg1)
      ∧ m' ((c.tc : Thread Cert.FfnFinalRefIdeal.nD Cert.FfnFinalRefIdeal.τ).loc Cert.FfnFinalRefIdeal.main_arg2) = m ((c.tc : Thread Cert.FfnFinalIdeal.nD Cert.FfnFinalIdeal.τ).loc Cert.FfnFinalIdeal.main_arg2)
      ∧ m' ((c.tc : Thread Cert.FfnFinalRefIdeal.nD Cert.FfnFinalRefIdeal.τ).loc Cert.FfnFinalRefIdeal.main_arg3) = m ((c.tc : Thread Cert.FfnFinalIdeal.nD Cert.FfnFinalIdeal.τ).loc Cert.FfnFinalIdeal.main_arg3)
      ∧ m' ((c.tc : Thread Cert.FfnFinalRefIdeal.nD Cert.FfnFinalRefIdeal.τ).loc Cert.FfnFinalRefIdeal.main_arg4) = m ((c.tc : Thread Cert.FfnFinalIdeal.nD Cert.FfnFinalIdeal.τ).loc Cert.FfnFinalIdeal.main_arg4)
      ∧ m' ((c.tc : Thread Cert.FfnFinalRefIdeal.nD Cert.FfnFinalRefIdeal.τ).loc Cert.FfnFinalRefIdeal.main_arg5) = m ((c.tc : Thread Cert.FfnFinalIdeal.nD Cert.FfnFinalIdeal.τ).loc Cert.FfnFinalIdeal.main_arg5)) →
    ∃ (v0 : (c : Dev Cert.FfnFinalIdeal.nD) → Buf (Elt Ideal) ((c.tc : Thread Cert.FfnFinalIdeal.nD Cert.FfnFinalIdeal.τ).loc Cert.FfnFinalIdeal.main_v2)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v2) = v0 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
          ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ θ_run (Cert.FfnFinalRefIdeal.defs (F := Ideal)) (onTc (τ := Cert.FfnFinalRefIdeal.τ) (Cert.FfnFinalRefIdeal.main (F := Ideal))) ⟨m', fun _ => 0, g'⟩ (fun r => ∀ c : Dev Cert.FfnFinalRefIdeal.nD,
          r.2.mem ((c.tc : Thread Cert.FfnFinalRefIdeal.nD Cert.FfnFinalRefIdeal.τ).loc Cert.FfnFinalRefIdeal.main_v39) = v0 c
          ∧ r.2.mem ((c.tc : Thread Cert.FfnFinalRefIdeal.nD Cert.FfnFinalRefIdeal.τ).loc Cert.FfnFinalRefIdeal.main_arg0) = m' ((c.tc : Thread Cert.FfnFinalRefIdeal.nD Cert.FfnFinalRefIdeal.τ).loc Cert.FfnFinalRefIdeal.main_arg0)
          ∧ r.2.mem ((c.tc : Thread Cert.FfnFinalRefIdeal.nD Cert.FfnFinalRefIdeal.τ).loc Cert.FfnFinalRefIdeal.main_arg1) = m' ((c.tc : Thread Cert.FfnFinalRefIdeal.nD Cert.FfnFinalRefIdeal.τ).loc Cert.FfnFinalRefIdeal.main_arg1)
          ∧ r.2.mem ((c.tc : Thread Cert.FfnFinalRefIdeal.nD Cert.FfnFinalRefIdeal.τ).loc Cert.FfnFinalRefIdeal.main_arg2) = m' ((c.tc : Thread Cert.FfnFinalRefIdeal.nD Cert.FfnFinalRefIdeal.τ).loc Cert.FfnFinalRefIdeal.main_arg2)
          ∧ r.2.mem ((c.tc : Thread Cert.FfnFinalRefIdeal.nD Cert.FfnFinalRefIdeal.τ).loc Cert.FfnFinalRefIdeal.main_arg3) = m' ((c.tc : Thread Cert.FfnFinalRefIdeal.nD Cert.FfnFinalRefIdeal.τ).loc Cert.FfnFinalRefIdeal.main_arg3)
          ∧ r.2.mem ((c.tc : Thread Cert.FfnFinalRefIdeal.nD Cert.FfnFinalRefIdeal.τ).loc Cert.FfnFinalRefIdeal.main_arg4) = m' ((c.tc : Thread Cert.FfnFinalRefIdeal.nD Cert.FfnFinalRefIdeal.τ).loc Cert.FfnFinalRefIdeal.main_arg4)
          ∧ r.2.mem ((c.tc : Thread Cert.FfnFinalRefIdeal.nD Cert.FfnFinalRefIdeal.τ).loc Cert.FfnFinalRefIdeal.main_arg5) = m' ((c.tc : Thread Cert.FfnFinalRefIdeal.nD Cert.FfnFinalRefIdeal.τ).loc Cert.FfnFinalRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v26) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnNext_FfnNextIdeal : Prop :=
  True

def algebraic_FfnNextIdeal_FfnNextRefIdeal [hFfnNextIdeal : Cert.FfnNextIdeal.Facts] [hFfnNextRefIdeal : Cert.FfnNextRefIdeal.Facts] : Prop :=
  ∀ (m : (ℓ : Loc Cert.FfnNextIdeal.nD Cert.FfnNextIdeal.τ Cert.FfnNextIdeal.sig) → Buf (Elt Ideal) ℓ) (g : Dev Cert.FfnNextIdeal.nD → PrngReg)
    (m' : (ℓ : Loc Cert.FfnNextRefIdeal.nD Cert.FfnNextRefIdeal.τ Cert.FfnNextRefIdeal.sig) → Buf (Elt Ideal) ℓ) (g' : Dev Cert.FfnNextRefIdeal.nD → PrngReg), Pre_FfnNextIdeal m →
    (∀ c : Dev Cert.FfnNextIdeal.nD,
      m' ((c.tc : Thread Cert.FfnNextRefIdeal.nD Cert.FfnNextRefIdeal.τ).loc Cert.FfnNextRefIdeal.main_arg0) = m ((c.tc : Thread Cert.FfnNextIdeal.nD Cert.FfnNextIdeal.τ).loc Cert.FfnNextIdeal.main_arg0)
      ∧ m' ((c.tc : Thread Cert.FfnNextRefIdeal.nD Cert.FfnNextRefIdeal.τ).loc Cert.FfnNextRefIdeal.main_arg1) = m ((c.tc : Thread Cert.FfnNextIdeal.nD Cert.FfnNextIdeal.τ).loc Cert.FfnNextIdeal.main_arg1)
      ∧ m' ((c.tc : Thread Cert.FfnNextRefIdeal.nD Cert.FfnNextRefIdeal.τ).loc Cert.FfnNextRefIdeal.main_arg2) = m ((c.tc : Thread Cert.FfnNextIdeal.nD Cert.FfnNextIdeal.τ).loc Cert.FfnNextIdeal.main_arg2)
      ∧ m' ((c.tc : Thread Cert.FfnNextRefIdeal.nD Cert.FfnNextRefIdeal.τ).loc Cert.FfnNextRefIdeal.main_arg3) = m ((c.tc : Thread Cert.FfnNextIdeal.nD Cert.FfnNextIdeal.τ).loc Cert.FfnNextIdeal.main_arg3)
      ∧ m' ((c.tc : Thread Cert.FfnNextRefIdeal.nD Cert.FfnNextRefIdeal.τ).loc Cert.FfnNextRefIdeal.main_arg4) = m ((c.tc : Thread Cert.FfnNextIdeal.nD Cert.FfnNextIdeal.τ).loc Cert.FfnNextIdeal.main_arg4)
      ∧ m' ((c.tc : Thread Cert.FfnNextRefIdeal.nD Cert.FfnNextRefIdeal.τ).loc Cert.FfnNextRefIdeal.main_arg5) = m ((c.tc : Thread Cert.FfnNextIdeal.nD Cert.FfnNextIdeal.τ).loc Cert.FfnNextIdeal.main_arg5)) →
    ∃ (v0 : (c : Dev Cert.FfnNextIdeal.nD) → Buf (Elt Ideal) ((c.tc : Thread Cert.FfnNextIdeal.nD Cert.FfnNextIdeal.τ).loc Cert.FfnNextIdeal.main_v2_0)) (v1 : (c : Dev Cert.FfnNextIdeal.nD) → Buf (Elt Ideal) ((c.tc : Thread Cert.FfnNextIdeal.nD Cert.FfnNextIdeal.τ).loc Cert.FfnNextIdeal.main_v2_1)),
      θ_run (Cert.FfnNextIdeal.defs (F := Ideal)) (onTc (τ := Cert.FfnNextIdeal.τ) (Cert.FfnNextIdeal.main (F := Ideal))) ⟨m, fun _ => 0, g⟩ (fun r => ∀ c : Dev Cert.FfnNextIdeal.nD,
          r.2.mem ((c.tc : Thread Cert.FfnNextIdeal.nD Cert.FfnNextIdeal.τ).loc Cert.FfnNextIdeal.main_v2_0) = v0 c
          ∧ r.2.mem ((c.tc : Thread Cert.FfnNextIdeal.nD Cert.FfnNextIdeal.τ).loc Cert.FfnNextIdeal.main_v2_1) = v1 c
          ∧ r.2.mem ((c.tc : Thread Cert.FfnNextIdeal.nD Cert.FfnNextIdeal.τ).loc Cert.FfnNextIdeal.main_arg0) = m ((c.tc : Thread Cert.FfnNextIdeal.nD Cert.FfnNextIdeal.τ).loc Cert.FfnNextIdeal.main_arg0)
          ∧ r.2.mem ((c.tc : Thread Cert.FfnNextIdeal.nD Cert.FfnNextIdeal.τ).loc Cert.FfnNextIdeal.main_arg1) = m ((c.tc : Thread Cert.FfnNextIdeal.nD Cert.FfnNextIdeal.τ).loc Cert.FfnNextIdeal.main_arg1)
          ∧ r.2.mem ((c.tc : Thread Cert.FfnNextIdeal.nD Cert.FfnNextIdeal.τ).loc Cert.FfnNextIdeal.main_arg2) = m ((c.tc : Thread Cert.FfnNextIdeal.nD Cert.FfnNextIdeal.τ).loc Cert.FfnNextIdeal.main_arg2)
          ∧ r.2.mem ((c.tc : Thread Cert.FfnNextIdeal.nD Cert.FfnNextIdeal.τ).loc Cert.FfnNextIdeal.main_arg3) = m ((c.tc : Thread Cert.FfnNextIdeal.nD Cert.FfnNextIdeal.τ).loc Cert.FfnNextIdeal.main_arg3)
          ∧ r.2.mem ((c.tc : Thread Cert.FfnNextIdeal.nD Cert.FfnNextIdeal.τ).loc Cert.FfnNextIdeal.main_arg4) = m ((c.tc : Thread Cert.FfnNextIdeal.nD Cert.FfnNextIdeal.τ).loc Cert.FfnNextIdeal.main_arg4)
          ∧ r.2.mem ((c.tc : Thread Cert.FfnNextIdeal.nD Cert.FfnNextIdeal.τ).loc Cert.FfnNextIdeal.main_arg5) = m ((c.tc : Thread Cert.FfnNextIdeal.nD Cert.FfnNextIdeal.τ).loc Cert.FfnNextIdeal.main_arg5))
      ∧ θ_run (Cert.FfnNextRefIdeal.defs (F := Ideal)) (onTc (τ := Cert.FfnNextRefIdeal.τ) (Cert.FfnNextRefIdeal.main (F := Ideal))) ⟨m', fun _ => 0, g'⟩ (fun r => ∀ c : Dev Cert.FfnNextRefIdeal.nD,
          r.2.mem ((c.tc : Thread Cert.FfnNextRefIdeal.nD Cert.FfnNextRefIdeal.τ).loc Cert.FfnNextRefIdeal.main_v26) = v0 c
          ∧ r.2.mem ((c.tc : Thread Cert.FfnNextRefIdeal.nD Cert.FfnNextRefIdeal.τ).loc Cert.FfnNextRefIdeal.main_v40) = v1 c
          ∧ r.2.mem ((c.tc : Thread Cert.FfnNextRefIdeal.nD Cert.FfnNextRefIdeal.τ).loc Cert.FfnNextRefIdeal.main_arg0) = m' ((c.tc : Thread Cert.FfnNextRefIdeal.nD Cert.FfnNextRefIdeal.τ).loc Cert.FfnNextRefIdeal.main_arg0)
          ∧ r.2.mem ((c.tc : Thread Cert.FfnNextRefIdeal.nD Cert.FfnNextRefIdeal.τ).loc Cert.FfnNextRefIdeal.main_arg1) = m' ((c.tc : Thread Cert.FfnNextRefIdeal.nD Cert.FfnNextRefIdeal.τ).loc Cert.FfnNextRefIdeal.main_arg1)
          ∧ r.2.mem ((c.tc : Thread Cert.FfnNextRefIdeal.nD Cert.FfnNextRefIdeal.τ).loc Cert.FfnNextRefIdeal.main_arg2) = m' ((c.tc : Thread Cert.FfnNextRefIdeal.nD Cert.FfnNextRefIdeal.τ).loc Cert.FfnNextRefIdeal.main_arg2)
          ∧ r.2.mem ((c.tc : Thread Cert.FfnNextRefIdeal.nD Cert.FfnNextRefIdeal.τ).loc Cert.FfnNextRefIdeal.main_arg3) = m' ((c.tc : Thread Cert.FfnNextRefIdeal.nD Cert.FfnNextRefIdeal.τ).loc Cert.FfnNextRefIdeal.main_arg3)
          ∧ r.2.mem ((c.tc : Thread Cert.FfnNextRefIdeal.nD Cert.FfnNextRefIdeal.τ).loc Cert.FfnNextRefIdeal.main_arg4) = m' ((c.tc : Thread Cert.FfnNextRefIdeal.nD Cert.FfnNextRefIdeal.τ).loc Cert.FfnNextRefIdeal.main_arg4)
          ∧ r.2.mem ((c.tc : Thread Cert.FfnNextRefIdeal.nD Cert.FfnNextRefIdeal.τ).loc Cert.FfnNextRefIdeal.main_arg5) = m' ((c.tc : Thread Cert.FfnNextRefIdeal.nD Cert.FfnNextRefIdeal.τ).loc Cert.FfnNextRefIdeal.main_arg5))

def preserves_OutGdn_OutGdnIdeal : Prop :=
  True

def algebraic_OutGdnIdeal_OutGdnRefIdeal [hOutGdnIdeal : Cert.OutGdnIdeal.Facts] [hOutGdnRefIdeal : Cert.OutGdnRefIdeal.Facts] : Prop :=
  ∀ (m : (ℓ : Loc Cert.OutGdnIdeal.nD Cert.OutGdnIdeal.τ Cert.OutGdnIdeal.sig) → Buf (Elt Ideal) ℓ) (g : Dev Cert.OutGdnIdeal.nD → PrngReg)
    (m' : (ℓ : Loc Cert.OutGdnRefIdeal.nD Cert.OutGdnRefIdeal.τ Cert.OutGdnRefIdeal.sig) → Buf (Elt Ideal) ℓ) (g' : Dev Cert.OutGdnRefIdeal.nD → PrngReg), Pre_OutGdnIdeal m →
    (∀ c : Dev Cert.OutGdnIdeal.nD,
      m' ((c.tc : Thread Cert.OutGdnRefIdeal.nD Cert.OutGdnRefIdeal.τ).loc Cert.OutGdnRefIdeal.main_arg0) = m ((c.tc : Thread Cert.OutGdnIdeal.nD Cert.OutGdnIdeal.τ).loc Cert.OutGdnIdeal.main_arg0)
      ∧ m' ((c.tc : Thread Cert.OutGdnRefIdeal.nD Cert.OutGdnRefIdeal.τ).loc Cert.OutGdnRefIdeal.main_arg1) = m ((c.tc : Thread Cert.OutGdnIdeal.nD Cert.OutGdnIdeal.τ).loc Cert.OutGdnIdeal.main_arg1)
      ∧ m' ((c.tc : Thread Cert.OutGdnRefIdeal.nD Cert.OutGdnRefIdeal.τ).loc Cert.OutGdnRefIdeal.main_arg2) = m ((c.tc : Thread Cert.OutGdnIdeal.nD Cert.OutGdnIdeal.τ).loc Cert.OutGdnIdeal.main_arg2)) →
    ∃ (v0 : (c : Dev Cert.OutGdnIdeal.nD) → Buf (Elt Ideal) ((c.tc : Thread Cert.OutGdnIdeal.nD Cert.OutGdnIdeal.τ).loc Cert.OutGdnIdeal.main_v0)),
      θ_run (Cert.OutGdnIdeal.defs (F := Ideal)) (onTc (τ := Cert.OutGdnIdeal.τ) (Cert.OutGdnIdeal.main (F := Ideal))) ⟨m, fun _ => 0, g⟩ (fun r => ∀ c : Dev Cert.OutGdnIdeal.nD,
          r.2.mem ((c.tc : Thread Cert.OutGdnIdeal.nD Cert.OutGdnIdeal.τ).loc Cert.OutGdnIdeal.main_v0) = v0 c
          ∧ r.2.mem ((c.tc : Thread Cert.OutGdnIdeal.nD Cert.OutGdnIdeal.τ).loc Cert.OutGdnIdeal.main_arg0) = m ((c.tc : Thread Cert.OutGdnIdeal.nD Cert.OutGdnIdeal.τ).loc Cert.OutGdnIdeal.main_arg0)
          ∧ r.2.mem ((c.tc : Thread Cert.OutGdnIdeal.nD Cert.OutGdnIdeal.τ).loc Cert.OutGdnIdeal.main_arg1) = m ((c.tc : Thread Cert.OutGdnIdeal.nD Cert.OutGdnIdeal.τ).loc Cert.OutGdnIdeal.main_arg1)
          ∧ r.2.mem ((c.tc : Thread Cert.OutGdnIdeal.nD Cert.OutGdnIdeal.τ).loc Cert.OutGdnIdeal.main_arg2) = m ((c.tc : Thread Cert.OutGdnIdeal.nD Cert.OutGdnIdeal.τ).loc Cert.OutGdnIdeal.main_arg2))
      ∧ θ_run (Cert.OutGdnRefIdeal.defs (F := Ideal)) (onTc (τ := Cert.OutGdnRefIdeal.τ) (Cert.OutGdnRefIdeal.main (F := Ideal))) ⟨m', fun _ => 0, g'⟩ (fun r => ∀ c : Dev Cert.OutGdnRefIdeal.nD,
          r.2.mem ((c.tc : Thread Cert.OutGdnRefIdeal.nD Cert.OutGdnRefIdeal.τ).loc Cert.OutGdnRefIdeal.main_v3) = v0 c
          ∧ r.2.mem ((c.tc : Thread Cert.OutGdnRefIdeal.nD Cert.OutGdnRefIdeal.τ).loc Cert.OutGdnRefIdeal.main_arg0) = m' ((c.tc : Thread Cert.OutGdnRefIdeal.nD Cert.OutGdnRefIdeal.τ).loc Cert.OutGdnRefIdeal.main_arg0)
          ∧ r.2.mem ((c.tc : Thread Cert.OutGdnRefIdeal.nD Cert.OutGdnRefIdeal.τ).loc Cert.OutGdnRefIdeal.main_arg1) = m' ((c.tc : Thread Cert.OutGdnRefIdeal.nD Cert.OutGdnRefIdeal.τ).loc Cert.OutGdnRefIdeal.main_arg1)
          ∧ r.2.mem ((c.tc : Thread Cert.OutGdnRefIdeal.nD Cert.OutGdnRefIdeal.τ).loc Cert.OutGdnRefIdeal.main_arg2) = m' ((c.tc : Thread Cert.OutGdnRefIdeal.nD Cert.OutGdnRefIdeal.τ).loc Cert.OutGdnRefIdeal.main_arg2))

def preserves_OutAttn_OutAttnIdeal : Prop :=
  True

def algebraic_OutAttnIdeal_OutAttnRefIdeal [hOutAttnIdeal : Cert.OutAttnIdeal.Facts] [hOutAttnRefIdeal : Cert.OutAttnRefIdeal.Facts] : Prop :=
  ∀ (m : (ℓ : Loc Cert.OutAttnIdeal.nD Cert.OutAttnIdeal.τ Cert.OutAttnIdeal.sig) → Buf (Elt Ideal) ℓ) (g : Dev Cert.OutAttnIdeal.nD → PrngReg)
    (m' : (ℓ : Loc Cert.OutAttnRefIdeal.nD Cert.OutAttnRefIdeal.τ Cert.OutAttnRefIdeal.sig) → Buf (Elt Ideal) ℓ) (g' : Dev Cert.OutAttnRefIdeal.nD → PrngReg), Pre_OutAttnIdeal m →
    (∀ c : Dev Cert.OutAttnIdeal.nD,
      m' ((c.tc : Thread Cert.OutAttnRefIdeal.nD Cert.OutAttnRefIdeal.τ).loc Cert.OutAttnRefIdeal.main_arg0) = m ((c.tc : Thread Cert.OutAttnIdeal.nD Cert.OutAttnIdeal.τ).loc Cert.OutAttnIdeal.main_arg0)
      ∧ m' ((c.tc : Thread Cert.OutAttnRefIdeal.nD Cert.OutAttnRefIdeal.τ).loc Cert.OutAttnRefIdeal.main_arg1) = m ((c.tc : Thread Cert.OutAttnIdeal.nD Cert.OutAttnIdeal.τ).loc Cert.OutAttnIdeal.main_arg1)
      ∧ m' ((c.tc : Thread Cert.OutAttnRefIdeal.nD Cert.OutAttnRefIdeal.τ).loc Cert.OutAttnRefIdeal.main_arg2) = m ((c.tc : Thread Cert.OutAttnIdeal.nD Cert.OutAttnIdeal.τ).loc Cert.OutAttnIdeal.main_arg2)) →
    ∃ (v0 : (c : Dev Cert.OutAttnIdeal.nD) → Buf (Elt Ideal) ((c.tc : Thread Cert.OutAttnIdeal.nD Cert.OutAttnIdeal.τ).loc Cert.OutAttnIdeal.main_v0)),
      θ_run (Cert.OutAttnIdeal.defs (F := Ideal)) (onTc (τ := Cert.OutAttnIdeal.τ) (Cert.OutAttnIdeal.main (F := Ideal))) ⟨m, fun _ => 0, g⟩ (fun r => ∀ c : Dev Cert.OutAttnIdeal.nD,
          r.2.mem ((c.tc : Thread Cert.OutAttnIdeal.nD Cert.OutAttnIdeal.τ).loc Cert.OutAttnIdeal.main_v0) = v0 c
          ∧ r.2.mem ((c.tc : Thread Cert.OutAttnIdeal.nD Cert.OutAttnIdeal.τ).loc Cert.OutAttnIdeal.main_arg0) = m ((c.tc : Thread Cert.OutAttnIdeal.nD Cert.OutAttnIdeal.τ).loc Cert.OutAttnIdeal.main_arg0)
          ∧ r.2.mem ((c.tc : Thread Cert.OutAttnIdeal.nD Cert.OutAttnIdeal.τ).loc Cert.OutAttnIdeal.main_arg1) = m ((c.tc : Thread Cert.OutAttnIdeal.nD Cert.OutAttnIdeal.τ).loc Cert.OutAttnIdeal.main_arg1)
          ∧ r.2.mem ((c.tc : Thread Cert.OutAttnIdeal.nD Cert.OutAttnIdeal.τ).loc Cert.OutAttnIdeal.main_arg2) = m ((c.tc : Thread Cert.OutAttnIdeal.nD Cert.OutAttnIdeal.τ).loc Cert.OutAttnIdeal.main_arg2))
      ∧ θ_run (Cert.OutAttnRefIdeal.defs (F := Ideal)) (onTc (τ := Cert.OutAttnRefIdeal.τ) (Cert.OutAttnRefIdeal.main (F := Ideal))) ⟨m', fun _ => 0, g'⟩ (fun r => ∀ c : Dev Cert.OutAttnRefIdeal.nD,
          r.2.mem ((c.tc : Thread Cert.OutAttnRefIdeal.nD Cert.OutAttnRefIdeal.τ).loc Cert.OutAttnRefIdeal.main_v3) = v0 c
          ∧ r.2.mem ((c.tc : Thread Cert.OutAttnRefIdeal.nD Cert.OutAttnRefIdeal.τ).loc Cert.OutAttnRefIdeal.main_arg0) = m' ((c.tc : Thread Cert.OutAttnRefIdeal.nD Cert.OutAttnRefIdeal.τ).loc Cert.OutAttnRefIdeal.main_arg0)
          ∧ r.2.mem ((c.tc : Thread Cert.OutAttnRefIdeal.nD Cert.OutAttnRefIdeal.τ).loc Cert.OutAttnRefIdeal.main_arg1) = m' ((c.tc : Thread Cert.OutAttnRefIdeal.nD Cert.OutAttnRefIdeal.τ).loc Cert.OutAttnRefIdeal.main_arg1)
          ∧ r.2.mem ((c.tc : Thread Cert.OutAttnRefIdeal.nD Cert.OutAttnRefIdeal.τ).loc Cert.OutAttnRefIdeal.main_arg2) = m' ((c.tc : Thread Cert.OutAttnRefIdeal.nD Cert.OutAttnRefIdeal.τ).loc Cert.OutAttnRefIdeal.main_arg2))

def preserves_ProjConv_ProjConvIdeal : Prop :=
  True

def algebraic_ProjConvIdeal_ProjConvRefIdeal [hProjConvIdeal : Cert.ProjConvIdeal.Facts] [hProjConvRefIdeal : Cert.ProjConvRefIdeal.Facts] : Prop :=
  ∀ (m : (ℓ : Loc Cert.ProjConvIdeal.nD Cert.ProjConvIdeal.τ Cert.ProjConvIdeal.sig) → Buf (Elt Ideal) ℓ) (g : Dev Cert.ProjConvIdeal.nD → PrngReg)
    (m' : (ℓ : Loc Cert.ProjConvRefIdeal.nD Cert.ProjConvRefIdeal.τ Cert.ProjConvRefIdeal.sig) → Buf (Elt Ideal) ℓ) (g' : Dev Cert.ProjConvRefIdeal.nD → PrngReg), Pre_ProjConvIdeal m →
    (∀ c : Dev Cert.ProjConvIdeal.nD,
      m' ((c.tc : Thread Cert.ProjConvRefIdeal.nD Cert.ProjConvRefIdeal.τ).loc Cert.ProjConvRefIdeal.main_arg0) = m ((c.tc : Thread Cert.ProjConvIdeal.nD Cert.ProjConvIdeal.τ).loc Cert.ProjConvIdeal.main_arg0)
      ∧ m' ((c.tc : Thread Cert.ProjConvRefIdeal.nD Cert.ProjConvRefIdeal.τ).loc Cert.ProjConvRefIdeal.main_arg1) = m ((c.tc : Thread Cert.ProjConvIdeal.nD Cert.ProjConvIdeal.τ).loc Cert.ProjConvIdeal.main_arg1)
      ∧ m' ((c.tc : Thread Cert.ProjConvRefIdeal.nD Cert.ProjConvRefIdeal.τ).loc Cert.ProjConvRefIdeal.main_arg2) = m ((c.tc : Thread Cert.ProjConvIdeal.nD Cert.ProjConvIdeal.τ).loc Cert.ProjConvIdeal.main_arg2)) →
    ∃ (v0 : (c : Dev Cert.ProjConvIdeal.nD) → Buf (Elt Ideal) ((c.tc : Thread Cert.ProjConvIdeal.nD Cert.ProjConvIdeal.τ).loc Cert.ProjConvIdeal.main_v1)),
      θ_run (Cert.ProjConvIdeal.defs (F := Ideal)) (onTc (τ := Cert.ProjConvIdeal.τ) (Cert.ProjConvIdeal.main (F := Ideal))) ⟨m, fun _ => 0, g⟩ (fun r => ∀ c : Dev Cert.ProjConvIdeal.nD,
          r.2.mem ((c.tc : Thread Cert.ProjConvIdeal.nD Cert.ProjConvIdeal.τ).loc Cert.ProjConvIdeal.main_v1) = v0 c
          ∧ r.2.mem ((c.tc : Thread Cert.ProjConvIdeal.nD Cert.ProjConvIdeal.τ).loc Cert.ProjConvIdeal.main_arg0) = m ((c.tc : Thread Cert.ProjConvIdeal.nD Cert.ProjConvIdeal.τ).loc Cert.ProjConvIdeal.main_arg0)
          ∧ r.2.mem ((c.tc : Thread Cert.ProjConvIdeal.nD Cert.ProjConvIdeal.τ).loc Cert.ProjConvIdeal.main_arg1) = m ((c.tc : Thread Cert.ProjConvIdeal.nD Cert.ProjConvIdeal.τ).loc Cert.ProjConvIdeal.main_arg1)
          ∧ r.2.mem ((c.tc : Thread Cert.ProjConvIdeal.nD Cert.ProjConvIdeal.τ).loc Cert.ProjConvIdeal.main_arg2) = m ((c.tc : Thread Cert.ProjConvIdeal.nD Cert.ProjConvIdeal.τ).loc Cert.ProjConvIdeal.main_arg2))
      ∧ θ_run (Cert.ProjConvRefIdeal.defs (F := Ideal)) (onTc (τ := Cert.ProjConvRefIdeal.τ) (Cert.ProjConvRefIdeal.main (F := Ideal))) ⟨m', fun _ => 0, g'⟩ (fun r => ∀ c : Dev Cert.ProjConvRefIdeal.nD,
          r.2.mem ((c.tc : Thread Cert.ProjConvRefIdeal.nD Cert.ProjConvRefIdeal.τ).loc Cert.ProjConvRefIdeal.main_v40) = v0 c
          ∧ r.2.mem ((c.tc : Thread Cert.ProjConvRefIdeal.nD Cert.ProjConvRefIdeal.τ).loc Cert.ProjConvRefIdeal.main_arg0) = m' ((c.tc : Thread Cert.ProjConvRefIdeal.nD Cert.ProjConvRefIdeal.τ).loc Cert.ProjConvRefIdeal.main_arg0)
          ∧ r.2.mem ((c.tc : Thread Cert.ProjConvRefIdeal.nD Cert.ProjConvRefIdeal.τ).loc Cert.ProjConvRefIdeal.main_arg1) = m' ((c.tc : Thread Cert.ProjConvRefIdeal.nD Cert.ProjConvRefIdeal.τ).loc Cert.ProjConvRefIdeal.main_arg1)
          ∧ r.2.mem ((c.tc : Thread Cert.ProjConvRefIdeal.nD Cert.ProjConvRefIdeal.τ).loc Cert.ProjConvRefIdeal.main_arg2) = m' ((c.tc : Thread Cert.ProjConvRefIdeal.nD Cert.ProjConvRefIdeal.τ).loc Cert.ProjConvRefIdeal.main_arg2))

def preserves_ProjRope_ProjRopeIdeal : Prop :=
  True

def algebraic_ProjRopeIdeal_ProjRopeRefIdeal [hProjRopeIdeal : Cert.ProjRopeIdeal.Facts] [hProjRopeRefIdeal : Cert.ProjRopeRefIdeal.Facts] : Prop :=
  ∀ (m : (ℓ : Loc Cert.ProjRopeIdeal.nD Cert.ProjRopeIdeal.τ Cert.ProjRopeIdeal.sig) → Buf (Elt Ideal) ℓ) (g : Dev Cert.ProjRopeIdeal.nD → PrngReg)
    (m' : (ℓ : Loc Cert.ProjRopeRefIdeal.nD Cert.ProjRopeRefIdeal.τ Cert.ProjRopeRefIdeal.sig) → Buf (Elt Ideal) ℓ) (g' : Dev Cert.ProjRopeRefIdeal.nD → PrngReg), Pre_ProjRopeIdeal m →
    (∀ c : Dev Cert.ProjRopeIdeal.nD,
      m' ((c.tc : Thread Cert.ProjRopeRefIdeal.nD Cert.ProjRopeRefIdeal.τ).loc Cert.ProjRopeRefIdeal.main_arg0) = m ((c.tc : Thread Cert.ProjRopeIdeal.nD Cert.ProjRopeIdeal.τ).loc Cert.ProjRopeIdeal.main_arg0)
      ∧ m' ((c.tc : Thread Cert.ProjRopeRefIdeal.nD Cert.ProjRopeRefIdeal.τ).loc Cert.ProjRopeRefIdeal.main_arg1) = m ((c.tc : Thread Cert.ProjRopeIdeal.nD Cert.ProjRopeIdeal.τ).loc Cert.ProjRopeIdeal.main_arg1)) →
    ∃ (v0 : (c : Dev Cert.ProjRopeIdeal.nD) → Buf (Elt Ideal) ((c.tc : Thread Cert.ProjRopeIdeal.nD Cert.ProjRopeIdeal.τ).loc Cert.ProjRopeIdeal.main_v28)),
      θ_run (Cert.ProjRopeIdeal.defs (F := Ideal)) (onTc (τ := Cert.ProjRopeIdeal.τ) (Cert.ProjRopeIdeal.main (F := Ideal))) ⟨m, fun _ => 0, g⟩ (fun r => ∀ c : Dev Cert.ProjRopeIdeal.nD,
          r.2.mem ((c.tc : Thread Cert.ProjRopeIdeal.nD Cert.ProjRopeIdeal.τ).loc Cert.ProjRopeIdeal.main_v28) = v0 c
          ∧ r.2.mem ((c.tc : Thread Cert.ProjRopeIdeal.nD Cert.ProjRopeIdeal.τ).loc Cert.ProjRopeIdeal.main_arg0) = m ((c.tc : Thread Cert.ProjRopeIdeal.nD Cert.ProjRopeIdeal.τ).loc Cert.ProjRopeIdeal.main_arg0)
          ∧ r.2.mem ((c.tc : Thread Cert.ProjRopeIdeal.nD Cert.ProjRopeIdeal.τ).loc Cert.ProjRopeIdeal.main_arg1) = m ((c.tc : Thread Cert.ProjRopeIdeal.nD Cert.ProjRopeIdeal.τ).loc Cert.ProjRopeIdeal.main_arg1))
      ∧ θ_run (Cert.ProjRopeRefIdeal.defs (F := Ideal)) (onTc (τ := Cert.ProjRopeRefIdeal.τ) (Cert.ProjRopeRefIdeal.main (F := Ideal))) ⟨m', fun _ => 0, g'⟩ (fun r => ∀ c : Dev Cert.ProjRopeRefIdeal.nD,
          r.2.mem ((c.tc : Thread Cert.ProjRopeRefIdeal.nD Cert.ProjRopeRefIdeal.τ).loc Cert.ProjRopeRefIdeal.main_v55) = v0 c
          ∧ r.2.mem ((c.tc : Thread Cert.ProjRopeRefIdeal.nD Cert.ProjRopeRefIdeal.τ).loc Cert.ProjRopeRefIdeal.main_arg0) = m' ((c.tc : Thread Cert.ProjRopeRefIdeal.nD Cert.ProjRopeRefIdeal.τ).loc Cert.ProjRopeRefIdeal.main_arg0)
          ∧ r.2.mem ((c.tc : Thread Cert.ProjRopeRefIdeal.nD Cert.ProjRopeRefIdeal.τ).loc Cert.ProjRopeRefIdeal.main_arg1) = m' ((c.tc : Thread Cert.ProjRopeRefIdeal.nD Cert.ProjRopeRefIdeal.τ).loc Cert.ProjRopeRefIdeal.main_arg1))

def Claim : Prop :=
  ∃ (hKernel : Cert.Kernel.Facts) (hKernelIdeal : Cert.KernelIdeal.Facts) (hReferenceIdeal : Cert.ReferenceIdeal.Facts) (hFfnFinal : Cert.FfnFinal.Facts) (hFfnFinalIdeal : Cert.FfnFinalIdeal.Facts) (hFfnFinalRefIdeal : Cert.FfnFinalRefIdeal.Facts) (hFfn : Cert.Ffn.Facts) (hFfnIdeal : Cert.FfnIdeal.Facts) (hFfnRefIdeal : Cert.FfnRefIdeal.Facts) (hFfnNext : Cert.FfnNext.Facts) (hFfnNextIdeal : Cert.FfnNextIdeal.Facts) (hFfnNextRefIdeal : Cert.FfnNextRefIdeal.Facts) (hOutGdn : Cert.OutGdn.Facts) (hOutGdnIdeal : Cert.OutGdnIdeal.Facts) (hOutGdnRefIdeal : Cert.OutGdnRefIdeal.Facts) (hOutAttn : Cert.OutAttn.Facts) (hOutAttnIdeal : Cert.OutAttnIdeal.Facts) (hOutAttnRefIdeal : Cert.OutAttnRefIdeal.Facts) (hProjConv : Cert.ProjConv.Facts) (hProjConvIdeal : Cert.ProjConvIdeal.Facts) (hProjConvRefIdeal : Cert.ProjConvRefIdeal.Facts) (hProjRope : Cert.ProjRope.Facts) (hProjRopeIdeal : Cert.ProjRopeIdeal.Facts) (hProjRopeRefIdeal : Cert.ProjRopeRefIdeal.Facts) (hPre_attn_finite : Cert.Pre_attn_finite.Facts),
    quiescent_Kernel (hKernel := hKernel)
    ∧ quiescent_KernelIdeal (hKernelIdeal := hKernelIdeal)
    ∧ quiescent_KernelIdeal_pre_attn_finite (hKernelIdeal := hKernelIdeal) (hPre_attn_finite := hPre_attn_finite)
    ∧ quiescent_ReferenceIdeal (hReferenceIdeal := hReferenceIdeal)
    ∧ quiescent_ReferenceIdeal_pre_attn_finite (hReferenceIdeal := hReferenceIdeal) (hPre_attn_finite := hPre_attn_finite)
    ∧ quiescent_FfnFinal (hFfnFinal := hFfnFinal)
    ∧ quiescent_FfnFinalIdeal (hFfnFinalIdeal := hFfnFinalIdeal)
    ∧ quiescent_FfnFinalRefIdeal (hFfnFinalRefIdeal := hFfnFinalRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnNext (hFfnNext := hFfnNext)
    ∧ quiescent_FfnNextIdeal (hFfnNextIdeal := hFfnNextIdeal)
    ∧ quiescent_FfnNextRefIdeal (hFfnNextRefIdeal := hFfnNextRefIdeal)
    ∧ quiescent_OutGdn (hOutGdn := hOutGdn)
    ∧ quiescent_OutGdnIdeal (hOutGdnIdeal := hOutGdnIdeal)
    ∧ quiescent_OutGdnRefIdeal (hOutGdnRefIdeal := hOutGdnRefIdeal)
    ∧ quiescent_OutAttn (hOutAttn := hOutAttn)
    ∧ quiescent_OutAttnIdeal (hOutAttnIdeal := hOutAttnIdeal)
    ∧ quiescent_OutAttnRefIdeal (hOutAttnRefIdeal := hOutAttnRefIdeal)
    ∧ quiescent_ProjConv (hProjConv := hProjConv)
    ∧ quiescent_ProjConvIdeal (hProjConvIdeal := hProjConvIdeal)
    ∧ quiescent_ProjConvRefIdeal (hProjConvRefIdeal := hProjConvRefIdeal)
    ∧ quiescent_ProjRope (hProjRope := hProjRope)
    ∧ quiescent_ProjRopeIdeal (hProjRopeIdeal := hProjRopeIdeal)
    ∧ quiescent_ProjRopeRefIdeal (hProjRopeRefIdeal := hProjRopeRefIdeal)
    ∧ preserves_Kernel_KernelIdeal
    ∧ algebraic_KernelIdeal_ReferenceIdeal_pre_attn_finite (hKernelIdeal := hKernelIdeal) (hReferenceIdeal := hReferenceIdeal) (hPre_attn_finite := hPre_attn_finite)
    ∧ preserves_FfnFinal_FfnFinalIdeal
    ∧ algebraic_FfnFinalIdeal_FfnFinalRefIdeal (hFfnFinalIdeal := hFfnFinalIdeal) (hFfnFinalRefIdeal := hFfnFinalRefIdeal)
    ∧ preserves_Ffn_FfnIdeal
    ∧ algebraic_FfnIdeal_FfnRefIdeal (hFfnIdeal := hFfnIdeal) (hFfnRefIdeal := hFfnRefIdeal)
    ∧ preserves_FfnNext_FfnNextIdeal
    ∧ algebraic_FfnNextIdeal_FfnNextRefIdeal (hFfnNextIdeal := hFfnNextIdeal) (hFfnNextRefIdeal := hFfnNextRefIdeal)
    ∧ preserves_OutGdn_OutGdnIdeal
    ∧ algebraic_OutGdnIdeal_OutGdnRefIdeal (hOutGdnIdeal := hOutGdnIdeal) (hOutGdnRefIdeal := hOutGdnRefIdeal)
    ∧ preserves_OutAttn_OutAttnIdeal
    ∧ algebraic_OutAttnIdeal_OutAttnRefIdeal (hOutAttnIdeal := hOutAttnIdeal) (hOutAttnRefIdeal := hOutAttnRefIdeal)
    ∧ preserves_ProjConv_ProjConvIdeal
    ∧ algebraic_ProjConvIdeal_ProjConvRefIdeal (hProjConvIdeal := hProjConvIdeal) (hProjConvRefIdeal := hProjConvRefIdeal)
    ∧ preserves_ProjRope_ProjRopeIdeal
    ∧ algebraic_ProjRopeIdeal_ProjRopeRefIdeal (hProjRopeIdeal := hProjRopeIdeal) (hProjRopeRefIdeal := hProjRopeRefIdeal)
-- ==== Pre_attn_finite.lean ====
abbrev S8192x6144 : Shape := ⟨2, ![8192, 6144]⟩
abbrev S128 : Shape := ⟨1, ![128]⟩
abbrev S256 : Shape := ⟨1, ![256]⟩
abbrev S_ : Shape := ⟨0, ![]⟩

class Facts : Prop where
  bitsLt_bf16_f32 : FTy.bits .bf16 < FTy.bits .f32
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v14 : IVec S_ 1) (main_v15 : FVec F S128 .f32) (main_v16 : FVec F S128 .f32) : IVec S_ 1 :=
  let main_v17 : IVec S128 1 := cmpf .olt main_v15 main_v16
  let main_c_5 : IVec S_ 1 := constantI S_ 1 1#1
  let main_v18 : IVec S_ 1 := (fun x v => Host.reduce IntOp.andi x v reducesTo_S128_S_d0 h_S_) main_v17 main_c_5
  let main_v19 : IVec S_ 1 := andi main_v14 main_v18
  let main_v20 : FVec F S128 .f32 := Host.absf main_arg4
  let main_cst_6 : FVec F S_ .f32 := constant S_ .f32 0x7F800000#32
  let main_v21 : FVec F S128 .f32 := broadcastInDim S128 ![] bcast_S_S128 main_cst_6
  let main_v22 : IVec S128 1 := cmpf .olt main_v20 main_v21
  let main_c_7 : IVec S_ 1 := constantI S_ 1 1#1
  let main_v23 : IVec S_ 1 := (fun x v => Host.reduce IntOp.andi x v reducesTo_S128_S_d0 h_S_) main_v22 main_c_7
  let main_v24 : IVec S_ 1 := andi main_v19 main_v23
  main_v24

def fn {F : FTy → Type} [FloatOps F] (main_arg0 : FVec F S8192x6144 .bf16) (main_arg1 : FVec F S128 .f32) (main_arg2 : FVec F S128 .f32) (main_arg3 : FVec F S128 .f32) (main_arg4 : FVec F S128 .f32) (main_arg5 : FVec F S256 .f32) : IVec S_ 1 :=
  let main_v0 : FVec F S8192x6144 .f32 := (extf .f32 · bitsLt_bf16_f32) main_arg0
  let main_v1 : FVec F S8192x6144 .f32 := Host.absf main_v0
  let main_cst : FVec F S_ .f32 := constant S_ .f32 0x7F800000#32
  let main_v2 : FVec F S8192x6144 .f32 := broadcastInDim S8192x6144 ![] bcast_S_S8192x6144 main_cst
  let main_v3 : IVec S8192x6144 1 := cmpf .olt main_v1 main_v2
  let main_c : IVec S_ 1 := constantI S_ 1 1#1
  let main_v4 : IVec S_ 1 := (fun x v => Host.reduce IntOp.andi x v reducesTo_S8192x6144_S_d0_1 h_S_) main_v3 main_c
  let main_v5 : FVec F S128 .f32 := Host.absf main_arg1
  let main_cst_0 : FVec F S_ .f32 := constant S_ .f32 0x7F800000#32
  let main_v6 : FVec F S128 .f32 := broadcastInDim S128 ![] bcast_S_S128 main_cst_0
  let main_v7 : IVec S128 1 := cmpf .olt main_v5 main_v6
  let main_c_1 : IVec S_ 1 := constantI S_ 1 1#1
  let main_v8 : IVec S_ 1 := (fun x v => Host.reduce IntOp.andi x v reducesTo_S128_S_d0 h_S_) main_v7 main_c_1
  let main_v9 : IVec S_ 1 := andi main_v4 main_v8
  let main_v10 : FVec F S128 .f32 := Host.absf main_arg2
  let main_cst_2 : FVec F S_ .f32 := constant S_ .f32 0x7F800000#32
  let main_v11 : FVec F S128 .f32 := broadcastInDim S128 ![] bcast_S_S128 main_cst_2
  let main_v12 : IVec S128 1 := cmpf .olt main_v10 main_v11
  let main_c_3 : IVec S_ 1 := constantI S_ 1 1#1
  let main_v13 : IVec S_ 1 := (fun x v => Host.reduce IntOp.andi x v reducesTo_S128_S_d0 h_S_) main_v12 main_c_3
  let main_v14 : IVec S_ 1 := andi main_v9 main_v13
  let main_v15 : FVec F S128 .f32 := Host.absf main_arg3
  let main_cst_4 : FVec F S_ .f32 := constant S_ .f32 0x7F800000#32
  let main_v16 : FVec F S128 .f32 := broadcastInDim S128 ![] bcast_S_S128 main_cst_4
  fn_part1 (F := F) main_arg4 main_v14 main_v15 main_v16
-- ==== Kernel.lean ====
abbrev S8192x6144 : Shape := ⟨2, ![8192, 6144]⟩
abbrev S128 : Shape := ⟨1, ![128]⟩
abbrev S256 : Shape := ⟨1, ![256]⟩
abbrev S1x128 : Shape := ⟨2, ![1, 128]⟩
abbrev S4x128 : Shape := ⟨2, ![4, 128]⟩
abbrev S256x1 : Shape := ⟨2, ![256, 1]⟩
abbrev S8192x2048 : Shape := ⟨2, ![8192, 2048]⟩
abbrev S512x256 : Shape := ⟨2, ![512, 256]⟩
abbrev S2048x256 : Shape := ⟨2, ![2048, 256]⟩
abbrev S1 : Shape := ⟨1, ![1]⟩
abbrev S1x1 : Shape := ⟨2, ![1, 1]⟩
abbrev S512x512 : Shape := ⟨2, ![512, 512]⟩
abbrev S512x128 : Shape := ⟨2, ![512, 128]⟩
abbrev S512 : Shape := ⟨1, ![512]⟩
abbrev S1x512 : Shape := ⟨2, ![1, 512]⟩
abbrev S256x512 : Shape := ⟨2, ![256, 512]⟩
abbrev S1024x128 : Shape := ⟨2, ![1024, 128]⟩
abbrev S1024x512 : Shape := ⟨2, ![1024, 512]⟩
abbrev S1024x256 : Shape := ⟨2, ![1024, 256]⟩
abbrev S1536x128 : Shape := ⟨2, ![1536, 128]⟩
abbrev S1536x512 : Shape := ⟨2, ![1536, 512]⟩
abbrev S1536x256 : Shape := ⟨2, ![1536, 256]⟩

abbrev nBuf : Space → Nat
  | .hbm => 13
  | .vmem => 10
  | .smem => 0
  | _ => 0

abbrev bufTy : (tb : Table) → Fin (tcTables nBuf tb) → BufTy
  | .hbm, ⟨0, _⟩ => ⟨S8192x6144, .bf16⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S256, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S4x128, .f32⟩
  | .hbm, ⟨11, _⟩ => ⟨S256x1, .f32⟩
  | .hbm, ⟨12, _⟩ => ⟨S8192x2048, .bf16⟩
  | .local _ .vmem, ⟨0, _⟩ => ⟨S4x128, .f32⟩
  | .local _ .vmem, ⟨1, _⟩ => ⟨S256x1, .f32⟩
  | .local _ .vmem, ⟨2, _⟩ => ⟨S512x256, .bf16⟩
  | .local _ .vmem, ⟨3, _⟩ => ⟨S512x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S512x256, .bf16⟩
  | .local _ .vmem, ⟨9, _⟩ => ⟨S512x256, .bf16⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 8, 4], ![false, false, false]⟩

def k0_cond1 (i : grid0.Coords) : BitVec 1 :=
  let arg2 : BitVec 32 := BitVec.ofNat 32 (i 2).val
  let c0_i32 : BitVec 32 := 0#32
  let v20 : BitVec 1 := Scalar.cmpi .eq arg2 c0_i32
  let v21 : BitVec 32 := Scalar.extui v20
  let c0_i32_3 : BitVec 32 := 0#32
  let v22 : BitVec 1 := Scalar.cmpi .ne v21 c0_i32_3
  v22

def k0_cond2 (i : grid0.Coords) : BitVec 1 :=
  let arg2 : BitVec 32 := BitVec.ofNat 32 (i 2).val
  let c1_i32 : BitVec 32 := 1#32
  let v23 : BitVec 1 := Scalar.cmpi .eq arg2 c1_i32
  let v24 : BitVec 32 := Scalar.extui v23
  let c0_i32_4 : BitVec 32 := 0#32
  let v25 : BitVec 1 := Scalar.cmpi .ne v24 c0_i32_4
  v25

def k0_cond3 (i : grid0.Coords) : BitVec 1 :=
  let arg2 : BitVec 32 := BitVec.ofNat 32 (i 2).val
  let c2_i32 : BitVec 32 := 2#32
  let v26 : BitVec 1 := Scalar.cmpi .eq arg2 c2_i32
  let v27 : BitVec 32 := Scalar.extui v26
  let c0_i32_5 : BitVec 32 := 0#32
  let v28 : BitVec 1 := Scalar.cmpi .ne v27 c0_i32_5
  v28

def k0_cond4 (i : grid0.Coords) : BitVec 1 :=
  let arg2 : BitVec 32 := BitVec.ofNat 32 (i 2).val
  let c3_i32 : BitVec 32 := 3#32
  let v29 : BitVec 1 := Scalar.cmpi .eq arg2 c3_i32
  let v30 : BitVec 32 := Scalar.extui v29
  let c0_i32_6 : BitVec 32 := 0#32
  let v31 : BitVec 1 := Scalar.cmpi .ne v30 c0_i32_6
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8192x6144 : Shape := ⟨2, ![8192, 6144]⟩
abbrev S128 : Shape := ⟨1, ![128]⟩
abbrev S256 : Shape := ⟨1, ![256]⟩
abbrev S8192x2048 : Shape := ⟨2, ![8192, 2048]⟩
abbrev S4x2048x16x128 : Shape := ⟨4, ![4, 2048, 16, 128]⟩
abbrev S4x2048x8x256 : Shape := ⟨4, ![4, 2048, 8, 256]⟩
abbrev S_ : Shape := ⟨0, ![]⟩
abbrev S4x16x2048x128 : Shape := ⟨4, ![4, 16, 2048, 128]⟩
abbrev S4x8x2048x256 : Shape := ⟨4, ![4, 8, 2048, 256]⟩
abbrev S2048 : Shape := ⟨1, ![2048]⟩
abbrev S4x16x2048x2048 : Shape := ⟨4, ![4, 16, 2048, 2048]⟩
abbrev S1x2048 : Shape := ⟨2, ![1, 2048]⟩
abbrev S2048x1 : Shape := ⟨2, ![2048, 1]⟩
abbrev S2048x2048 : Shape := ⟨2, ![2048, 2048]⟩
abbrev S4x16x2048 : Shape := ⟨3, ![4, 16, 2048]⟩
abbrev S4x16x2048x1 : Shape := ⟨4, ![4, 16, 2048, 1]⟩
abbrev S4x8x2x2048x2048 : Shape := ⟨5, ![4, 8, 2, 2048, 2048]⟩
abbrev S4x8x1x2048x2048 : Shape := ⟨5, ![4, 8, 1, 2048, 2048]⟩
abbrev S4x8x2048x2048 : Shape := ⟨4, ![4, 8, 2048, 2048]⟩
abbrev S4x2048x8 : Shape := ⟨3, ![4, 2048, 8]⟩
abbrev S4x2048x8x1 : Shape := ⟨4, ![4, 2048, 8, 1]⟩
abbrev S1x1x1x256 : Shape := ⟨4, ![1, 1, 1, 256]⟩

abbrev nBuf : Space → Nat
  | .hbm => 84
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S256, .f32⟩
  | .hbm, ⟨6, _⟩ => ⟨S8192x6144, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S4x2048x16x128, .f32⟩
  | .hbm, ⟨11, _⟩ => ⟨S4x2048x16x128, .f32⟩
  | .hbm, ⟨12, _⟩ => ⟨S4x2048x8x256, .f32⟩
  | .hbm, ⟨13, _⟩ => ⟨S128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x16x2048x128, .f32⟩
  | .hbm, ⟨25, _⟩ => ⟨S4x16x2048x128, .f32⟩
  | .hbm, ⟨26, _⟩ => ⟨S4x8x2048x256, .f32⟩
  | .hbm, ⟨27, _⟩ => ⟨S2048, .i32⟩
  | .hbm, ⟨28, _⟩ => ⟨S4x16x2048x2048, .f32⟩
  | .hbm, ⟨29, _⟩ => ⟨S1x2048, .i32⟩
  | .hbm, ⟨30, _⟩ => ⟨S2048x1, .i32⟩
  | .hbm, ⟨31, _⟩ => ⟨S2048x2048, .i32⟩
  | .hbm, ⟨32, _⟩ => ⟨S2048x2048, .i32⟩
  | .hbm, ⟨33, _⟩ => ⟨S2048x2048, .i1⟩
  | .hbm, ⟨34, _⟩ => ⟨S_, .f32⟩
  | .hbm, ⟨35, _⟩ => ⟨S_, .f32⟩
  | .hbm, ⟨36, _⟩ => ⟨S4x16x2048x2048, .i1⟩
  | .hbm, ⟨37, _⟩ => ⟨S4x16x2048x2048, .f32⟩
  | .hbm, ⟨38, _⟩ => ⟨S4x16x2048x2048, .f32⟩
  | .hbm, ⟨39, _⟩ => ⟨S_, .f32⟩
  | .hbm, ⟨40, _⟩ => ⟨S4x16x2048, .f32⟩
  | .hbm, ⟨41, _⟩ => ⟨S_, .f32⟩
  | .hbm, ⟨42, _⟩ => ⟨S4x16x2048, .f32⟩
  | .hbm, ⟨43, _⟩ => ⟨S4x16x2048, .f32⟩
  | .hbm, ⟨44, _⟩ => ⟨S4x16x2048x1, .f32⟩
  | .hbm, ⟨45, _⟩ => ⟨S4x16x2048x2048, .f32⟩
  | .hbm, ⟨46, _⟩ => ⟨S4x16x2048x2048, .f32⟩
  | .hbm, ⟨47, _⟩ => ⟨S4x16x2048x2048, .f32⟩
  | .hbm, ⟨48, _⟩ => ⟨S_, .f32⟩
  | .hbm, ⟨49, _⟩ => ⟨S4x16x2048, .f32⟩
  | .hbm, ⟨50, _⟩ => ⟨S4x16x2048x1, .f32⟩
  | .hbm, ⟨51, _⟩ => ⟨S4x16x2048x2048, .f32⟩
  | .hbm, ⟨52, _⟩ => ⟨S4x16x2048x2048, .f32⟩
  | .hbm, ⟨53, _⟩ => ⟨S4x8x2x2048x2048, .f32⟩
  | .hbm, ⟨54, _⟩ => ⟨S4x8x1x2048x2048, .f32⟩
  | .hbm, ⟨55, _⟩ => ⟨S4x8x2048x2048, .f32⟩
  | .hbm, ⟨56, _⟩ => ⟨S4x8x1x2048x2048, .f32⟩
  | .hbm, ⟨57, _⟩ => ⟨S4x8x2048x2048, .f32⟩
  | .hbm, ⟨58, _⟩ => ⟨S4x8x2048x2048, .f32⟩
  | .hbm, ⟨59, _⟩ => ⟨S4x8x2048x2048, .f32⟩
  | .hbm, ⟨60, _⟩ => ⟨S4x8x2048x2048, .f32⟩
  | .hbm, ⟨61, _⟩ => ⟨S4x8x2048x256, .f32⟩
  | .hbm, ⟨62, _⟩ => ⟨S4x2048x8x256, .f32⟩
  | .hbm, ⟨63, _⟩ => ⟨S4x2048x8x256, .f32⟩
  | .hbm, ⟨64, _⟩ => ⟨S_, .f32⟩
  | .hbm, ⟨65, _⟩ => ⟨S4x2048x8, .f32⟩
  | .hbm, ⟨66, _⟩ => ⟨S4x2048x8x1, .f32⟩
  | .hbm, ⟨67, _⟩ => ⟨S_, .f32⟩
  | .hbm, ⟨68, _⟩ => ⟨S4x2048x8x1, .f32⟩
  | .hbm, ⟨69, _⟩ => ⟨S4x2048x8x1, .f32⟩
  | .hbm, ⟨70, _⟩ => ⟨S_, .f32⟩
  | .hbm, ⟨71, _⟩ => ⟨S4x2048x8x1, .f32⟩
  | .hbm, ⟨72, _⟩ => ⟨S4x2048x8x1, .f32⟩
  | .hbm, ⟨73, _⟩ => ⟨S4x2048x8x1, .f32⟩
  | .hbm, ⟨74, _⟩ => ⟨S4x2048x8x256, .f32⟩
  | .hbm, ⟨75, _⟩ => ⟨S4x2048x8x256, .f32⟩
  | .hbm, ⟨76, _⟩ => ⟨S1x1x1x256, .f32⟩
  | .hbm, ⟨77, _⟩ => ⟨S4x2048x8x256, .f32⟩
  | .hbm, ⟨78, _⟩ => ⟨S4x2048x8x256, .f32⟩
  | .hbm, ⟨79, _⟩ => ⟨S_, .f32⟩
  | .hbm, ⟨80, _⟩ => ⟨S4x2048x8x256, .f32⟩
  | .hbm, ⟨81, _⟩ => ⟨S4x2048x8x256, .f32⟩
  | .hbm, ⟨82, _⟩ => ⟨S8192x2048, .f32⟩
  | .hbm, ⟨83, _⟩ => ⟨S8192x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_9 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== FfnFinal.lean ====
abbrev S8192x2048 : Shape := ⟨2, ![8192, 2048]⟩
abbrev S2048 : Shape := ⟨1, ![2048]⟩
abbrev S2x2048x5632 : Shape := ⟨3, ![2, 2048, 5632]⟩
abbrev S2x5632x2048 : Shape := ⟨3, ![2, 5632, 2048]⟩
abbrev S1x2048 : Shape := ⟨2, ![1, 2048]⟩
abbrev S1024x2048 : Shape := ⟨2, ![1024, 2048]⟩
abbrev S1x2048x256 : Shape := ⟨3, ![1, 2048, 256]⟩
abbrev S1x256x2048 : Shape := ⟨3, ![1, 256, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x256x2048, .f32⟩
  | .local _ .vmem, ⟨8, _⟩ => ⟨S1x256x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnFinalRefIdeal.lean ====
abbrev S8192x2048 : Shape := ⟨2, ![8192, 2048]⟩
abbrev S2048 : Shape := ⟨1, ![2048]⟩
abbrev S2x2048x5632 : Shape := ⟨3, ![2, 2048, 5632]⟩
abbrev S2x5632x2048 : Shape := ⟨3, ![2, 5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S8192x5632 : Shape := ⟨2, ![8192, 5632]⟩

abbrev nBuf : Space → Nat
  | .hbm => 61
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x5632, .f32⟩
  | .hbm, ⟨23, _⟩ => ⟨S2048x5632, .f32⟩
  | .hbm, ⟨24, _⟩ => ⟨S1x2048x5632, .f32⟩
  | .hbm, ⟨25, _⟩ => ⟨S2048x5632, .f32⟩
  | .hbm, ⟨26, _⟩ => ⟨S1x5632x2048, .f32⟩
  | .hbm, ⟨27, _⟩ => ⟨S5632x2048, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S_, .f32⟩
  | .hbm, ⟨32, _⟩ => ⟨S8192x5632, .f32⟩
  | .hbm, ⟨33, _⟩ => ⟨S8192x5632, .f32⟩
  | .hbm, ⟨34, _⟩ => ⟨S_, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S8192x2048, .f32⟩
  | .hbm, ⟨57, _⟩ => ⟨S8192x2048, .f32⟩
  | .hbm, ⟨58, _⟩ => ⟨S1x2048, .f32⟩
  | .hbm, ⟨59, _⟩ => ⟨S8192x2048, .f32⟩
  | .hbm, ⟨60, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Ffn.lean ====
abbrev S8192x2048 : Shape := ⟨2, ![8192, 2048]⟩
abbrev S2048 : Shape := ⟨1, ![2048]⟩
abbrev S2x2048x5632 : Shape := ⟨3, ![2, 2048, 5632]⟩
abbrev S2x5632x2048 : Shape := ⟨3, ![2, 5632, 2048]⟩
abbrev S1x2048 : Shape := ⟨2, ![1, 2048]⟩
abbrev S1024x2048 : Shape := ⟨2, ![1024, 2048]⟩
abbrev S1x2048x256 : Shape := ⟨3, ![1, 2048, 256]⟩
abbrev S1x256x2048 : Shape := ⟨3, ![1, 256, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S1x2048, .f32⟩
  | .hbm, ⟨6, _⟩ => ⟨S1x2048, .f32⟩
  | .hbm, ⟨7, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x256x2048, .f32⟩
  | .local _ .vmem, ⟨8, _⟩ => ⟨S1x256x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S8192x2048 : Shape := ⟨2, ![8192, 2048]⟩
abbrev S2048 : Shape := ⟨1, ![2048]⟩
abbrev S2x2048x5632 : Shape := ⟨3, ![2, 2048, 5632]⟩
abbrev S2x5632x2048 : Shape := ⟨3, ![2, 5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S8192x5632 : Shape := ⟨2, ![8192, 5632]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048x5632, .f32⟩
  | .hbm, ⟨22, _⟩ => ⟨S2048x5632, .f32⟩
  | .hbm, ⟨23, _⟩ => ⟨S1x2048x5632, .f32⟩
  | .hbm, ⟨24, _⟩ => ⟨S2048x5632, .f32⟩
  | .hbm, ⟨25, _⟩ => ⟨S1x5632x2048, .f32⟩
  | .hbm, ⟨26, _⟩ => ⟨S5632x2048, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== FfnNext.lean ====
abbrev S8192x2048 : Shape := ⟨2, ![8192, 2048]⟩
abbrev S2048 : Shape := ⟨1, ![2048]⟩
abbrev S2x2048x5632 : Shape := ⟨3, ![2, 2048, 5632]⟩
abbrev S2x5632x2048 : Shape := ⟨3, ![2, 5632, 2048]⟩
abbrev S1x2048 : Shape := ⟨2, ![1, 2048]⟩
abbrev S1024x2048 : Shape := ⟨2, ![1024, 2048]⟩
abbrev S1x2048x256 : Shape := ⟨3, ![1, 2048, 256]⟩
abbrev S1x256x2048 : Shape := ⟨3, ![1, 256, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 10
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x256x2048, .f32⟩
  | .local _ .vmem, ⟨8, _⟩ => ⟨S1x256x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | .local _ .vmem, ⟨13, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 22], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c21_i32 : BitVec 32 := 21#32
  let v25 : BitVec 1 := Scalar.cmpi .eq arg1 c21_i32
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnNextRefIdeal.lean ====
abbrev S8192x2048 : Shape := ⟨2, ![8192, 2048]⟩
abbrev S2048 : Shape := ⟨1, ![2048]⟩
abbrev S2x2048x5632 : Shape := ⟨3, ![2, 2048, 5632]⟩
abbrev S2x5632x2048 : Shape := ⟨3, ![2, 5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S8192x5632 : Shape := ⟨2, ![8192, 5632]⟩

abbrev nBuf : Space → Nat
  | .hbm => 62
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x5632, .f32⟩
  | .hbm, ⟨23, _⟩ => ⟨S2048x5632, .f32⟩
  | .hbm, ⟨24, _⟩ => ⟨S1x2048x5632, .f32⟩
  | .hbm, ⟨25, _⟩ => ⟨S2048x5632, .f32⟩
  | .hbm, ⟨26, _⟩ => ⟨S1x5632x2048, .f32⟩
  | .hbm, ⟨27, _⟩ => ⟨S5632x2048, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S_, .f32⟩
  | .hbm, ⟨32, _⟩ => ⟨S8192x5632, .f32⟩
  | .hbm, ⟨33, _⟩ => ⟨S8192x5632, .f32⟩
  | .hbm, ⟨34, _⟩ => ⟨S_, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S8192x2048, .f32⟩
  | .hbm, ⟨57, _⟩ => ⟨S8192x2048, .f32⟩
  | .hbm, ⟨58, _⟩ => ⟨S1x2048, .f32⟩
  | .hbm, ⟨59, _⟩ => ⟨S8192x2048, .f32⟩
  | .hbm, ⟨60, _⟩ => ⟨S8192x2048, .f32⟩
  | .hbm, ⟨61, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== OutGdn.lean ====
abbrev S8192x4096 : Shape := ⟨2, ![8192, 4096]⟩
abbrev S1x4096x2048 : Shape := ⟨3, ![1, 4096, 2048]⟩
abbrev S8192x2048 : Shape := ⟨2, ![8192, 2048]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S1x4096x2048, .f32⟩
  | .hbm, ⟨2, _⟩ => ⟨S8192x2048, .f32⟩
  | .hbm, ⟨3, _⟩ => ⟨S8192x2048, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutGdnIdeal.lean ====
abbrev S8192x4096 : Shape := ⟨2, ![8192, 4096]⟩
abbrev S1x4096x2048 : Shape := ⟨3, ![1, 4096, 2048]⟩
abbrev S8192x2048 : Shape := ⟨2, ![8192, 2048]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S1x4096x2048, .f32⟩
  | .hbm, ⟨2, _⟩ => ⟨S8192x2048, .f32⟩
  | .hbm, ⟨3, _⟩ => ⟨S8192x2048, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutGdnRefIdeal.lean ====
abbrev S8192x4096 : Shape := ⟨2, ![8192, 4096]⟩
abbrev S1x4096x2048 : Shape := ⟨3, ![1, 4096, 2048]⟩
abbrev S8192x2048 : Shape := ⟨2, ![8192, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x2048, .f32⟩
  | .hbm, ⟨2, _⟩ => ⟨S8192x2048, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutAttn.lean ====
abbrev S8192x2048 : Shape := ⟨2, ![8192, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutAttnRefIdeal.lean ====
abbrev S8192x2048 : Shape := ⟨2, ![8192, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjConv.lean ====
abbrev S8192x2048 : Shape := ⟨2, ![8192, 2048]⟩
abbrev S1x2048x12352 : Shape := ⟨3, ![1, 2048, 12352]⟩
abbrev S1x4x8192 : Shape := ⟨3, ![1, 4, 8192]⟩
abbrev S8192x12288 : Shape := ⟨2, ![8192, 12288]⟩
abbrev S1024x2048 : Shape := ⟨2, ![1024, 2048]⟩
abbrev S16x2048 : Shape := ⟨2, ![16, 2048]⟩
abbrev S1x2048x2048 : Shape := ⟨3, ![1, 2048, 2048]⟩
abbrev S1x4x2048 : Shape := ⟨3, ![1, 4, 2048]⟩
abbrev S1040x2048 : Shape := ⟨2, ![1040, 2048]⟩
abbrev S1x2048x256 : Shape := ⟨3, ![1, 2048, 256]⟩
abbrev S2048x256 : Shape := ⟨2, ![2048, 256]⟩
abbrev S1040x256 : Shape := ⟨2, ![1040, 256]⟩
abbrev S1x4x256 : Shape := ⟨3, ![1, 4, 256]⟩
abbrev S4x256 : Shape := ⟨2, ![4, 256]⟩
abbrev S130x8x256 : Shape := ⟨3, ![130, 8, 256]⟩
abbrev S128x8x256 : Shape := ⟨3, ![128, 8, 256]⟩
abbrev S1x256 : Shape := ⟨2, ![1, 256]⟩
abbrev S1x1x256 : Shape := ⟨3, ![1, 1, 256]⟩
abbrev S1024x256 : Shape := ⟨2, ![1024, 256]⟩
abbrev S2048x2048 : Shape := ⟨2, ![2048, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S1x2048x12352, .f32⟩
  | .hbm, ⟨2, _⟩ => ⟨S1x4x8192, .f32⟩
  | .hbm, ⟨3, _⟩ => ⟨S1x2048x12352, .bf16⟩
  | .hbm, ⟨4, _⟩ => ⟨S8192x12288, .bf16⟩
  | .local _ .vmem, ⟨0, _⟩ => ⟨S1024x2048, .bf16⟩
  | .local _ .vmem, ⟨1, _⟩ => ⟨S1024x2048, .bf16⟩
  | .local _ .vmem, ⟨2, _⟩ => ⟨S16x2048, .bf16⟩
  | .local _ .vmem, ⟨3, _⟩ => ⟨S16x2048, .bf16⟩
  | .local _ .vmem, ⟨4, _⟩ => ⟨S1x2048x2048, .bf16⟩
  | .local _ .vmem, ⟨5, _⟩ => ⟨S1x2048x2048, .bf16⟩
  | .local _ .vmem, ⟨6, _⟩ => ⟨S1x4x2048, .f32⟩
  | .local _ .vmem, ⟨7, _⟩ => ⟨S1x4x2048, .f32⟩
  | .local _ .vmem, ⟨8, _⟩ => ⟨S1024x2048, .bf16⟩
  | .local _ .vmem, ⟨9, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 8], ![false, false]⟩

def k0_cond1 (i : grid0.Coords) : BitVec 1 :=
  let arg0 : BitVec 32 := BitVec.ofNat 32 (i 0).val
  let c4_i32 : BitVec 32 := 4#32
  let v13 : BitVec 1 := Scalar.cmpi .slt arg0 c4_i32
  let v14 : BitVec 32 := Scalar.extui v13
  let c0_i32_5 : BitVec 32 := 0#32
  let v15 : BitVec 1 := Scalar.cmpi .ne v14 c0_i32_5
  v15

def k0_cond2 (i : grid0.Coords) : BitVec 1 :=
  let arg0 : BitVec 32 := BitVec.ofNat 32 (i 0).val
  let c4_i32_6 : BitVec 32 := 4#32
  let v16 : BitVec 1 := Scalar.cmpi .sge arg0 c4_i32_6
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjConvRefIdeal.lean ====
abbrev S8192x2048 : Shape := ⟨2, ![8192, 2048]⟩
abbrev S1x2048x12352 : Shape := ⟨3, ![1, 2048, 12352]⟩
abbrev S1x4x8192 : Shape := ⟨3, ![1, 4, 8192]⟩
abbrev S2048x12352 : Shape := ⟨2, ![2048, 12352]⟩
abbrev S8192x12352 : Shape := ⟨2, ![8192, 12352]⟩
abbrev S8192x8192 : Shape := ⟨2, ![8192, 8192]⟩
abbrev S4x2048x8192 : Shape := ⟨3, ![4, 2048, 8192]⟩
abbrev S8192x4096 : Shape := ⟨2, ![8192, 4096]⟩
abbrev S4x8192 : Shape := ⟨2, ![4, 8192]⟩
abbrev S_ : Shape := ⟨0, ![]⟩
abbrev S4x2051x8192 : Shape := ⟨3, ![4, 2051, 8192]⟩
abbrev S1x8192 : Shape := ⟨2, ![1, 8192]⟩
abbrev S8192 : Shape := ⟨1, ![8192]⟩
abbrev S1x1x8192 : Shape := ⟨3, ![1, 1, 8192]⟩
abbrev S8192x12288 : Shape := ⟨2, ![8192, 12288]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x12352, .f32⟩
  | .hbm, ⟨2, _⟩ => ⟨S1x4x8192, .f32⟩
  | .hbm, ⟨3, _⟩ => ⟨S8192x2048, .f32⟩
  | .hbm, ⟨4, _⟩ => ⟨S2048x12352, .f32⟩
  | .hbm, ⟨5, _⟩ => ⟨S8192x12352, .f32⟩
  | .hbm, ⟨6, _⟩ => ⟨S8192x8192, .f32⟩
  | .hbm, ⟨7, _⟩ => ⟨S4x2048x8192, .f32⟩
  | .hbm, ⟨8, _⟩ => ⟨S8192x4096, .f32⟩
  | .hbm, ⟨9, _⟩ => ⟨S4x8192, .f32⟩
  | .hbm, ⟨10, _⟩ => ⟨S_, .i32⟩
  | .hbm, ⟨11, _⟩ => ⟨S_, .f32⟩
  | .hbm, ⟨12, _⟩ => ⟨S4x2051x8192, .f32⟩
  | .hbm, ⟨13, _⟩ => ⟨S1x8192, .f32⟩
  | .hbm, ⟨14, _⟩ => ⟨S8192, .f32⟩
  | .hbm, ⟨15, _⟩ => ⟨S4x2048x8192, .f32⟩
  | .hbm, ⟨16, _⟩ => ⟨S1x1x8192, .f32⟩
  | .hbm, ⟨17, _⟩ => ⟨S4x2048x8192, .f32⟩
  | .hbm, ⟨18, _⟩ => ⟨S4x2048x8192, .f32⟩
  | .hbm, ⟨19, _⟩ => ⟨S_, .f32⟩
  | .hbm, ⟨20, _⟩ => ⟨S4x2048x8192, .f32⟩
  | .hbm, ⟨21, _⟩ => ⟨S4x2048x8192, .f32⟩
  | .hbm, ⟨22, _⟩ => ⟨S1x8192, .f32⟩
  | .hbm, ⟨23, _⟩ => ⟨S8192, .f32⟩
  | .hbm, ⟨24, _⟩ => ⟨S4x2048x8192, .f32⟩
  | .hbm, ⟨25, _⟩ => ⟨S1x1x8192, .f32⟩
  | .hbm, ⟨26, _⟩ => ⟨S4x2048x8192, .f32⟩
  | .hbm, ⟨27, _⟩ => ⟨S4x2048x8192, .f32⟩
  | .hbm, ⟨28, _⟩ => ⟨S4x2048x8192, .f32⟩
  | .hbm, ⟨29, _⟩ => ⟨S1x8192, .f32⟩
  | .hbm, ⟨30, _⟩ => ⟨S8192, .f32⟩
  | .hbm, ⟨31, _⟩ => ⟨S4x2048x8192, .f32⟩
  | .hbm, ⟨32, _⟩ => ⟨S1x1x8192, .f32⟩
  | .hbm, ⟨33, _⟩ => ⟨S4x2048x8192, .f32⟩
  | .hbm, ⟨34, _⟩ => ⟨S4x2048x8192, .f32⟩
  | .hbm, ⟨35, _⟩ => ⟨S4x2048x8192, .f32⟩
  | .hbm, ⟨36, _⟩ => ⟨S1x8192, .f32⟩
  | .hbm, ⟨37, _⟩ => ⟨S8192, .f32⟩
  | .hbm, ⟨38, _⟩ => ⟨S4x2048x8192, .f32⟩
  | .hbm, ⟨39, _⟩ => ⟨S1x1x8192, .f32⟩
  | .hbm, ⟨40, _⟩ => ⟨S4x2048x8192, .f32⟩
  | .hbm, ⟨41, _⟩ => ⟨S4x2048x8192, .f32⟩
  | .hbm, ⟨42, _⟩ => ⟨S4x2048x8192, .f32⟩
  | .hbm, ⟨43, _⟩ => ⟨S4x2048x8192, .f32⟩
  | .hbm, ⟨44, _⟩ => ⟨S4x2048x8192, .f32⟩
  | .hbm, ⟨45, _⟩ => ⟨S_, .f32⟩
  | .hbm, ⟨46, _⟩ => ⟨S4x2048x8192, .f32⟩
  | .hbm, ⟨47, _⟩ => ⟨S4x2048x8192, .f32⟩
  | .hbm, ⟨48, _⟩ => ⟨S_, .f32⟩
  | .hbm, ⟨49, _⟩ => ⟨S4x2048x8192, .f32⟩
  | .hbm, ⟨50, _⟩ => ⟨S4x2048x8192, .f32⟩
  | .hbm, ⟨51, _⟩ => ⟨S4x2048x8192, .f32⟩
  | .hbm, ⟨52, _⟩ => ⟨S8192x8192, .f32⟩
  | .hbm, ⟨53, _⟩ => ⟨S8192x12288, .f32⟩
  | .hbm, ⟨54, _⟩ => ⟨S8192x12288, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== ProjRope.lean ====
abbrev S8192x2048 : Shape := ⟨2, ![8192, 2048]⟩
abbrev S1x2048x6144 : Shape := ⟨3, ![1, 2048, 6144]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S128 : Shape := ⟨1, ![128]⟩
abbrev S1x128 : Shape := ⟨2, ![1, 128]⟩
abbrev S8192x6144 : Shape := ⟨2, ![8192, 6144]⟩
abbrev S1024x2048 : Shape := ⟨2, ![1024, 2048]⟩
abbrev S1x2048x1024 : Shape := ⟨3, ![1, 2048, 1024]⟩
abbrev S1024x128 : Shape := ⟨2, ![1024, 128]⟩
abbrev S1024x1024 : Shape := ⟨2, ![1024, 1024]⟩
abbrev S2048x1024 : Shape := ⟨2, ![2048, 1024]⟩
abbrev S2048x256 : Shape := ⟨2, ![2048, 256]⟩
abbrev S1024x256 : Shape := ⟨2, ![1024, 256]⟩

abbrev nBuf : Space → Nat
  | .hbm => 41
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S1x2048x6144, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S2048, .f32⟩
  | .hbm, ⟨19, _⟩ => ⟨S2048x1, .f32⟩
  | .hbm, ⟨20, _⟩ => ⟨S1x64, .f32⟩
  | .hbm, ⟨21, _⟩ => ⟨S2048x64, .f32⟩
  | .hbm, ⟨22, _⟩ => ⟨S2048x64, .f32⟩
  | .hbm, ⟨23, _⟩ => ⟨S2048x64, .f32⟩
  | .hbm, ⟨24, _⟩ => ⟨S2048x128, .f32⟩
  | .hbm, ⟨25, _⟩ => ⟨S128, .i32⟩
  | .hbm, ⟨26, _⟩ => ⟨S_, .i32⟩
  | .hbm, ⟨27, _⟩ => ⟨S128, .i32⟩
  | .hbm, ⟨28, _⟩ => ⟨S128, .i1⟩
  | .hbm, ⟨29, _⟩ => ⟨S_, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S2048x128, .f32⟩
  | .hbm, ⟨36, _⟩ => ⟨S2048x128, .f32⟩
  | .hbm, ⟨37, _⟩ => ⟨S1x128, .f32⟩
  | .hbm, ⟨38, _⟩ => ⟨S2048x128, .f32⟩
  | .hbm, ⟨39, _⟩ => ⟨S2048x128, .f32⟩
  | .hbm, ⟨40, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_cst_5 : Ref sig .tc := ⟨.hbm, 30, rfl⟩
abbrev main_call0_v0 : Ref sig .tc := ⟨.hbm, 31, rfl⟩
abbrev main_call0_v1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 8], ![false, false]⟩

def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c4_i32_2 : BitVec 32 := 4#32
  let v6 : BitVec 1 := Scalar.cmpi .sge arg0 c4_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjRopeRefIdeal.lean ====
abbrev S8192x2048 : Shape := ⟨2, ![8192, 2048]⟩
abbrev S1x2048x6144 : Shape := ⟨3, ![1, 2048, 6144]⟩
abbrev S2048x6144 : Shape := ⟨2, ![2048, 6144]⟩
abbrev S8192x6144 : Shape := ⟨2, ![8192, 6144]⟩
abbrev S4x2048x16x128 : Shape := ⟨4, ![4, 2048, 16, 128]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S4x2048x16x64 : Shape := ⟨4, ![4, 2048, 16, 64]⟩
abbrev S1x2048x1x128 : Shape := ⟨4, ![1, 2048, 1, 128]⟩

abbrev nBuf : Space → Nat
  | .hbm => 64
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x6144, .f32⟩
  | .hbm, ⟨2, _⟩ => ⟨S8192x2048, .f32⟩
  | .hbm, ⟨3, _⟩ => ⟨S2048x6144, .f32⟩
  | .hbm, ⟨4, _⟩ => ⟨S8192x6144, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S4x2048x16x128, .f32⟩
  | .hbm, ⟨9, _⟩ => ⟨S4x2048x16x128, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S2048, .f32⟩
  | .hbm, ⟨27, _⟩ => ⟨S2048x1, .f32⟩
  | .hbm, ⟨28, _⟩ => ⟨S1x64, .f32⟩
  | .hbm, ⟨29, _⟩ => ⟨S2048x64, .f32⟩
  | .hbm, ⟨30, _⟩ => ⟨S2048x64, .f32⟩
  | .hbm, ⟨31, _⟩ => ⟨S2048x64, .f32⟩
  | .hbm, ⟨32, _⟩ => ⟨S2048x128, .f32⟩
  | .hbm, ⟨33, _⟩ => ⟨S2048x128, .f32⟩
  | .hbm, ⟨34, _⟩ => ⟨S2048x128, .f32⟩
  | .hbm, ⟨35, _⟩ => ⟨S4x2048x16x64, .f32⟩
  | .hbm, ⟨36, _⟩ => ⟨S4x2048x16x64, .f32⟩
  | .hbm, ⟨37, _⟩ => ⟨S4x2048x16x64, .f32⟩
  | .hbm, ⟨38, _⟩ => ⟨S4x2048x16x128, .f32⟩
  | .hbm, ⟨39, _⟩ => ⟨S1x2048x1x128, .f32⟩
  | .hbm, ⟨40, _⟩ => ⟨S4x2048x16x128, .f32⟩
  | .hbm, ⟨41, _⟩ => ⟨S4x2048x16x128, .f32⟩
  | .hbm, ⟨42, _⟩ => ⟨S1x2048x1x128, .f32⟩
  | .hbm, ⟨43, _⟩ => ⟨S4x2048x16x128, .f32⟩
  | .hbm, ⟨44, _⟩ => ⟨S4x2048x16x128, .f32⟩
  | .hbm, ⟨45, _⟩ => ⟨S4x2048x16x128, .f32⟩
  | .hbm, ⟨46, _⟩ => ⟨S_, .f32⟩
  | .hbm, ⟨47, _⟩ => ⟨S4x2048x16x128, .f32⟩
  | .hbm, ⟨48, _⟩ => ⟨S4x2048x16x128, .f32⟩
  | .hbm, ⟨49, _⟩ => ⟨S4x2048x16x64, .f32⟩
  | .hbm, ⟨50, _⟩ => ⟨S4x2048x16x64, .f32⟩
  | .hbm, ⟨51, _⟩ => ⟨S4x2048x16x64, .f32⟩
  | .hbm, ⟨52, _⟩ => ⟨S4x2048x16x128, .f32⟩
  | .hbm, ⟨53, _⟩ => ⟨S1x2048x1x128, .f32⟩
  | .hbm, ⟨54, _⟩ => ⟨S4x2048x16x128, .f32⟩
  | .hbm, ⟨55, _⟩ => ⟨S4x2048x16x128, .f32⟩
  | .hbm, ⟨56, _⟩ => ⟨S1x2048x1x128, .f32⟩
  | .hbm, ⟨57, _⟩ => ⟨S4x2048x16x128, .f32⟩
  | .hbm, ⟨58, _⟩ => ⟨S4x2048x16x128, .f32⟩
  | .hbm, ⟨59, _⟩ => ⟨S4x2048x16x128, .f32⟩
  | .hbm, ⟨60, _⟩ => ⟨S8192x2048, .f32⟩
  | .hbm, ⟨61, _⟩ => ⟨S8192x2048, .f32⟩
  | .hbm, ⟨62, _⟩ => ⟨S8192x6144, .f32⟩
  | .hbm, ⟨63, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_4 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩

abbrev nD : Nat := 1
abbrev τ : Topo := Topo.v7x

variable {F : FTy → Type} [FloatOps F]
-- ==== Proof.Attn.Math.lean ====
/-
  Masked softmax averages over the extended reals, with no program in sight.

  A row of scores is a function `Fin n → EReal` that is a real number at the keys a query may see and `⊥` at the others.
  `mean1` is the softmax average of the values over one block of keys, `mean2` over two blocks that share one maximum.
  Both equal the real average `avg` over the visible keys, whatever number was subtracted from the scores, and so does the
  textbook form that divides first and multiplies by the values afterwards.
-/
module

public import Idealize.ShloMosaic.PureOps.Ideal
public import Idealize.ShloMosaic.Lib.WordCmp

@[expose] public section

noncomputable section

namespace Cert.Proof.Attn

open Idealize.ShloMosaic

/-- The largest score of a block, from minus infinity. -/
def top {n : ℕ} (s : Fin n → EReal) : EReal := Finset.univ.fold max (Ideal.ofBits .f32 0xFF800000#32) s

/-- The softmax average of `v` over one block with scores `s`. -/
def mean1 {n : ℕ} (s v : Fin n → EReal) : EReal :=
  Ideal.div (∑ a, v a * Ideal.exp (s a - top s)) (∑ a, Ideal.exp (s a - top s))

/-- The softmax average over two blocks, under their common maximum. -/
def mean2 {n n' : ℕ} (s v : Fin n → EReal) (s' v' : Fin n' → EReal) : EReal :=
  Ideal.div
    (∑ a, v a * Ideal.exp (s a - max (top s) (top s')) + ∑ a, v' a * Ideal.exp (s' a - max (top s) (top s')))
    (∑ a, Ideal.exp (s a - max (top s) (top s')) + ∑ a, Ideal.exp (s' a - max (top s) (top s')))

/-- The real average of `W` over the first `m` keys with weights `e ^ R`. -/
def avg (R W : ℕ → ℝ) (m : ℕ) : ℝ :=
  (∑ k ∈ Finset.range m, W k * Real.exp (R k)) / ∑ k ∈ Finset.range m, Real.exp (R k)

/-- The word of minus infinity is `⊥`. -/
theorem ninf_eq : Ideal.ofBits .f32 0xFF800000#32 = (⊥ : EReal) := by
  simp [Ideal.ofBits, Ideal.ieee]

/-- The mask of two small coordinates compared as words: the score where the key is not after the query, else `w`. -/
theorem mask_word (a x : ℕ) (ha : a < 2048) (hx : x < 2048) (u w : EReal) :
    Scalar.select (IntOp.cmpi .sle (BitVec.ofNat 32 a) (BitVec.ofNat 32 x)) u w = if a ≤ x then u else w := by
  unfold Scalar.select
  rw [WordCmp.cmpi_sle_ofNat (by omega) (by omega)]
  by_cases h : a ≤ x
  · rw [if_pos h, decide_eq_true h, if_pos (by decide)]
  · rw [if_neg h, decide_eq_false h, if_neg (by decide)]

/-- A finite sum of real numbers is the same sum in the extended reals. -/
theorem coe_sum {ι : Type} (S : Finset ι) (f : ι → ℝ) : ((∑ a ∈ S, f a : ℝ) : EReal) = ∑ a ∈ S, (f a : EReal) := by
  classical
  induction S using Finset.induction_on with
  | empty => simp
  | insert a S ha ih => rw [Finset.sum_insert ha, Finset.sum_insert ha, EReal.coe_add, ih]

/-- The largest of scores that are never `⊤` and somewhere not `⊥` is a real number. -/
theorem top_real {n : ℕ} (s : Fin n → EReal) (h1 : ∀ a, s a ≠ ⊤) (a₀ : Fin n) (h2 : s a₀ ≠ ⊥) :
    ∃ M : ℝ, top s = (M : EReal) := by
  have hlt : top s < ⊤ := by
    unfold top; rw [Finset.fold_max_lt, ninf_eq]
    exact ⟨bot_lt_top, fun a _ => lt_top_iff_ne_top.2 (h1 a)⟩
  have hgt : ⊥ < top s := by
    unfold top; rw [Finset.lt_fold_max]
    exact Or.inr ⟨a₀, Finset.mem_univ _, bot_lt_iff_ne_bot.2 h2⟩
  exact ⟨(top s).toReal, (EReal.coe_toReal hlt.ne hgt.ne').symm⟩

/-- One masked weight. -/
theorem weight (p : Prop) [Decidable p] (r M : ℝ) :
    Ideal.exp ((if p then (r : EReal) else ⊥) - (M : EReal)) = ((if p then Real.exp (r - M) else 0 : ℝ) : EReal) := by
  by_cases h : p
  · simp only [if_pos h]; rw [← EReal.coe_sub, Ideal.exp_coe]
  · simp only [if_neg h]; rw [EReal.bot_sub, Ideal.exp_bot, EReal.coe_zero]

/-- A sum over the coordinates below a bound is a sum over a range. -/
theorem sum_mask {n m : ℕ} (hm : m ≤ n) (f : ℕ → ℝ) :
    (∑ a : Fin n, if a.val < m then f a.val else 0) = ∑ k ∈ Finset.range m, f k := by
  rw [Fin.sum_univ_eq_sum_range (fun k => if k < m then f k else 0) n, ← Finset.sum_filter]
  congr 1
  ext k; simp only [Finset.mem_filter, Finset.mem_range]; omega

/-- The numerator of a masked block, shifted by `M`. -/
theorem num_mask {n x : ℕ} (hx : x < n) (R W : ℕ → ℝ) (s v : Fin n → EReal)
    (hs : ∀ a, s a = if a.val ≤ x then (R a.val : EReal) else ⊥) (hv : ∀ a, v a = (W a.val : EReal)) (M : ℝ) :
    ∑ a, v a * Ideal.exp (s a - (M : EReal)) = ((∑ k ∈ Finset.range (x + 1), W k * Real.exp (R k - M) : ℝ) : EReal) := by
  rw [← sum_mask (n := n) (by omega), coe_sum]
  refine Finset.sum_congr rfl fun a _ => ?_
  rw [hs, hv, weight, ← EReal.coe_mul]
  congr 1
  by_cases h : a.val ≤ x
  · rw [if_pos h, if_pos (by omega)]
  · rw [if_neg h, if_neg (by omega), mul_zero]

/-- The denominator of a masked block, shifted by `M`. -/
theorem den_mask {n x : ℕ} (hx : x < n) (R : ℕ → ℝ) (s : Fin n → EReal)
    (hs : ∀ a, s a = if a.val ≤ x then (R a.val : EReal) else ⊥) (M : ℝ) :
    ∑ a, Ideal.exp (s a - (M : EReal)) = ((∑ k ∈ Finset.range (x + 1), Real.exp (R k - M) : ℝ) : EReal) := by
  have h := num_mask hx R (fun _ => 1) s (fun _ => ((1 : ℝ) : EReal)) hs (fun _ => rfl) M
  simpa only [EReal.coe_one, one_mul] using h

/-- The numerator of a block whose keys are all visible. -/
theorem num_full {n : ℕ} (R W : ℕ → ℝ) (s v : Fin n → EReal)
    (hs : ∀ a, s a = (R a.val : EReal)) (hv : ∀ a, v a = (W a.val : EReal)) (M : ℝ) :
    ∑ a, v a * Ideal.exp (s a - (M : EReal)) = ((∑ k ∈ Finset.range n, W k * Real.exp (R k - M) : ℝ) : EReal) := by
  rw [← Fin.sum_univ_eq_sum_range (fun k => W k * Real.exp (R k - M)) n, coe_sum]
  refine Finset.sum_congr rfl fun a _ => ?_
  rw [hs, hv, ← EReal.coe_sub, Ideal.exp_coe, ← EReal.coe_mul]

/-- The denominator of a block whose keys are all visible. -/
theorem den_full {n : ℕ} (R : ℕ → ℝ) (s : Fin n → EReal) (hs : ∀ a, s a = (R a.val : EReal)) (M : ℝ) :
    ∑ a, Ideal.exp (s a - (M : EReal)) = ((∑ k ∈ Finset.range n, Real.exp (R k - M) : ℝ) : EReal) := by
  have h := num_full R (fun _ => 1) s (fun _ => ((1 : ℝ) : EReal)) hs (fun _ => rfl) M
  simpa only [EReal.coe_one, one_mul] using h

/-- A sum of exponentials over a nonempty range is positive. -/
theorem den_pos (R : ℕ → ℝ) {m : ℕ} (hm : 0 < m) : 0 < ∑ k ∈ Finset.range m, Real.exp (R k) :=
  Finset.sum_pos (fun _ _ => Real.exp_pos _) ⟨0, Finset.mem_range.2 hm⟩

/-- The number subtracted from the scores cancels. -/
theorem avg_shift (R W : ℕ → ℝ) (m : ℕ) (M : ℝ) :
    (∑ k ∈ Finset.range m, W k * Real.exp (R k - M)) / (∑ k ∈ Finset.range m, Real.exp (R k - M)) = avg R W m := by
  have h1 : ∀ k, Real.exp (R k - M) = Real.exp (R k) * Real.exp (-M) := fun k => by rw [← Real.exp_add]; rfl
  unfold avg
  simp only [h1, ← mul_assoc, ← Finset.sum_mul]
  exact mul_div_mul_right _ _ (Real.exp_pos _).ne'

/-- Division of real numbers, the divisor not zero. -/
theorem div_real (a b : ℝ) (hb : b ≠ 0) : Ideal.div (a : EReal) (b : EReal) = ((a / b : ℝ) : EReal) := by
  rw [Ideal.div_coe hb, ← EReal.coe_mul, mul_one_div]

/-- The masked scores of a row are never `⊤`, and key `0` is visible: their maximum is real. -/
theorem top_mask {n x : ℕ} (hx : x < n) (R : ℕ → ℝ) (s : Fin n → EReal)
    (hs : ∀ a, s a = if a.val ≤ x then (R a.val : EReal) else ⊥) : ∃ M : ℝ, top s = (M : EReal) := by
  refine top_real s (fun a => ?_) ⟨0, by omega⟩ ?_
  · rw [hs]; split
    · exact EReal.coe_ne_top _
    · exact bot_ne_top
  · rw [hs, if_pos (Nat.zero_le _)]; exact EReal.coe_ne_bot _

/-- The scores of a nonempty visible block have a real maximum. -/
theorem top_full {n : ℕ} (hn : 0 < n) (R : ℕ → ℝ) (s : Fin n → EReal) (hs : ∀ a, s a = (R a.val : EReal)) :
    ∃ M : ℝ, top s = (M : EReal) := by
  refine top_real s (fun a => ?_) ⟨0, hn⟩ ?_
  · rw [hs]; exact EReal.coe_ne_top _
  · rw [hs]; exact EReal.coe_ne_bot _

/-- One masked block: the average over the visible keys. -/
theorem mean1_eq {n x : ℕ} (hx : x < n) (R W : ℕ → ℝ) (s v : Fin n → EReal)
    (hs : ∀ a, s a = if a.val ≤ x then (R a.val : EReal) else ⊥) (hv : ∀ a, v a = (W a.val : EReal)) :
    mean1 s v = (avg R W (x + 1) : EReal) := by
  obtain ⟨M, hM⟩ := top_mask hx R s hs
  unfold mean1
  rw [hM, num_mask hx R W s v hs hv, den_mask hx R s hs, div_real _ _ (den_pos (fun k => R k - M) (Nat.succ_pos x)).ne',
    avg_shift]

/-- A masked diagonal block after `n'` visible keys: the average over all visible keys. -/
theorem mean2_eq {n n' x : ℕ} (hx : x < n) (hn' : 0 < n') (R W : ℕ → ℝ) (s v : Fin n → EReal) (s' v' : Fin n' → EReal)
    (hs : ∀ a, s a = if a.val ≤ x then (R (n' + a.val) : EReal) else ⊥) (hv : ∀ a, v a = (W (n' + a.val) : EReal))
    (hs' : ∀ a, s' a = (R a.val : EReal)) (hv' : ∀ a, v' a = (W a.val : EReal)) :
    mean2 s v s' v' = (avg R W (n' + (x + 1)) : EReal) := by
  obtain ⟨M₁, h₁⟩ := top_mask hx (fun k => R (n' + k)) s hs
  obtain ⟨M₂, h₂⟩ := top_full hn' R s' hs'
  have hM : max (top s) (top s') = ((max M₁ M₂ : ℝ) : EReal) := by rw [h₁, h₂]; exact (EReal.coe_strictMono.monotone.map_max).symm
  unfold mean2
  rw [hM, num_mask hx (fun k => R (n' + k)) (fun k => W (n' + k)) s v hs hv, den_mask hx (fun k => R (n' + k)) s hs,
    num_full R W s' v' hs' hv', den_full R s' hs', ← EReal.coe_add, ← EReal.coe_add]
  have h1 := Finset.sum_range_add (fun k => W k * Real.exp (R k - max M₁ M₂)) n' (x + 1)
  have h2 := Finset.sum_range_add (fun k => Real.exp (R k - max M₁ M₂)) n' (x + 1)
  rw [add_comm (∑ k ∈ Finset.range (x + 1), _) (∑ k ∈ Finset.range n', _),
    add_comm (∑ k ∈ Finset.range (x + 1), _) (∑ k ∈ Finset.range n', _), ← h1, ← h2,
    div_real _ _ (den_pos (fun k => R k - max M₁ M₂) (by omega)).ne', avg_shift]

/-- The textbook form: two softmax rows are divided by their sums, subtracted with a factor and multiplied by the values. -/
theorem mix_eq {n x : ℕ} (hx : x < n) (R₀ R₁ W : ℕ → ℝ) (s₀ s₁ v : Fin n → EReal) (l : ℝ)
    (h₀ : ∀ a, s₀ a = if a.val ≤ x then (R₀ a.val : EReal) else ⊥)
    (h₁ : ∀ a, s₁ a = if a.val ≤ x then (R₁ a.val : EReal) else ⊥) (hv : ∀ a, v a = (W a.val : EReal)) :
    ∑ a, (Ideal.div (Ideal.exp (s₀ a - top s₀)) (∑ b, Ideal.exp (s₀ b - top s₀))
        - (l : EReal) * Ideal.div (Ideal.exp (s₁ a - top s₁)) (∑ b, Ideal.exp (s₁ b - top s₁))) * v a
      = ((avg R₀ W (x + 1) - l * avg R₁ W (x + 1) : ℝ) : EReal) := by
  obtain ⟨M₀, t₀⟩ := top_mask hx R₀ s₀ h₀
  obtain ⟨M₁, t₁⟩ := top_mask hx R₁ s₁ h₁
  rw [t₀, t₁, den_mask hx R₀ s₀ h₀, den_mask hx R₁ s₁ h₁, ← avg_shift R₀ W (x + 1) M₀, ← avg_shift R₁ W (x + 1) M₁]
  set D₀ := ∑ k ∈ Finset.range (x + 1), Real.exp (R₀ k - M₀) with hD₀
  set D₁ := ∑ k ∈ Finset.range (x + 1), Real.exp (R₁ k - M₁) with hD₁
  have p₀ : D₀ ≠ 0 := (den_pos (fun k => R₀ k - M₀) (Nat.succ_pos x)).ne'
  have p₁ : D₁ ≠ 0 := (den_pos (fun k => R₁ k - M₁) (Nat.succ_pos x)).ne'
  have key : ∀ a : Fin n, (Ideal.div (Ideal.exp (s₀ a - (M₀ : EReal))) (D₀ : EReal)
        - (l : EReal) * Ideal.div (Ideal.exp (s₁ a - (M₁ : EReal))) (D₁ : EReal)) * v a
      = ((if a.val < x + 1 then
            (W a.val * Real.exp (R₀ a.val - M₀)) / D₀ - l * ((W a.val * Real.exp (R₁ a.val - M₁)) / D₁) else 0 : ℝ) : EReal) := by
    intro a
    rw [h₀, h₁, hv, weight, weight, div_real _ _ p₀, div_real _ _ p₁, ← EReal.coe_mul, ← EReal.coe_sub, ← EReal.coe_mul]
    congr 1
    by_cases h : a.val ≤ x
    · simp only [if_pos h, if_pos (show a.val < x + 1 by omega)]; ring
    · simp only [if_neg h, if_neg (show ¬ a.val < x + 1 by omega)]; ring
  simp only [key]
  rw [← coe_sum, sum_mask (n := n) (m := x + 1) (by omega)
    (fun k => W k * Real.exp (R₀ k - M₀) / D₀ - l * (W k * Real.exp (R₁ k - M₁) / D₁)),
    Finset.sum_sub_distrib, ← Finset.mul_sum, ← Finset.sum_div, ← Finset.sum_div]

end Cert.Proof.Attn

end
-- ==== Proof.Attn.Body.lean ====
/-
  What one grid point of the differential attention writes, read at an index.

  A point holds 512 query rows of one head. It scores them against the keys of their own block, masked above the diagonal,
  and against every key of the blocks before it, and does so for the two sub-heads. The four cases of the body differ only in
  how many keys come before: 0, 512, 1024 or 1536. Each is read here as the difference of two softmax averages (`Attn.mean1`,
  `Attn.mean2`), normalised over the 256 features.
-/
module

public import proofs.«01_k».proof.Defs
public import proofs.«01_k».proof.Proof.Attn.Math
public import proofs.«01_k».proof.Proof.Gen.KernelIdeal.Value
public import Idealize.ShloMosaic.Lib.Pointwise
public import Idealize.ShloMosaic.Lib.ValueIdx

@[expose] public section

set_option maxRecDepth 16384

noncomputable section

namespace Cert.Proof.Attn

open Idealize.ShloMosaic Idealize.SL.Sem Cert.KernelIdeal Cert.KernelIdeal.Gen Idealize.ShloMosaic.TcCoe

/-- The score of query row `x` against key row `a`. -/
def dotRow {n : ℕ} (k : (⟨2, ![n, 128]⟩ : Shape).Idx → EReal) (q : (⟨2, ![512, 128]⟩ : Shape).Idx → EReal)
    (x : Fin 512) (a : Fin n) : EReal := ∑ d : Fin 128, k (ix2 a d) * q (ix2 x d)

/-- The same within the diagonal block, where a key after the query is masked. -/
def diagRow (k q : (⟨2, ![512, 128]⟩ : Shape).Idx → EReal) (x a : Fin 512) : EReal :=
  if a.val ≤ x.val then dotRow k q x a else ⊥

/-- The weight of the second softmax, from the four vectors. -/
def lam (L : (⟨2, ![4, 128]⟩ : Shape).Idx → EReal) : EReal :=
  Ideal.exp (∑ d, L (ix2 0 d) * L (ix2 1 d)) - Ideal.exp (∑ d, L (ix2 2 d) * L (ix2 3 d)) + Ideal.ofBits .f32 0x3E4CCCCD#32

/-- Division by the root mean square over the 256 features. -/
def rmsOf (o : Fin 256 → EReal) (y : Fin 256) : EReal :=
  o y * Ideal.rsqrt (Ideal.div (∑ y', o y' * o y') (Ideal.ofBits .f32 0x43800000#32) + Ideal.ofBits .f32 0x358637BD#32)

/-- The normalised row, scaled by the feature's weight and by one minus the initial lambda. -/
def finish (o : Fin 256 → EReal) (g : EReal) (y : Fin 256) : EReal := rmsOf o y * g * Ideal.ofBits .f32 0x3F4CCCCD#32

/-- The mask of the diagonal block: the score where the key is not after the query, else minus infinity. -/
theorem mask_select (a x : Fin 512) (u : EReal) :
    Scalar.select (IntOp.cmpi .sle (BitVec.ofNat 32 a.val) (BitVec.ofNat 32 x.val)) u
      (Named.named (F := Ideal) (φ := .f32) κ "mask" 0xF149F2CA#32 : EReal) = if a.val ≤ x.val then u else ⊥ := by
  have hm : Named.named (F := Ideal) (φ := .f32) κ "mask" 0xF149F2CA#32 = (⊥ : EReal) :=
    IdealRules.named_const.ideal_named_scalar _ _ _ _ rfl
  rw [hm]
  exact mask_word a.val x.val (by omega) (by omega) u ⊥

/-- The lambda of the payload. -/
theorem pay1_apply (v0 : Vec Ideal S4x128 .f32) : k0_pay1 (F := Ideal) v0 (ix2 0 0) = lam v0 := by
  pointwise [k0_pay1]
  rfl

/-- The difference of the two averages when no block comes before. -/
def diffA (l : EReal) (k₀ k₁ q₀ q₁ : (⟨2, ![512, 128]⟩ : Shape).Idx → EReal) (v : (⟨2, ![512, 256]⟩ : Shape).Idx → EReal)
    (x : Fin 512) (y : Fin 256) : EReal :=
  mean1 (diagRow k₀ q₀ x) (fun a => v (ix2 a y)) - l * mean1 (diagRow k₁ q₁ x) (fun a => v (ix2 a y))

/-- The difference of the two averages when `n` visible keys come before. -/
def diffB {n : ℕ} (l : EReal) (k₀ k₁ q₀ q₁ : (⟨2, ![512, 128]⟩ : Shape).Idx → EReal) (v : (⟨2, ![512, 256]⟩ : Shape).Idx → EReal)
    (f₀ f₁ : (⟨2, ![n, 128]⟩ : Shape).Idx → EReal) (w : (⟨2, ![n, 256]⟩ : Shape).Idx → EReal) (x : Fin 512) (y : Fin 256) : EReal :=
  mean2 (diagRow k₀ q₀ x) (fun a => v (ix2 a y)) (dotRow f₀ q₀ x) (fun a => w (ix2 a y))
    - l * mean2 (diagRow k₁ q₁ x) (fun a => v (ix2 a y)) (dotRow f₁ q₁ x) (fun a => w (ix2 a y))

/-- The first block's difference, from its payload. -/
theorem pay7_apply (l : FVec Ideal S1x1 .f32) (q₀ q₁ k₀ k₁ : Vec Ideal S512x128 .bf16) (v : Vec Ideal S512x256 .bf16)
    (x : Fin 512) (y : Fin 256) :
    k0_pay7 (F := Ideal) l k0_pay2 q₀ q₁ k₀ k₁ v v (ix2 y x) = diffA (l (ix2 0 0)) k₀ k₁ q₀ q₁ v x y := by
  pointwise [k0_pay7, k0_pay2]
  simp only [mask_select]
  rfl

/-- The first block's rows as written, from its payloads. -/
theorem blockA_apply (l : FVec Ideal S1x1 .f32) (q₀ q₁ k₀ k₁ : Vec Ideal S512x128 .bf16) (v : Vec Ideal S512x256 .bf16)
    (g : Vec Ideal S256x1 .f32) (x : Fin 512) (y : Fin 256) :
    k0_pay3 (F := Ideal) (k0_pay7 l k0_pay2 q₀ q₁ k₀ k₁ v v) (k0_pay8 l k0_pay2 q₀ q₁ k₀ k₁ v v) g (ix2 x y)
      = finish (diffA (l (ix2 0 0)) k₀ k₁ q₀ q₁ v x) (g (ix2 y 0)) y := by
  pointwise [k0_pay3, k0_pay8]
  simp only [pay7_apply]
  rfl

/-- The rows written after 512 visible keys, from their payloads. -/
theorem blockB_apply (l : FVec Ideal S1x1 .f32) (q₀ q₁ k₀ k₁ : Vec Ideal S512x128 .bf16) (v : Vec Ideal S512x256 .bf16)
    (f₀ f₁ : Vec Ideal S512x128 .bf16) (w : Vec Ideal S512x256 .bf16) (g : Vec Ideal S256x1 .f32) (x : Fin 512) (y : Fin 256) :
    k0_pay4 (F := Ideal) (k0_pay18 l (k0_pay10 k0_pay2 q₁ k₁) (k0_pay12 q₁ f₁) (k0_pay15 k0_pay2 q₀ k₀ f₀ v) (k0_pay16 k0_pay2 q₀ k₀ f₀)
        (k0_pay17 k0_pay2 q₀ k₀ f₀) w v w) g (ix2 x y)
      = finish (diffB (l (ix2 0 0)) k₀ k₁ q₀ q₁ v f₀ f₁ w x) (g (ix2 y 0)) y := by
  have h : ∀ y : Fin 256, k0_pay18 (F := Ideal) l (k0_pay10 k0_pay2 q₁ k₁) (k0_pay12 q₁ f₁) (k0_pay15 k0_pay2 q₀ k₀ f₀ v)
        (k0_pay16 k0_pay2 q₀ k₀ f₀) (k0_pay17 k0_pay2 q₀ k₀ f₀) w v w (ix2 y x)
      = rmsOf (diffB (l (ix2 0 0)) k₀ k₁ q₀ q₁ v f₀ f₁ w x) y := by
    intro y
    pointwise [k0_pay9, k0_pay10, k0_pay11, k0_pay12, k0_pay13, k0_pay14, k0_pay15, k0_pay16, k0_pay17, k0_pay18, k0_pay2]
    simp only [mask_select]
    rfl
  pointwise [k0_pay4]
  simp only [h]
  rfl

/-- The rows written after 1024 visible keys, from their payloads. -/
theorem blockC_apply (l : FVec Ideal S1x1 .f32) (q₀ q₁ k₀ k₁ : Vec Ideal S512x128 .bf16) (v : Vec Ideal S512x256 .bf16)
    (f₀ f₁ : Vec Ideal S1024x128 .bf16) (w : Vec Ideal S1024x256 .bf16) (g : Vec Ideal S256x1 .f32) (x : Fin 512) (y : Fin 256) :
    k0_pay5 (F := Ideal) (k0_pay28 l (k0_pay20 k0_pay2 q₁ k₁) (k0_pay22 q₁ f₁) (k0_pay25 k0_pay2 q₀ k₀ f₀ v) (k0_pay26 k0_pay2 q₀ k₀ f₀)
        (k0_pay27 k0_pay2 q₀ k₀ f₀) w v w) g (ix2 x y)
      = finish (diffB (l (ix2 0 0)) k₀ k₁ q₀ q₁ v f₀ f₁ w x) (g (ix2 y 0)) y := by
  have h : ∀ y : Fin 256, k0_pay28 (F := Ideal) l (k0_pay20 k0_pay2 q₁ k₁) (k0_pay22 q₁ f₁) (k0_pay25 k0_pay2 q₀ k₀ f₀ v)
        (k0_pay26 k0_pay2 q₀ k₀ f₀) (k0_pay27 k0_pay2 q₀ k₀ f₀) w v w (ix2 y x)
      = rmsOf (diffB (l (ix2 0 0)) k₀ k₁ q₀ q₁ v f₀ f₁ w x) y := by
    intro y
    pointwise [k0_pay19, k0_pay20, k0_pay21, k0_pay22, k0_pay23, k0_pay24, k0_pay25, k0_pay26, k0_pay27, k0_pay28, k0_pay2]
    simp only [mask_select]
    rfl
  pointwise [k0_pay5]
  simp only [h]
  rfl

/-- The rows written after 1536 visible keys, from their payloads. -/
theorem blockD_apply (l : FVec Ideal S1x1 .f32) (q₀ q₁ k₀ k₁ : Vec Ideal S512x128 .bf16) (v : Vec Ideal S512x256 .bf16)
    (f₀ f₁ : Vec Ideal S1536x128 .bf16) (w : Vec Ideal S1536x256 .bf16) (g : Vec Ideal S256x1 .f32) (x : Fin 512) (y : Fin 256) :
    k0_pay6 (F := Ideal) (k0_pay38 l (k0_pay30 k0_pay2 q₁ k₁) (k0_pay32 q₁ f₁) (k0_pay35 k0_pay2 q₀ k₀ f₀ v) (k0_pay36 k0_pay2 q₀ k₀ f₀)
        (k0_pay37 k0_pay2 q₀ k₀ f₀) w v w) g (ix2 x y)
      = finish (diffB (l (ix2 0 0)) k₀ k₁ q₀ q₁ v f₀ f₁ w x) (g (ix2 y 0)) y := by
  have h : ∀ y : Fin 256, k0_pay38 (F := Ideal) l (k0_pay30 k0_pay2 q₁ k₁) (k0_pay32 q₁ f₁) (k0_pay35 k0_pay2 q₀ k₀ f₀ v)
        (k0_pay36 k0_pay2 q₀ k₀ f₀) (k0_pay37 k0_pay2 q₀ k₀ f₀) w v w (ix2 y x)
      = rmsOf (diffB (l (ix2 0 0)) k₀ k₁ q₀ q₁ v f₀ f₁ w x) y := by
    intro y
    pointwise [k0_pay29, k0_pay30, k0_pay31, k0_pay32, k0_pay33, k0_pay34, k0_pay35, k0_pay36, k0_pay37, k0_pay38, k0_pay2]
    simp only [mask_select]
    rfl
  pointwise [k0_pay6]
  simp only [h]
  rfl

/-- The rows of a two-axis array from `r` on and its columns from `o` on. -/
def cut {R C n m : ℕ} (X : (⟨2, ![R, C]⟩ : Shape).Idx → EReal) (r o : ℕ) (hr : r + n ≤ R) (ho : o + m ≤ C) :
    (⟨2, ![n, m]⟩ : Shape).Idx → EReal :=
  fun i => X (ix2 ⟨r + (i 0).val, lt_of_lt_of_le (Nat.add_lt_add_left (i 0).isLt r) hr⟩
    ⟨o + (i 1).val, lt_of_lt_of_le (Nat.add_lt_add_left (i 1).isLt o) ho⟩)

/-- A load of a sub-rectangle is that cut. -/
theorem ld_cut {R C n m : ℕ} (X : Vec Ideal ⟨2, ![R, C]⟩ .bf16) (r o : ℕ)
    (inb : ∀ a, (![r, o] : Fin 2 → ℕ) a + (![n, m] : Fin 2 → ℕ) a ≤ (⟨2, ![R, C]⟩ : Shape).size a) :
    View.ld X (Rect.unit ![r, o] ![n, m] inb) = cut X r o (inb 0) (inb 1) := by
  funext i
  show X _ = X _
  congr 1
  funext a
  match a with
  | ⟨0, _⟩ => exact Fin.ext (congrArg (r + ·) (Nat.one_mul _))
  | ⟨1, _⟩ => exact Fin.ext (congrArg (o + ·) (Nat.one_mul _))

section Out
variable (c : Dev nD) (t : Fin cfg0.N) (x0 : Vec Ideal S4x128 .f32) (x1 : Vec Ideal S256x1 .f32)
  (x2 : Vec Ideal S512x256 .bf16) (x3 x4 : Vec Ideal S2048x256 .bf16)

/-- What case A (0 keys before the block) leaves in the output block. -/
theorem outA (hc0 hc1 hc2 hc3) (x : Fin 512) (y : Fin 256) :
    out0_A_5 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) hc0 hc1 hc2 hc3 x0 x1 x2 x3 x4 (ix2 x y)
      = finish (diffA (lam x0) (cut x3 0 0 (by omega) (by omega)) (cut x3 0 128 (by omega) (by omega)) (cut x2 0 0 (by omega) (by omega)) (cut x2 0 128 (by omega) (by omega)) (cut x4 0 0 (by omega) (by omega)) x) (x1 (ix2 y 0)) y := by
  unfold out0_A_5
  rw [View.read_writes_eq_canon _ _ _ (cover0_A_5 c (grid0.coords t) (ms0_0 t) (hs0_0 t) (ms0_1 t) (hs0_1 t) (ms0_2 t) (hs0_2 t) (ms0_3 t) (hs0_3 t)
      (ms0_4 t) (hs0_4 t) (ms0_5 t) (hs0_5 t)
      hc0 hc1 hc2 hc3 x0 x1 x2 x3 x4)]
  unfold kernelRun0_A
  dsimp only
  sl_unfold_words
  simp only [View.readAt_eq_ld, (hs0_0 t).read_unread, (hs0_1 t).read_unread, (hs0_2 t).read_unread, (hs0_3 t).read_unread,
    (hs0_4 t).read_unread]
  have hz : (![0, 0] : Fin S512x256.rank → Nat) = fun _ => 0 := funext fun a => by fin_cases a <;> rfl
  have hz0 : (![0, 0] : Fin S4x128.rank → Nat) = fun _ => 0 := funext fun a => by fin_cases a <;> rfl
  have hz1 : (![0, 0] : Fin S256x1.rank → Nat) = fun _ => 0 := funext fun a => by fin_cases a <;> rfl
  rw [View.canon_unit_zero hz, View.ld_unit_zero hz0, View.ld_unit_zero hz1]
  refine (blockA_apply _ _ _ _ _ _ _ x y).trans ?_
  rw [pay1_apply]
  simp only [ld_cut]
  rfl

/-- What case B (512 keys before the block) leaves in the output block. -/
theorem outB (hc0 hc1 hc2 hc3) (x : Fin 512) (y : Fin 256) :
    out0_B_5 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) hc0 hc1 hc2 hc3 x0 x1 x2 x3 x4 (ix2 x y)
      = finish (diffB (n := 512) (lam x0) (cut x3 512 0 (by omega) (by omega)) (cut x3 512 128 (by omega) (by omega)) (cut x2 0 0 (by omega) (by omega)) (cut x2 0 128 (by omega) (by omega)) (cut x4 512 0 (by omega) (by omega))
        (cut x3 0 0 (by omega) (by omega)) (cut x3 0 128 (by omega) (by omega)) (cut x4 0 0 (by omega) (by omega)) x) (x1 (ix2 y 0)) y := by
  unfold out0_B_5
  rw [View.read_writes_eq_canon _ _ _ (cover0_B_5 c (grid0.coords t) (ms0_0 t) (hs0_0 t) (ms0_1 t) (hs0_1 t) (ms0_2 t) (hs0_2 t) (ms0_3 t) (hs0_3 t)
      (ms0_4 t) (hs0_4 t) (ms0_5 t) (hs0_5 t)
      hc0 hc1 hc2 hc3 x0 x1 x2 x3 x4)]
  unfold kernelRun0_B
  dsimp only
  sl_unfold_words
  simp only [View.readAt_eq_ld, (hs0_0 t).read_unread, (hs0_1 t).read_unread, (hs0_2 t).read_unread, (hs0_3 t).read_unread,
    (hs0_4 t).read_unread]
  have hz : (![0, 0] : Fin S512x256.rank → Nat) = fun _ => 0 := funext fun a => by fin_cases a <;> rfl
  have hz0 : (![0, 0] : Fin S4x128.rank → Nat) = fun _ => 0 := funext fun a => by fin_cases a <;> rfl
  have hz1 : (![0, 0] : Fin S256x1.rank → Nat) = fun _ => 0 := funext fun a => by fin_cases a <;> rfl
  rw [View.canon_unit_zero hz, View.ld_unit_zero hz0, View.ld_unit_zero hz1]
  refine (blockB_apply _ _ _ _ _ _ _ _ _ _ x y).trans ?_
  rw [pay1_apply]
  simp only [ld_cut]
  rfl

/-- What case C (1024 keys before the block) leaves in the output block. -/
theorem outC (hc0 hc1 hc2 hc3) (x : Fin 512) (y : Fin 256) :
    out0_C_5 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) hc0 hc1 hc2 hc3 x0 x1 x2 x3 x4 (ix2 x y)
      = finish (diffB (n := 1024) (lam x0) (cut x3 1024 0 (by omega) (by omega)) (cut x3 1024 128 (by omega) (by omega)) (cut x2 0 0 (by omega) (by omega)) (cut x2 0 128 (by omega) (by omega)) (cut x4 1024 0 (by omega) (by omega))
        (cut x3 0 0 (by omega) (by omega)) (cut x3 0 128 (by omega) (by omega)) (cut x4 0 0 (by omega) (by omega)) x) (x1 (ix2 y 0)) y := by
  unfold out0_C_5
  rw [View.read_writes_eq_canon _ _ _ (cover0_C_5 c (grid0.coords t) (ms0_0 t) (hs0_0 t) (ms0_1 t) (hs0_1 t) (ms0_2 t) (hs0_2 t) (ms0_3 t) (hs0_3 t)
      (ms0_4 t) (hs0_4 t) (ms0_5 t) (hs0_5 t)
      hc0 hc1 hc2 hc3 x0 x1 x2 x3 x4)]
  unfold kernelRun0_C
  dsimp only
  sl_unfold_words
  simp only [View.readAt_eq_ld, (hs0_0 t).read_unread, (hs0_1 t).read_unread, (hs0_2 t).read_unread, (hs0_3 t).read_unread,
    (hs0_4 t).read_unread]
  have hz : (![0, 0] : Fin S512x256.rank → Nat) = fun _ => 0 := funext fun a => by fin_cases a <;> rfl
  have hz0 : (![0, 0] : Fin S4x128.rank → Nat) = fun _ => 0 := funext fun a => by fin_cases a <;> rfl
  have hz1 : (![0, 0] : Fin S256x1.rank → Nat) = fun _ => 0 := funext fun a => by fin_cases a <;> rfl
  rw [View.canon_unit_zero hz, View.ld_unit_zero hz0, View.ld_unit_zero hz1]
  refine (blockC_apply _ _ _ _ _ _ _ _ _ _ x y).trans ?_
  rw [pay1_apply]
  simp only [ld_cut]
  rfl

/-- What case D (1536 keys before the block) leaves in the output block. -/
theorem outD (hc0 hc1 hc2 hc3) (x : Fin 512) (y : Fin 256) :
    out0_D_5 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) hc0 hc1 hc2 hc3 x0 x1 x2 x3 x4 (ix2 x y)
      = finish (diffB (n := 1536) (lam x0) (cut x3 1536 0 (by omega) (by omega)) (cut x3 1536 128 (by omega) (by omega)) (cut x2 0 0 (by omega) (by omega)) (cut x2 0 128 (by omega) (by omega)) (cut x4 1536 0 (by omega) (by omega))
        (cut x3 0 0 (by omega) (by omega)) (cut x3 0 128 (by omega) (by omega)) (cut x4 0 0 (by omega) (by omega)) x) (x1 (ix2 y 0)) y := by
  unfold out0_D_5
  rw [View.read_writes_eq_canon _ _ _ (cover0_D_5 c (grid0.coords t) (ms0_0 t) (hs0_0 t) (ms0_1 t) (hs0_1 t) (ms0_2 t) (hs0_2 t) (ms0_3 t) (hs0_3 t)
      (ms0_4 t) (hs0_4 t) (ms0_5 t) (hs0_5 t)
      hc0 hc1 hc2 hc3 x0 x1 x2 x3 x4)]
  unfold kernelRun0_D
  dsimp only
  sl_unfold_words
  simp only [View.readAt_eq_ld, (hs0_0 t).read_unread, (hs0_1 t).read_unread, (hs0_2 t).read_unread, (hs0_3 t).read_unread,
    (hs0_4 t).read_unread]
  have hz : (![0, 0] : Fin S512x256.rank → Nat) = fun _ => 0 := funext fun a => by fin_cases a <;> rfl
  have hz0 : (![0, 0] : Fin S4x128.rank → Nat) = fun _ => 0 := funext fun a => by fin_cases a <;> rfl
  have hz1 : (![0, 0] : Fin S256x1.rank → Nat) = fun _ => 0 := funext fun a => by fin_cases a <;> rfl
  rw [View.canon_unit_zero hz, View.ld_unit_zero hz0, View.ld_unit_zero hz1]
  refine (blockD_apply _ _ _ _ _ _ _ _ _ _ x y).trans ?_
  rw [pay1_apply]
  simp only [ld_cut]
  rfl

end Out

end Cert.Proof.Attn

end
-- ==== Proof.Attn.Spec.lean ====
/-
  The differential attention as one function of its arguments.

  An argument row holds, for each head, 256 query features, and further on 256 key features and 256 value features. The
  256 query and key features are two sub-heads of 128. `spec` is the output at a row and a feature: the first sub-head's
  average of the values over the keys up to the row, less lambda times the second's, normalised over the head's 256 features.
-/
module

public import proofs.«01_k».proof.Proof.Attn.Body

@[expose] public section

set_option maxRecDepth 16384

noncomputable section

namespace Cert.Proof.Attn

open Idealize.ShloMosaic Idealize.SL.Sem Idealize.ShloMosaic.TcCoe

/-- An array whose every entry is a real number. -/
def Fin' {S : Shape} (A : S.Idx → EReal) : Prop := ∀ i, A i ≠ ⊥ ∧ A i ≠ ⊤

/-- The entry at row `r` and column `c` as a real number. -/
def X (A : (⟨2, ![8192, 6144]⟩ : Shape).Idx → EReal) (r c : ℕ) : ℝ :=
  if h : r < 8192 ∧ c < 6144 then (A (ix2 ⟨r, h.1⟩ ⟨c, h.2⟩)).toReal else 0

/-- The entry of a finite array is that real number. -/
theorem X_eq {A : (⟨2, ![8192, 6144]⟩ : Shape).Idx → EReal} (hA : Fin' A) (r : Fin 8192) (c : Fin 6144) :
    A (ix2 r c) = (X A r.val c.val : EReal) := by
  unfold X
  rw [dif_pos ⟨r.isLt, c.isLt⟩]
  exact (EReal.coe_toReal (hA _).2 (hA _).1).symm

/-- The score of query `q` against key `k` of batch `b`, head `h`, the sub-head that starts at feature `o`. -/
def score (A : (⟨2, ![8192, 6144]⟩ : Shape).Idx → EReal) (b h o q k : ℕ) : ℝ :=
  ∑ d : Fin 128, X A (b * 2048 + k) (2048 + h * 256 + o + d.val) * X A (b * 2048 + q) (h * 256 + o + d.val)

/-- Feature `y` of the value of key `k`. -/
def value (A : (⟨2, ![8192, 6144]⟩ : Shape).Idx → EReal) (b h y k : ℕ) : ℝ := X A (b * 2048 + k) (4096 + h * 256 + y)

/-- The difference of the two averages at query `q` and feature `y`. -/
def mixed (A : (⟨2, ![8192, 6144]⟩ : Shape).Idx → EReal) (l : ℝ) (b h q y : ℕ) : ℝ :=
  avg (score A b h 0 q) (value A b h y) (q + 1) - l * avg (score A b h 128 q) (value A b h y) (q + 1)

/-- The weight of the second average, from the four vectors. -/
def lamOf (l₁ l₂ l₃ l₄ : (⟨1, ![128]⟩ : Shape).Idx → EReal) : EReal :=
  Ideal.exp (∑ d, l₁ (ix1 d) * l₂ (ix1 d)) - Ideal.exp (∑ d, l₃ (ix1 d) * l₄ (ix1 d)) + Ideal.ofBits .f32 0x3E4CCCCD#32

/-- The output at row `r` and feature `y` of head `h`. -/
def spec (A : (⟨2, ![8192, 6144]⟩ : Shape).Idx → EReal) (l : ℝ) (g : (⟨1, ![256]⟩ : Shape).Idx → EReal)
    (r : ℕ) (h : ℕ) (y : Fin 256) : EReal :=
  finish (fun y' => (mixed A l (r / 2048) h (r % 2048) y'.val : EReal)) (g (ix1 y)) y

/-- The exponential of a sum of products of real numbers is real. -/
theorem exp_dot_real {l₁ l₂ : (⟨1, ![128]⟩ : Shape).Idx → EReal} (h₁ : Fin' l₁) (h₂ : Fin' l₂) :
    ∃ r : ℝ, Ideal.exp (∑ d, l₁ (ix1 d) * l₂ (ix1 d)) = (r : EReal) := by
  refine ⟨Real.exp (∑ d, (l₁ (ix1 d)).toReal * (l₂ (ix1 d)).toReal), ?_⟩
  rw [← Ideal.exp_coe, coe_sum]
  congr 1
  refine Finset.sum_congr rfl fun d _ => ?_
  rw [EReal.coe_mul, EReal.coe_toReal (h₁ _).2 (h₁ _).1, EReal.coe_toReal (h₂ _).2 (h₂ _).1]

/-- The word of the initial lambda is a real number. -/
theorem init_real : ∃ r : ℝ, Ideal.ofBits .f32 0x3E4CCCCD#32 = (r : EReal) := by
  simp [Ideal.ofBits, Ideal.ieee]
  exact ⟨_, rfl⟩

/-- The weight of the second average is real when the four vectors are. -/
theorem lamOf_real {l₁ l₂ l₃ l₄ : (⟨1, ![128]⟩ : Shape).Idx → EReal} (h₁ : Fin' l₁) (h₂ : Fin' l₂) (h₃ : Fin' l₃) (h₄ : Fin' l₄) :
    ∃ r : ℝ, lamOf l₁ l₂ l₃ l₄ = (r : EReal) := by
  obtain ⟨a, ha⟩ := exp_dot_real h₁ h₂
  obtain ⟨b, hb⟩ := exp_dot_real h₃ h₄
  obtain ⟨d, hd⟩ := init_real
  refine ⟨a - b + d, ?_⟩
  unfold lamOf
  rw [ha, hb, hd, EReal.coe_add, EReal.coe_sub]

section Point

variable {A : (⟨2, ![8192, 6144]⟩ : Shape).Idx → EReal}
variable {q : (⟨2, ![512, 256]⟩ : Shape).Idx → EReal} {k v : (⟨2, ![2048, 256]⟩ : Shape).Idx → EReal} {b h n : ℕ}

/-- A score of the point's blocks is a score of the argument. -/
theorem dot_score (hq : ∀ (x : Fin 512) (e : Fin 256), q (ix2 x e) = (X A (b * 2048 + (n + x.val)) (h * 256 + e.val) : EReal))
    (hk : ∀ (a : Fin 2048) (e : Fin 256), k (ix2 a e) = (X A (b * 2048 + a.val) (2048 + h * 256 + e.val) : EReal))
    {w : ℕ} (r o : ℕ) (hr : r + w ≤ 2048) (ho : o + 128 ≤ 256) (h0 : 0 + 512 ≤ 512) (x : Fin 512) (a : Fin w) :
    dotRow (cut k r o hr ho) (cut q 0 o h0 ho) x a = (score A b h o (n + x.val) (r + a.val) : EReal) := by
  unfold dotRow score
  rw [coe_sum]
  refine Finset.sum_congr rfl fun d _ => ?_
  unfold cut
  rw [hq, hk, ← EReal.coe_mul]
  simp only [Nat.zero_add, Nat.add_assoc]
  rfl

/-- A value of the point's block is a value of the argument. -/
theorem cut_value (hv : ∀ (a : Fin 2048) (e : Fin 256), v (ix2 a e) = (X A (b * 2048 + a.val) (4096 + h * 256 + e.val) : EReal))
    {w : ℕ} (r : ℕ) (hr : r + w ≤ 2048) (ho : 0 + 256 ≤ 256) (a : Fin w) (y : Fin 256) :
    cut v r 0 hr ho (ix2 a y) = (value A b h y.val (r + a.val) : EReal) := by
  unfold cut value
  rw [hv]
  simp only [Nat.zero_add]
  rfl

/-- The first block's point computes the difference of the averages. -/
theorem diffA_mixed (hq : ∀ (x : Fin 512) (e : Fin 256), q (ix2 x e) = (X A (b * 2048 + (0 + x.val)) (h * 256 + e.val) : EReal))
    (hk : ∀ (a : Fin 2048) (e : Fin 256), k (ix2 a e) = (X A (b * 2048 + a.val) (2048 + h * 256 + e.val) : EReal))
    (hv : ∀ (a : Fin 2048) (e : Fin 256), v (ix2 a e) = (X A (b * 2048 + a.val) (4096 + h * 256 + e.val) : EReal))
    (l : ℝ) (x : Fin 512) (y : Fin 256) (h1 h2 h3 h4 h6 h7) :
    diffA l (cut k 0 0 h1 h2) (cut k 0 128 h1 h3) (cut q 0 0 h4 h2) (cut q 0 128 h4 h3) (cut v 0 0 h6 h7) x y
      = (mixed A l b h (0 + x.val) y.val : EReal) := by
  unfold diffA mixed
  rw [mean1_eq x.isLt (score A b h 0 (0 + x.val)) (value A b h y.val),
    mean1_eq x.isLt (score A b h 128 (0 + x.val)) (value A b h y.val)]
  · rw [Nat.zero_add, EReal.coe_sub, EReal.coe_mul]
  · intro a; unfold diagRow; rw [dot_score hq hk, Nat.zero_add a.val]
  · intro a; rw [cut_value hv, Nat.zero_add]
  · intro a; unfold diagRow; rw [dot_score hq hk, Nat.zero_add a.val]
  · intro a; rw [cut_value hv, Nat.zero_add]

/-- A later block's point computes it too. -/
theorem diffB_mixed (hn : 0 < n) (hq : ∀ (x : Fin 512) (e : Fin 256), q (ix2 x e) = (X A (b * 2048 + (n + x.val)) (h * 256 + e.val) : EReal))
    (hk : ∀ (a : Fin 2048) (e : Fin 256), k (ix2 a e) = (X A (b * 2048 + a.val) (2048 + h * 256 + e.val) : EReal))
    (hv : ∀ (a : Fin 2048) (e : Fin 256), v (ix2 a e) = (X A (b * 2048 + a.val) (4096 + h * 256 + e.val) : EReal))
    (l : ℝ) (x : Fin 512) (y : Fin 256) (h1 h2 h3 h4 h5 h6 h7) :
    diffB (n := n) l (cut k n 0 h1 h2) (cut k n 128 h1 h3) (cut q 0 0 h4 h2) (cut q 0 128 h4 h3) (cut v n 0 h6 h7)
      (cut k 0 0 h5 h2) (cut k 0 128 h5 h3) (cut v 0 0 h5 h7) x y
      = (mixed A l b h (n + x.val) y.val : EReal) := by
  unfold diffB mixed
  rw [mean2_eq x.isLt hn (score A b h 0 (n + x.val)) (value A b h y.val),
    mean2_eq x.isLt hn (score A b h 128 (n + x.val)) (value A b h y.val)]
  · rw [Nat.add_assoc, EReal.coe_sub, EReal.coe_mul]
  · intro a; unfold diagRow; rw [dot_score hq hk]
  · intro a; rw [cut_value hv]
  · intro a; rw [dot_score hq hk, Nat.zero_add]
  · intro a; rw [cut_value hv, Nat.zero_add]
  · intro a; unfold diagRow; rw [dot_score hq hk]
  · intro a; rw [cut_value hv]
  · intro a; rw [dot_score hq hk, Nat.zero_add]
  · intro a; rw [cut_value hv, Nat.zero_add]

end Point

end Cert.Proof.Attn

end
-- ==== Proof.Attn.Array.lean ====
/-
  The attention kernel's output array, as `spec` of its arguments.

  A grid point's blocks are read as entries of the arguments; what the point writes is then `spec` on its block, and the
  blocks tile the output.
-/
module

public import proofs.«01_k».proof.Proof.Attn.Spec
public import Idealize.ShloMosaic.Lib.StableHlo.Run

@[expose] public section

set_option maxRecDepth 16384

noncomputable section

namespace Cert.Proof.Attn

open Idealize.ShloMosaic Idealize.SL.Sem Cert.KernelIdeal Cert.KernelIdeal.Gen Cert.KernelIdeal.Value Idealize.ShloMosaic.TcCoe
open Idealize.ShloMosaic.Pipeline (Dat)

variable (m : (ℓ : Loc nD τ sig) → Buf (Elt Ideal) ℓ) (c : Dev nD)

/-- The argument of the launch: queries, keys and values side by side. -/
abbrev argQkv : (⟨2, ![8192, 6144]⟩ : Shape).Idx → EReal := m ((c.tc : Thread nD τ).loc main_arg0)
/-- The first lambda vector. -/
abbrev argL1 : (⟨1, ![128]⟩ : Shape).Idx → EReal := m ((c.tc : Thread nD τ).loc main_arg1)
/-- The second lambda vector. -/
abbrev argL2 : (⟨1, ![128]⟩ : Shape).Idx → EReal := m ((c.tc : Thread nD τ).loc main_arg2)
/-- The third lambda vector. -/
abbrev argL3 : (⟨1, ![128]⟩ : Shape).Idx → EReal := m ((c.tc : Thread nD τ).loc main_arg3)
/-- The fourth lambda vector. -/
abbrev argL4 : (⟨1, ![128]⟩ : Shape).Idx → EReal := m ((c.tc : Thread nD τ).loc main_arg4)
/-- The weights of the normalisation. -/
abbrev argG : (⟨1, ![256]⟩ : Shape).Idx → EReal := m ((c.tc : Thread nD τ).loc main_arg5)

/-- The stack of the four vectors is one block. -/
theorem idx0 : ∀ t : Fin cfg0.N, win0_0.index t (0 : Fin 2) = 0 ∧ win0_0.index t (1 : Fin 2) = 0 :=
  (by decide +kernel : ∀ t : Fin grid0.N, _)
/-- The weights of the normalisation are one block. -/
theorem idx1 : ∀ t : Fin cfg0.N, win0_1.index t (0 : Fin 2) = 0 ∧ win0_1.index t (1 : Fin 2) = 0 :=
  (by decide +kernel : ∀ t : Fin grid0.N, _)
/-- Each point's query block. -/
theorem idx2 : ∀ t : Fin cfg0.N, win0_2.index t (0 : Fin 2) = t.val / 32 * 4 + t.val % 4 ∧ win0_2.index t (1 : Fin 2) = t.val / 4 % 8 :=
  (by decide +kernel : ∀ t : Fin grid0.N, _)
/-- Each point's key block. -/
theorem idx3 : ∀ t : Fin cfg0.N, win0_3.index t (0 : Fin 2) = t.val / 32 ∧ win0_3.index t (1 : Fin 2) = 8 + t.val / 4 % 8 :=
  (by decide +kernel : ∀ t : Fin grid0.N, _)
/-- Each point's value block. -/
theorem idx4 : ∀ t : Fin cfg0.N, win0_4.index t (0 : Fin 2) = t.val / 32 ∧ win0_4.index t (1 : Fin 2) = 16 + t.val / 4 % 8 :=
  (by decide +kernel : ∀ t : Fin grid0.N, _)
/-- Each point's output block. -/
theorem idx5 : ∀ t : Fin cfg0.N, win0_5.index t (0 : Fin 2) = t.val / 32 * 4 + t.val % 4 ∧ win0_5.index t (1 : Fin 2) = t.val / 4 % 8 :=
  (by decide +kernel : ∀ t : Fin grid0.N, _)

/-- There are 128 points. -/
theorem lt_N (t : Fin cfg0.N) : t.val < 128 := lt_of_lt_of_eq t.isLt N_0

/-- The query block's entries are the argument's. -/
theorem iblk2 (hA : Fin' (argQkv m c)) (t : Fin cfg0.N) (x : Fin 512) (e : Fin 256) :
    iblk m c 2 t (ix2 x e) = (X (argQkv m c) (t.val / 32 * 2048 + (t.val % 4 * 512 + x.val)) (t.val / 4 % 8 * 256 + e.val) : EReal) := by
  obtain ⟨e0, e1⟩ := idx2 t
  have ht := lt_N t
  have hx := x.isLt
  have he := e.isLt
  have key : iblk m c 2 t (ix2 x e)
      = argQkv m c (ix2 ⟨t.val / 32 * 2048 + (t.val % 4 * 512 + x.val), by omega⟩ ⟨t.val / 4 % 8 * 256 + e.val, by omega⟩) := by
    unfold iblk
    show V m c main_arg0 (((cfg0.win 2).blk t).view.emb (ix2 x e)) = _
    rw [V_main_arg0]
    refine congrArg (m ((c.tc : Thread nD τ).loc main_arg0)) ?_
    have hb0 : (((cfg0.win 2).blk t).view.emb (ix2 x e) 0).val = win0_2.index t (0 : Fin 2) * 512 + 1 * x.val := rfl
    have hb1 : (((cfg0.win 2).blk t).view.emb (ix2 x e) 1).val = win0_2.index t (1 : Fin 2) * 256 + 1 * e.val := rfl
    rw [e0] at hb0
    rw [e1] at hb1
    funext a
    match a with
    | ⟨0, _⟩ => exact Fin.ext (hb0.trans (by show _ = t.val / 32 * 2048 + (t.val % 4 * 512 + x.val); omega))
    | ⟨1, _⟩ => exact Fin.ext (hb1.trans (by show _ = t.val / 4 % 8 * 256 + e.val; omega))
  rw [key, X_eq hA]

/-- The key block's entries are the argument's. -/
theorem iblk3 (hA : Fin' (argQkv m c)) (t : Fin cfg0.N) (x : Fin 2048) (e : Fin 256) :
    iblk m c 3 t (ix2 x e) = (X (argQkv m c) (t.val / 32 * 2048 + x.val) (2048 + t.val / 4 % 8 * 256 + e.val) : EReal) := by
  obtain ⟨e0, e1⟩ := idx3 t
  have ht := lt_N t
  have hx := x.isLt
  have he := e.isLt
  have key : iblk m c 3 t (ix2 x e)
      = argQkv m c (ix2 ⟨t.val / 32 * 2048 + x.val, by omega⟩ ⟨2048 + t.val / 4 % 8 * 256 + e.val, by omega⟩) := by
    unfold iblk
    show V m c main_arg0 (((cfg0.win 3).blk t).view.emb (ix2 x e)) = _
    rw [V_main_arg0]
    refine congrArg (m ((c.tc : Thread nD τ).loc main_arg0)) ?_
    have hb0 : (((cfg0.win 3).blk t).view.emb (ix2 x e) 0).val = win0_3.index t (0 : Fin 2) * 2048 + 1 * x.val := rfl
    have hb1 : (((cfg0.win 3).blk t).view.emb (ix2 x e) 1).val = win0_3.index t (1 : Fin 2) * 256 + 1 * e.val := rfl
    rw [e0] at hb0
    rw [e1] at hb1
    funext a
    match a with
    | ⟨0, _⟩ => exact Fin.ext (hb0.trans (by show _ = t.val / 32 * 2048 + x.val; omega))
    | ⟨1, _⟩ => exact Fin.ext (hb1.trans (by show _ = 2048 + t.val / 4 % 8 * 256 + e.val; omega))
  rw [key, X_eq hA]

/-- The value block's entries are the argument's. -/
theorem iblk4 (hA : Fin' (argQkv m c)) (t : Fin cfg0.N) (x : Fin 2048) (e : Fin 256) :
    iblk m c 4 t (ix2 x e) = (X (argQkv m c) (t.val / 32 * 2048 + x.val) (4096 + t.val / 4 % 8 * 256 + e.val) : EReal) := by
  obtain ⟨e0, e1⟩ := idx4 t
  have ht := lt_N t
  have hx := x.isLt
  have he := e.isLt
  have key : iblk m c 4 t (ix2 x e)
      = argQkv m c (ix2 ⟨t.val / 32 * 2048 + x.val, by omega⟩ ⟨4096 + t.val / 4 % 8 * 256 + e.val, by omega⟩) := by
    unfold iblk
    show V m c main_arg0 (((cfg0.win 4).blk t).view.emb (ix2 x e)) = _
    rw [V_main_arg0]
    refine congrArg (m ((c.tc : Thread nD τ).loc main_arg0)) ?_
    have hb0 : (((cfg0.win 4).blk t).view.emb (ix2 x e) 0).val = win0_4.index t (0 : Fin 2) * 2048 + 1 * x.val := rfl
    have hb1 : (((cfg0.win 4).blk t).view.emb (ix2 x e) 1).val = win0_4.index t (1 : Fin 2) * 256 + 1 * e.val := rfl
    rw [e0] at hb0
    rw [e1] at hb1
    funext a
    match a with
    | ⟨0, _⟩ => exact Fin.ext (hb0.trans (by show _ = t.val / 32 * 2048 + x.val; omega))
    | ⟨1, _⟩ => exact Fin.ext (hb1.trans (by show _ = 4096 + t.val / 4 % 8 * 256 + e.val; omega))
  rw [key, X_eq hA]

/-- The stack of the four vectors when the grid is entered. -/
theorem stack_eq : V m c main_v4 = concatenate S4x128 0
    [⟨S1x128, broadcastInDim S1x128 ![1] bcast_S128_S1x128_1 (argL1 m c : FVec Ideal S128 .f32)⟩,
     ⟨S1x128, broadcastInDim S1x128 ![1] bcast_S128_S1x128_1 (argL2 m c : FVec Ideal S128 .f32)⟩,
     ⟨S1x128, broadcastInDim S1x128 ![1] bcast_S128_S1x128_1 (argL3 m c : FVec Ideal S128 .f32)⟩,
     ⟨S1x128, broadcastInDim S1x128 ![1] bcast_S128_S1x128_1 (argL4 m c : FVec Ideal S128 .f32)⟩]
    concatenates_S1x128_S1x128_S1x128_S1x128_S4x128_d0 := by
  unfold V hostOps0
  after_results
  rfl

/-- The weights as a column when the grid is entered. -/
theorem col_eq : V m c main_v5 = shapeCast S256x1 (argG m c : FVec Ideal S256 .f32) shapeCasts_S256_S256x1 := by
  unfold V hostOps0
  after_results
  rfl

/-- The lambda of the stacked vectors. -/
theorem lam_stack (t : Fin cfg0.N) : lam (iblk m c 0 t) = lamOf (argL1 m c) (argL2 m c) (argL3 m c) (argL4 m c) := by
  have h : (iblk m c 0 t : (⟨2, ![4, 128]⟩ : Shape).Idx → EReal) = V m c main_v4 := by
    funext i
    unfold iblk
    show V m c main_v4 (((cfg0.win 0).blk t).view.emb i) = _
    refine congrArg (V m c main_v4) ?_
    obtain ⟨e0, e1⟩ := idx0 t
    have hb0 : (((cfg0.win 0).blk t).view.emb i 0).val = win0_0.index t (0 : Fin 2) * 4 + 1 * (i 0).val := rfl
    have hb1 : (((cfg0.win 0).blk t).view.emb i 1).val = win0_0.index t (1 : Fin 2) * 128 + 1 * (i 1).val := rfl
    rw [e0] at hb0
    rw [e1] at hb1
    funext a
    match a with
    | ⟨0, _⟩ => exact Fin.ext (hb0.trans (by show _ = (i 0).val; omega))
    | ⟨1, _⟩ => exact Fin.ext (hb1.trans (by show _ = (i 1).val; omega))
  rw [h, stack_eq]
  unfold lam lamOf
  pointwise []

/-- The weights of the normalisation in a point's block. -/
theorem iblk1 (t : Fin cfg0.N) (y : Fin 256) : iblk m c 1 t (ix2 y 0) = argG m c (ix1 y) := by
  have h : (iblk m c 1 t : (⟨2, ![256, 1]⟩ : Shape).Idx → EReal) = V m c main_v5 := by
    funext i
    unfold iblk
    show V m c main_v5 (((cfg0.win 1).blk t).view.emb i) = _
    refine congrArg (V m c main_v5) ?_
    obtain ⟨e0, e1⟩ := idx1 t
    have hb0 : (((cfg0.win 1).blk t).view.emb i 0).val = win0_1.index t (0 : Fin 2) * 256 + 1 * (i 0).val := rfl
    have hb1 : (((cfg0.win 1).blk t).view.emb i 1).val = win0_1.index t (1 : Fin 2) * 1 + 1 * (i 1).val := rfl
    rw [e0] at hb0
    rw [e1] at hb1
    funext a
    match a with
    | ⟨0, _⟩ => exact Fin.ext (hb0.trans (by show _ = (i 0).val; omega))
    | ⟨1, _⟩ => exact Fin.ext (hb1.trans (by show _ = (i 1).val; omega))
  rw [h, col_eq]
  pointwise []

/-- The output array: `spec` of the arguments. -/
def G (l : ℝ) : (⟨2, ![8192, 2048]⟩ : Shape).Idx → EReal := fun i =>
  spec (argQkv m c) l (argG m c) (i 0).val ((i 1).val / 256) ⟨(i 1).val % 256, Nat.mod_lt _ (by decide)⟩

/-- `G` at the place of a point's row `x` and feature `y`. -/
theorem G_at (l : ℝ) (r : Fin 8192) (s : Fin 2048) (h : ℕ) (y : Fin 256) (hs : s.val = h * 256 + y.val) :
    G m c l (ix2 r s) = spec (argQkv m c) l (argG m c) r.val h y := by
  have hy := y.isLt
  have h1 : s.val / 256 = h := by omega
  have h2 : (⟨s.val % 256, Nat.mod_lt _ (by decide)⟩ : Fin 256) = y := Fin.ext (by show s.val % 256 = y.val; omega)
  show spec (argQkv m c) l (argG m c) r.val (s.val / 256) ⟨s.val % 256, Nat.mod_lt _ (by decide)⟩ = _
  rw [h1, h2]

/-- What a point writes back, at a row and a feature of its block. -/
theorem flushed_apply (hA : Fin' (argQkv m c)) {l : ℝ}
    (hl : lamOf (argL1 m c) (argL2 m c) (argL3 m c) (argL4 m c) = (l : EReal)) (t : Fin cfg0.N) (x : Fin 512) (y : Fin 256) :
    (dats m 0 c).flushed 5 t (ix2 x y)
      = finish (fun y' => (mixed (argQkv m c) l (t.val / 32) (t.val / 4 % 8) (t.val % 4 * 512 + x.val) y'.val : EReal)) (argG m c (ix1 y)) y := by
  have hcase : t.val % 4 = 0 ∨ t.val % 4 = 1 ∨ t.val % 4 = 2 ∨ t.val % 4 = 3 := by omega
  have hq := iblk2 m c hA t
  have hk := iblk3 m c hA t
  have hv := iblk4 m c hA t
  rcases hcase with h | h | h | h
  · rw [h] at hq ⊢
    rw [flushed5_A m c t h (by omega) (by omega) (by omega)]
    refine (outA c t _ _ _ _ _ _ _ _ _ x y).trans ?_
    rw [lam_stack, iblk1, hl]
    refine congrArg (fun o => finish o (argG m c (ix1 y)) y) (funext fun y' => ?_)
    exact diffA_mixed hq hk hv l x y' _ _ _ _ _ _
  · rw [h] at hq ⊢
    rw [flushed5_B m c t (by omega) h (by omega) (by omega)]
    refine (outB c t _ _ _ _ _ _ _ _ _ x y).trans ?_
    rw [lam_stack, iblk1, hl]
    refine congrArg (fun o => finish o (argG m c (ix1 y)) y) (funext fun y' => ?_)
    exact diffB_mixed (n := 512) (by omega) hq hk hv l x y' _ _ _ _ _ _ _
  · rw [h] at hq ⊢
    rw [flushed5_C m c t (by omega) (by omega) h (by omega)]
    refine (outC c t _ _ _ _ _ _ _ _ _ x y).trans ?_
    rw [lam_stack, iblk1, hl]
    refine congrArg (fun o => finish o (argG m c (ix1 y)) y) (funext fun y' => ?_)
    exact diffB_mixed (n := 1024) (by omega) hq hk hv l x y' _ _ _ _ _ _ _
  · rw [h] at hq ⊢
    rw [flushed5_D m c t (by omega) (by omega) (by omega) h]
    refine (outD c t _ _ _ _ _ _ _ _ _ x y).trans ?_
    rw [lam_stack, iblk1, hl]
    refine congrArg (fun o => finish o (argG m c (ix1 y)) y) (funext fun y' => ?_)
    exact diffB_mixed (n := 1536) (by omega) hq hk hv l x y' _ _ _ _ _ _ _

/-- What a point writes back is its block of `G`. -/
theorem flushed_eq (hA : Fin' (argQkv m c)) {l : ℝ}
    (hl : lamOf (argL1 m c) (argL2 m c) (argL3 m c) (argL4 m c) = (l : EReal)) (t : Fin cfg0.N) :
    (dats m 0 c).flushed 5 t = ((cfg0.win 5).blk t).view.read (Elt Ideal) (G m c l) := by
  funext i
  have ht := lt_N t
  obtain ⟨e0, e1⟩ := idx5 t
  have hx : (i 0).val < 512 := (i 0).isLt
  have hy : (i 1).val < 256 := (i 1).isLt
  have hi : i = ix2 ⟨(i 0).val, hx⟩ ⟨(i 1).val, hy⟩ := by
    funext a
    match a with
    | ⟨0, _⟩ => rfl
    | ⟨1, _⟩ => rfl
  rw [hi]
  generalize (⟨(i 0).val, hx⟩ : Fin 512) = x
  generalize (⟨(i 1).val, hy⟩ : Fin 256) = y
  have hx := x.isLt
  have hy := y.isLt
  refine (flushed_apply m c hA hl t x y).trans ?_
  show _ = G m c l (((cfg0.win 5).blk t).view.emb (ix2 x y))
  have hb0 : (((cfg0.win 5).blk t).view.emb (ix2 x y) 0).val = win0_5.index t (0 : Fin 2) * 512 + 1 * x.val := rfl
  have hb1 : (((cfg0.win 5).blk t).view.emb (ix2 x y) 1).val = win0_5.index t (1 : Fin 2) * 256 + 1 * y.val := rfl
  rw [e0] at hb0
  rw [e1] at hb1
  have he : ((cfg0.win 5).blk t).view.emb (ix2 x y)
      = ix2 (n0 := 8192) (n1 := 2048) ⟨t.val / 32 * 2048 + (t.val % 4 * 512 + x.val), by omega⟩ ⟨t.val / 4 % 8 * 256 + y.val, by omega⟩ := by
    funext a
    match a with
    | ⟨0, _⟩ => exact Fin.ext (hb0.trans (by show _ = t.val / 32 * 2048 + (t.val % 4 * 512 + x.val); omega))
    | ⟨1, _⟩ => exact Fin.ext (hb1.trans (by show _ = t.val / 4 % 8 * 256 + y.val; omega))
  rw [he, G_at m c l _ _ (t.val / 4 % 8) y rfl]
  unfold spec
  have h1 : (t.val / 32 * 2048 + (t.val % 4 * 512 + x.val)) / 2048 = t.val / 32 := by omega
  have h2 : (t.val / 32 * 2048 + (t.val % 4 * 512 + x.val)) % 2048 = t.val % 4 * 512 + x.val := by omega
  simp only [h1, h2]

/-- An index is in a point's block iff each coordinate is in the block's range. -/
theorem mem_blk5 (t : Fin cfg0.N) (i : S8192x2048.Idx) :
    i ∈ ((cfg0.win 5).blk t).view.set ↔ ∀ a : Fin 2, win0_5.index t a * S512x256.size a ≤ (i a).val ∧ (i a).val < win0_5.index t a * S512x256.size a + S512x256.size a := by
  show i ∈ ((View.whole main_v6).slice (win0_5.rect t)).set ↔ _
  rw [View.set_slice_whole, Rect.mem_set_unit]
  exact Iff.rfl

/-- Every point writes its block back. -/
theorem flush5 : ∀ t : Fin cfg0.N, (cfg0.win 5).flush t = true :=
  (by decide +kernel : ∀ t : Fin grid0.N, win0_5.flush t = true)

/-- Every index of the output is in some point's block. -/
theorem covered5 (i : S8192x2048.Idx) : ∃ t : Fin cfg0.N, (cfg0.win 5).flush t = true ∧ i ∈ ((cfg0.win 5).blk t).view.set := by
  have h0 : (i 0).val < 8192 := (i 0).isLt
  have h1 : (i 1).val < 2048 := (i 1).isLt
  obtain ⟨t, ht⟩ : ∃ t : Fin cfg0.N, t.val = (i 0).val / 2048 * 32 + (i 1).val / 256 * 4 + (i 0).val % 2048 / 512 :=
    ⟨⟨_, lt_of_lt_of_eq (b := 128) (by omega) N_0.symm⟩, rfl⟩
  refine ⟨t, flush5 t, ?_⟩
  rw [mem_blk5]
  obtain ⟨e0, e1⟩ := idx5 t
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 256 ≤ (i 1).val ∧ (i 1).val < win0_5.index t (1 : Fin 2) * 256 + 256; omega

/-- The output array after the run is `G`. -/
theorem final5 (hA : Fin' (argQkv m c)) {l : ℝ}
    (hl : lamOf (argL1 m c) (argL2 m c) (argL3 m c) (argL4 m c) = (l : EReal)) : (dats m 0 c).arrAt 5 cfg0.N = G m c l :=
  (dats m 0 c).arrAt_eq_of_cover 5 _ (fun t _ => flushed_eq m c hA hl t) covered5

end Cert.Proof.Attn

end
-- ==== Proof.Attn.RefRow.lean ====
/-
  The reference's result, as `spec` of its arguments.

  The reference takes the softmax of whole masked rows, subtracts the two maps and multiplies by the values. Its scores,
  its map and its normalised rows are read in turn at an index.
-/
module

public import proofs.«01_k».proof.Proof.Attn.Spec
public import proofs.«01_k».proof.Proof.Gen.ReferenceIdeal.Read

@[expose] public section

set_option maxRecDepth 16384

noncomputable section

namespace Cert.Proof.Attn.Ref

open Idealize.ShloMosaic Idealize.SL.Sem Cert.ReferenceIdeal Cert.ReferenceIdeal.Gen Cert.ReferenceIdeal.Value Cert.ReferenceIdeal.Read Idealize.ShloMosaic.TcCoe

variable (A : (⟨2, ![8192, 6144]⟩ : Shape).Idx → EReal) (l₁ l₂ l₃ l₄ : (⟨1, ![128]⟩ : Shape).Idx → EReal)

/-- A query feature of a sub-head. -/
theorem q_apply (b : Fin 4) (h : Fin 16) (i : Fin 2048) (d : Fin 128) :
    val_main_v15 (F := Ideal) A (ix4 b h i d) = A (ix2 ⟨b.val * 2048 + i.val, by omega⟩ ⟨h.val * 128 + d.val, by omega⟩) := by
  pointwise [val_main_v15, val_main_v4, val_main_v1, val_main_v0]

/-- A key feature of a sub-head. -/
theorem k_apply (b : Fin 4) (h : Fin 16) (i : Fin 2048) (d : Fin 128) :
    val_main_v16 (F := Ideal) A (ix4 b h i d) = A (ix2 ⟨b.val * 2048 + i.val, by omega⟩ ⟨2048 + (h.val * 128 + d.val), by omega⟩) := by
  pointwise [val_main_v16, val_main_v5, val_main_v2, val_main_v0]

/-- A value feature of a head. -/
theorem v_apply (b : Fin 4) (h : Fin 8) (i : Fin 2048) (d : Fin 256) :
    val_main_v17 (F := Ideal) A (ix4 b h i d) = A (ix2 ⟨b.val * 2048 + i.val, by omega⟩ ⟨4096 + (h.val * 256 + d.val), by omega⟩) := by
  pointwise [val_main_v17, val_main_v6, val_main_v3, val_main_v0]

/-- A score. -/
theorem s_apply (b : Fin 4) (h : Fin 16) (i k : Fin 2048) :
    val_main_v19 (F := Ideal) A (ix4 b h i k) = ∑ d : Fin 128, val_main_v15 (F := Ideal) A (ix4 b h i d) * val_main_v16 (F := Ideal) A (ix4 b h k d) := by
  pointwise [val_main_v19]

/-- The mask: the key is not after the query. -/
theorem c_apply (b : Fin 4) (h : Fin 16) (i k : Fin 2048) :
    val_main_call0_v1 (F := Ideal) (ix4 b h i k) = IntOp.cmpi .sle (BitVec.ofNat 32 k.val) (BitVec.ofNat 32 i.val) := by
  pointwise [val_main_v24, val_main_v23, val_main_v22, val_main_v21, val_main_v20, val_main_v18, val_main_call0_v1]

/-- The weight of the second map. -/
theorem lam_apply : val_main_v14 (F := Ideal) l₁ l₂ l₃ l₄ ix0 = lamOf l₁ l₂ l₃ l₄ := by
  pointwise [val_main_v14, val_main_v13, val_main_v12, val_main_v11, val_main_v10, val_main_v9, val_main_v8, val_main_v7, val_main_cst, val_main_cst_0, val_main_cst_1]
  rfl

/-- The largest score of a row. -/
theorem max_apply (b : Fin 4) (h : Fin 16) (i : Fin 2048) :
    val_main_v26 (F := Ideal) A (ix3 b h i) = top fun k : Fin 2048 => val_main_v25 (F := Ideal) A (ix4 b h i k) := by
  pointwise [val_main_v26, val_main_cst_3]
  rfl

/-- The place of a row's entry. -/
theorem idx_e (b : Fin 4) (h : Fin 16) (i k : Fin 2048) : idx_main_v33 (ix3 b h i) k = ix4 b h i k := by
  funext a
  match a with
  | ⟨0, _⟩ => rfl
  | ⟨1, _⟩ => rfl
  | ⟨2, _⟩ => rfl
  | ⟨3, _⟩ => rfl

/-- The sum of a row's weights. -/
theorem sum_apply (b : Fin 4) (h : Fin 16) (i : Fin 2048) :
    val_main_v33 (F := Ideal) A (ix3 b h i) = ∑ k : Fin 2048, val_main_v32 (F := Ideal) A (ix4 b h i k) := by
  rw [val_main_v33_apply, val_main_cst_5_apply]
  simp only [idx_e]
  pointwise []

/-- A weight before the division. -/
theorem w_apply (b : Fin 4) (h : Fin 16) (i k : Fin 2048) :
    val_main_v32 (F := Ideal) A (ix4 b h i k) = Ideal.exp (val_main_v25 (F := Ideal) A (ix4 b h i k) - max (Ideal.ofBits .f32 0xFF800000#32) (val_main_v26 (F := Ideal) A (ix3 b h i))) := by
  have e : idx_main_v29 (idx_main_v30 (ix4 b h i k)) = ix3 b h i := by
    funext a
    match a with
    | ⟨0, _⟩ => rfl
    | ⟨1, _⟩ => rfl
    | ⟨2, _⟩ => rfl
  rw [val_main_v32_apply, val_main_v31_apply, val_main_v30_apply, val_main_v29_apply, val_main_v28_apply, val_main_v27_apply, e]
  rfl

/-- A softmax weight. -/
theorem d_apply (b : Fin 4) (h : Fin 16) (i k : Fin 2048) :
    val_main_v36 (F := Ideal) A (ix4 b h i k) = Ideal.div (val_main_v32 (F := Ideal) A (ix4 b h i k)) (val_main_v33 (F := Ideal) A (ix3 b h i)) := by
  have e : idx_main_v34 (idx_main_v35 (ix4 b h i k)) = ix3 b h i := by
    funext a
    match a with
    | ⟨0, _⟩ => rfl
    | ⟨1, _⟩ => rfl
    | ⟨2, _⟩ => rfl
  rw [val_main_v36_apply, val_main_v35_apply, val_main_v34_apply, e]
  rfl

/-- The first sub-head's weight. -/
theorem r0_apply (b : Fin 4) (h : Fin 8) (i k : Fin 2048) :
    val_main_v39 (F := Ideal) A (ix4 b h i k) = val_main_v36 (F := Ideal) A (ix4 b ⟨h.val * 2, by omega⟩ i k) := by
  rw [val_main_v39_apply, val_main_v38_apply, val_main_v37_apply]
  refine congrArg (val_main_v36 (F := Ideal) A) ?_
  funext a
  match a with
  | ⟨0, _⟩ => refine Fin.ext ?_; show _ = b.val; simp; try omega
  | ⟨1, _⟩ => refine Fin.ext ?_; show _ = h.val * 2; simp; try omega
  | ⟨2, _⟩ => refine Fin.ext ?_; show _ = i.val; simp; try omega
  | ⟨3, _⟩ => refine Fin.ext ?_; show _ = k.val; simp; try omega

/-- The second sub-head's weight. -/
theorem r1_apply (b : Fin 4) (h : Fin 8) (i k : Fin 2048) :
    val_main_v41 (F := Ideal) A (ix4 b h i k) = val_main_v36 (F := Ideal) A (ix4 b ⟨h.val * 2 + 1, by omega⟩ i k) := by
  rw [val_main_v41_apply, val_main_v40_apply, val_main_v37_apply]
  refine congrArg (val_main_v36 (F := Ideal) A) ?_
  funext a
  match a with
  | ⟨0, _⟩ => refine Fin.ext ?_; show _ = b.val; simp; try omega
  | ⟨1, _⟩ => refine Fin.ext ?_; show _ = h.val * 2 + 1; simp; try omega
  | ⟨2, _⟩ => refine Fin.ext ?_; show _ = i.val; simp; try omega
  | ⟨3, _⟩ => refine Fin.ext ?_; show _ = k.val; simp; try omega

/-- The differential map. -/
theorem m_apply (b : Fin 4) (h : Fin 8) (i k : Fin 2048) :
    val_main_v44 (F := Ideal) A l₁ l₂ l₃ l₄ (ix4 b h i k) = val_main_v36 (F := Ideal) A (ix4 b ⟨h.val * 2, by omega⟩ i k) - val_main_v14 (F := Ideal) l₁ l₂ l₃ l₄ ix0 * val_main_v36 (F := Ideal) A (ix4 b ⟨h.val * 2 + 1, by omega⟩ i k) := by
  have e : idx_main_v42 (ix4 b h i k) = ix0 := by
    funext a
    exact a.elim0
  rw [val_main_v44_apply, val_main_v43_apply, val_main_v42_apply, r0_apply, r1_apply, e]
  rfl

/-- A masked score, as a real score of the argument. -/
theorem score_apply (hA : Fin' A) (b : Fin 4) (h : Fin 8) (o : ℕ) (hs : Fin 16) (hh : h.val * 256 + o = hs.val * 128) (i k : Fin 2048) :
    val_main_v25 (F := Ideal) A (ix4 b hs i k) = if k.val ≤ i.val then (score A b.val h.val o i.val k.val : EReal) else ⊥ := by
  rw [val_main_v25_apply, c_apply, s_apply, mask_word _ _ (by omega) (by omega), val_main_call0_v2_apply]
  have e1 : ∀ i, val_main_call0_v0 (F := Ideal) i = (⊥ : EReal) := fun i => ninf_eq
  rw [e1]
  have e2 : ∑ d : Fin 128, val_main_v15 (F := Ideal) A (ix4 b hs i d) * val_main_v16 (F := Ideal) A (ix4 b hs k d)
      = (score A b.val h.val o i.val k.val : EReal) := by
    unfold score
    rw [coe_sum]
    refine Finset.sum_congr rfl fun d _ => ?_
    rw [q_apply, k_apply, X_eq hA, X_eq hA, ← EReal.coe_mul, mul_comm]
    have f1 : hs.val * 128 + d.val = h.val * 256 + o + d.val := by omega
    have f2 : 2048 + (hs.val * 128 + d.val) = 2048 + h.val * 256 + o + d.val := by omega
    have g1 : X A (b.val * 2048 + k.val) (2048 + (hs.val * 128 + d.val)) = X A (b.val * 2048 + k.val) (2048 + h.val * 256 + o + d.val) := by rw [f2]
    have g2 : X A (b.val * 2048 + i.val) (hs.val * 128 + d.val) = X A (b.val * 2048 + i.val) (h.val * 256 + o + d.val) := by rw [f1]
    exact congrArg _ (congrArg₂ (· * ·) g1 g2)
  rw [e2]

/-- A softmax weight, from the row's scores. -/
theorem weight_apply (b : Fin 4) (hs : Fin 16) (i k : Fin 2048) :
    val_main_v36 (F := Ideal) A (ix4 b hs i k)
      = Ideal.div (Ideal.exp (val_main_v25 (F := Ideal) A (ix4 b hs i k) - top fun k => val_main_v25 (F := Ideal) A (ix4 b hs i k)))
          (∑ k', Ideal.exp (val_main_v25 (F := Ideal) A (ix4 b hs i k') - top fun k => val_main_v25 (F := Ideal) A (ix4 b hs i k))) := by
  have w : ∀ k, val_main_v32 (F := Ideal) A (ix4 b hs i k)
      = Ideal.exp (val_main_v25 (F := Ideal) A (ix4 b hs i k) - top fun k => val_main_v25 (F := Ideal) A (ix4 b hs i k)) := fun k => by
    rw [w_apply, max_apply, ninf_eq, max_eq_right bot_le]
  rw [d_apply, sum_apply]
  simp only [w]

/-- The map applied to the values. -/
theorem o_apply (b : Fin 4) (h : Fin 8) (i : Fin 2048) (y : Fin 256) :
    val_main_v45 (F := Ideal) A l₁ l₂ l₃ l₄ (ix4 b h i y)
      = ∑ k, val_main_v44 (F := Ideal) A l₁ l₂ l₃ l₄ (ix4 b h i k) * val_main_v17 (F := Ideal) A (ix4 b h k y) := by
  rw [val_main_v45_apply]
  refine Finset.sum_congr rfl fun k _ => ?_
  have e1 : lidx_main_v45 (ix4 b h i y) k = ix4 b h i k := by
    funext a
    match a with
    | ⟨0, _⟩ => rfl
    | ⟨1, _⟩ => rfl
    | ⟨2, _⟩ => rfl
    | ⟨3, _⟩ => rfl
  have e2 : ridx_main_v45 (ix4 b h i y) k = ix4 b h k y := by
    funext a
    match a with
    | ⟨0, _⟩ => rfl
    | ⟨1, _⟩ => rfl
    | ⟨2, _⟩ => rfl
    | ⟨3, _⟩ => rfl
  rw [e1, e2]

/-- The map applied to the values is the difference of the averages. -/
theorem mixed_apply (hA : Fin' A) {l : ℝ} (hl : lamOf l₁ l₂ l₃ l₄ = (l : EReal)) (b : Fin 4) (h : Fin 8) (i : Fin 2048) (y : Fin 256) :
    val_main_v45 (F := Ideal) A l₁ l₂ l₃ l₄ (ix4 b h i y) = (mixed A l b.val h.val i.val y.val : EReal) := by
  rw [o_apply]
  unfold mixed
  rw [← mix_eq i.isLt (score A b.val h.val 0 i.val) (score A b.val h.val 128 i.val) (value A b.val h.val y.val)
    (fun k => val_main_v25 (F := Ideal) A (ix4 b ⟨h.val * 2, by omega⟩ i k))
    (fun k => val_main_v25 (F := Ideal) A (ix4 b ⟨h.val * 2 + 1, by omega⟩ i k))
    (fun k => val_main_v17 (F := Ideal) A (ix4 b h k y)) l
    (fun k => score_apply A hA b h 0 _ (by show h.val * 256 + 0 = h.val * 2 * 128; omega) i k)
    (fun k => score_apply A hA b h 128 _ (by show h.val * 256 + 128 = (h.val * 2 + 1) * 128; omega) i k)]
  · refine Finset.sum_congr rfl fun k _ => ?_
    rw [m_apply, weight_apply, weight_apply, lam_apply, hl]
  · intro k
    rw [v_apply, X_eq hA]
    unfold value
    have f : 4096 + (h.val * 256 + y.val) = 4096 + h.val * 256 + y.val := by omega
    simp only [f]

/-- The rows before the normalisation, head by head. -/
theorem rows_apply (b : Fin 4) (h : Fin 8) (i : Fin 2048) (y : Fin 256) :
    val_main_v46 (F := Ideal) A l₁ l₂ l₃ l₄ (ix4 b i h y) = val_main_v45 (F := Ideal) A l₁ l₂ l₃ l₄ (ix4 b h i y) := by
  rw [val_main_v46_apply]
  refine congrArg (val_main_v45 (F := Ideal) A l₁ l₂ l₃ l₄) ?_
  funext a
  match a with
  | ⟨0, _⟩ => rfl
  | ⟨1, _⟩ => rfl
  | ⟨2, _⟩ => rfl
  | ⟨3, _⟩ => rfl

end Cert.Proof.Attn.Ref

end
-- ==== Proof.Attn.Ref.lean ====
/-
  The reference's result, as `spec` of its arguments: the normalisation of the rows and the place of each in the result.
-/
module

public import proofs.«01_k».proof.Proof.Attn.RefRow
public import proofs.«01_k».proof.Proof.Gen.ReferenceIdeal.Read

@[expose] public section

set_option maxRecDepth 16384

noncomputable section

namespace Cert.Proof.Attn.Ref

open Idealize.ShloMosaic Idealize.SL.Sem Cert.ReferenceIdeal Cert.ReferenceIdeal.Gen Cert.ReferenceIdeal.Value Cert.ReferenceIdeal.Read Idealize.ShloMosaic.TcCoe

variable (A : (⟨2, ![8192, 6144]⟩ : Shape).Idx → EReal) (l₁ l₂ l₃ l₄ : (⟨1, ![128]⟩ : Shape).Idx → EReal)

/-- The place of a row's entry. -/
theorem e48 (b : Fin 4) (h : Fin 8) (i : Fin 2048) (k : Fin 256) : idx_main_v48 (ix3 b i h) k = ix4 b i h k := by
  funext a
  match a with
  | ⟨0, _⟩ => rfl
  | ⟨1, _⟩ => rfl
  | ⟨2, _⟩ => rfl
  | ⟨3, _⟩ => rfl

/-- The square of an entry. -/
theorem sq47 (b : Fin 4) (h : Fin 8) (i : Fin 2048) (y : Fin 256) :
    val_main_v47 (F := Ideal) A l₁ l₂ l₃ l₄ (ix4 b i h y)
      = val_main_v45 (F := Ideal) A l₁ l₂ l₃ l₄ (ix4 b h i y) * val_main_v45 (F := Ideal) A l₁ l₂ l₃ l₄ (ix4 b h i y) := by
  rw [val_main_v47_apply, rows_apply]
  rfl

/-- The sum starts from zero. -/
theorem zero6 (i) : val_main_cst_6 (F := Ideal) i = (0 : EReal) := by
  rw [val_main_cst_6_apply]
  exact Ideal.ofBits_zero .f32

/-- The sum of squares of a row. -/
theorem sq_apply (b : Fin 4) (h : Fin 8) (i : Fin 2048) :
    val_main_v48 (F := Ideal) A l₁ l₂ l₃ l₄ (ix3 b i h)
      = ∑ y, val_main_v45 (F := Ideal) A l₁ l₂ l₃ l₄ (ix4 b h i y) * val_main_v45 (F := Ideal) A l₁ l₂ l₃ l₄ (ix4 b h i y) := by
  rw [val_main_v48_apply, zero6, zero_add]
  refine Finset.sum_congr rfl fun k _ => ?_
  rw [e48, sq47]

/-- The normalised, scaled row. -/
theorem norm_apply (g : (⟨1, ![256]⟩ : Shape).Idx → EReal) (b : Fin 4) (h : Fin 8) (i : Fin 2048) (y : Fin 256) :
    val_main_v61 (F := Ideal) A l₁ l₂ l₃ l₄ g (ix4 b i h y)
      = finish (fun y' => val_main_v45 (F := Ideal) A l₁ l₂ l₃ l₄ (ix4 b h i y')) (g (ix1 y)) y := by
  have e1 : idx_main_v49 (idx_main_v55 (ix4 b i h y)) = ix3 b i h := by
    funext a
    match a with
    | ⟨0, _⟩ => rfl
    | ⟨1, _⟩ => rfl
    | ⟨2, _⟩ => rfl
  have e2 : idx_main_v57 (idx_main_v58 (ix4 b i h y)) = ix1 y := by
    funext a
    match a with
    | ⟨0, _⟩ => rfl
  rw [val_main_v61_apply, val_main_v60_apply, val_main_v59_apply, val_main_v58_apply, val_main_v57_apply, val_main_v56_apply,
    val_main_v55_apply, val_main_v54_apply, val_main_v53_apply, val_main_v52_apply, val_main_v51_apply, val_main_v50_apply,
    val_main_v49_apply, e1, e2, sq_apply, rows_apply, val_main_cst_7_apply, val_main_cst_8_apply, val_main_cst_9_apply]
  generalize val_main_v45 (F := Ideal) A l₁ l₂ l₃ l₄ = z
  rfl

/-- The reference's result at a row and a column. -/
theorem out_apply (hA : Fin' A) {l : ℝ} (hl : lamOf l₁ l₂ l₃ l₄ = (l : EReal)) (g : (⟨1, ![256]⟩ : Shape).Idx → EReal)
    (r : Fin 8192) (s : Fin 2048) :
    val_main_v63 (F := Ideal) A l₁ l₂ l₃ l₄ g (ix2 r s)
      = spec A l g r.val (s.val / 256) ⟨s.val % 256, Nat.mod_lt _ (by decide)⟩ := by
  have hr := r.isLt
  have hs := s.isLt
  have e : idx_main_v62 (ix2 r s) = ix4 (n0 := 4) (n1 := 2048) (n2 := 8) (n3 := 256) ⟨r.val / 2048, by omega⟩ ⟨r.val % 2048, by omega⟩ ⟨s.val / 256, by omega⟩
      ⟨s.val % 256, by omega⟩ := by
    funext a
    match a with
    | ⟨0, _⟩ => refine Fin.ext ?_; show _ = r.val / 2048; simp; try omega
    | ⟨1, _⟩ => refine Fin.ext ?_; show _ = r.val % 2048; simp; try omega
    | ⟨2, _⟩ => refine Fin.ext ?_; show _ = s.val / 256; simp; try omega
    | ⟨3, _⟩ => refine Fin.ext ?_; show _ = s.val % 256; simp; try omega
  rw [val_main_v63_apply, val_main_v62_apply, e]
  refine (norm_apply A l₁ l₂ l₃ l₄ g _ _ _ _).trans ?_
  unfold spec
  refine congrArg (fun o => finish o (g (ix1 ⟨s.val % 256, Nat.mod_lt _ (by decide)⟩)) ⟨s.val % 256, Nat.mod_lt _ (by decide)⟩) (funext fun y' => ?_)
  exact mixed_apply A l₁ l₂ l₃ l₄ hA hl _ _ _ y'

end Cert.Proof.Attn.Ref

end
-- ==== Proof.Attn.Finite.lean ====
/-
  The precondition of the attention's value claim, read back: every entry it tests is a real number.
-/
module

public import proofs.«01_k».proof.Proof.Attn.Spec
public import proofs.«01_k».proof.Proof.Gen.Pre_attn_finite
public import Idealize.ShloMosaic.Lib.ReduceAll

@[expose] public section

set_option maxRecDepth 16384

noncomputable section

namespace Cert.Proof.Attn

open Idealize.ShloMosaic Idealize.SL.Sem Idealize.ShloMosaic.TcCoe Cert.Pre_attn_finite Cert.Pre_attn_finite.Gen

/-- A number whose absolute value is below infinity is neither infinity. -/
theorem real_of_abs {x : EReal}
    (h : FloatOps.cmpf (F := Ideal) (φ := .f32) .olt (FloatOps.absf (F := Ideal) (φ := .f32) x) (Ideal.ofBits .f32 0x7F800000#32) = 1#1) :
    x ≠ ⊥ ∧ x ≠ ⊤ := by
  have e : Ideal.ofBits .f32 0x7F800000#32 = (⊤ : EReal) := by simp [Ideal.ofBits, Ideal.ieee]
  rw [e] at h
  have h2 : max x (-x) < (⊤ : EReal) := by
    by_contra hn
    have : FloatOps.cmpf (F := Ideal) (φ := .f32) .olt (FloatOps.absf (F := Ideal) (φ := .f32) x) (⊤ : EReal) = 0#1 := by
      show BitVec.ofBool (decide (max x (-x) < (⊤ : EReal))) = 0#1
      rw [decide_eq_false hn]; rfl
    rw [this] at h
    exact absurd h (by decide)
  constructor
  · rintro rfl
    simp at h2
  · rintro rfl
    simp at h2

/-- The test of one vector: all of its entries are real numbers. -/
theorem fin_of_all {S : Shape} {axes : List (Fin S.rank)} (x : FVec Ideal S .f32) (b : S_.BroadcastsInDim S (![] : Fin 0 → Fin S.rank))
    (init : IVec S_ 1) (hr : S.ReducesTo axes S_) (h0 : 0 < S_.numel)
    (h : Host.reduce IntOp.andi (cmpf .olt (Host.absf x) (broadcastInDim S ![] b (constant S_ .f32 0x7F800000#32))) init hr h0 ix0 = 1#1) :
    Fin' (x : S.Idx → EReal) := by
  intro i
  have : Subsingleton S_.Idx := ⟨fun a b => funext fun k => k.elim0⟩
  exact real_of_abs (Host.reduce_andi_all _ _ hr h0 ix0 h i)

/-- The precondition: the argument and the four vectors are finite. -/
theorem pre_fin (A : (⟨2, ![8192, 6144]⟩ : Shape).Idx → EReal) (l₁ l₂ l₃ l₄ : (⟨1, ![128]⟩ : Shape).Idx → EReal)
    (g : (⟨1, ![256]⟩ : Shape).Idx → EReal) (h : Cert.Pre_attn_finite.fn (F := Ideal) A l₁ l₂ l₃ l₄ g = fun _ => 1#1) :
    Fin' A ∧ Fin' l₁ ∧ Fin' l₂ ∧ Fin' l₃ ∧ Fin' l₄ := by
  have h0 := congrFun h ix0
  unfold Cert.Pre_attn_finite.fn Cert.Pre_attn_finite.fn_part1 at h0
  dsimp only at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fin_of_all _ _ _ _ _ e0, fin_of_all _ _ _ _ _ e1, fin_of_all _ _ _ _ _ e2, fin_of_all _ _ _ _ _ e3, fin_of_all _ _ _ _ _ e4⟩

end Cert.Proof.Attn

end
-- ==== Proof.Attn.Claim.lean ====
/-
  The claims about the attention: the kernel's result and the reference's are both `spec` of the arguments.
-/
module

public import proofs.«01_k».proof.Proof.Attn.Array
public import proofs.«01_k».proof.Proof.Attn.Ref
public import proofs.«01_k».proof.Proof.Attn.Finite

@[expose] public section

set_option maxRecDepth 16384

noncomputable section

namespace Cert.Proof.Attn

open Idealize.ShloMosaic Idealize.SL.Sem Idealize.ShloMosaic.TcCoe

/-- From equal finite arguments the kernel and the reference end with equal results and their arguments unchanged. -/
theorem algebraic : Cert.algebraic_KernelIdeal_ReferenceIdeal_pre_attn_finite (hKernelIdeal := Cert.KernelIdeal.Gen.facts)
    (hReferenceIdeal := Cert.ReferenceIdeal.Gen.facts) (hPre_attn_finite := Cert.Pre_attn_finite.Gen.facts) := by
  intro m g m' g' hpre hargs
  have hfin := fun c => pre_fin (argQkv m c) (argL1 m c) (argL2 m c) (argL3 m c) (argL4 m c) (argG m c) (hpre c)
  have hlam := fun c => lamOf_real (hfin c).2.1 (hfin c).2.2.1 (hfin c).2.2.2.1 (hfin c).2.2.2.2
  choose l hl using hlam
  refine ⟨fun c => G m c (l c), ?_, ?_⟩
  · refine (θ_run (Cert.KernelIdeal.defs (F := Ideal)) _ _).mono (fun r h c => ?_) (Cert.KernelIdeal.Value.run_blocks (F := Ideal) m g)
    exact ⟨(h c).1.trans (final5 m c (hfin c).1 (hl c)), (h c).2⟩
  · refine (θ_run (Cert.ReferenceIdeal.defs (F := Ideal)) _ _).mono (fun r h c => ?_) (Cert.ReferenceIdeal.Value.run (F := Ideal) m' g')
    refine ⟨(h c).1.trans ?_, (h c).2⟩
    obtain ⟨e0, e1, e2, e3, e4, e5⟩ := hargs c
    rw [Cert.ReferenceIdeal.Read.val_main_v63_eq, e0, e1, e2, e3, e4, e5]
    refine funext fun i => ?_
    have hi : i = ix2 (n0 := 8192) (n1 := 2048) (i 0) (i 1) := by
      funext a
      match a with
      | ⟨0, _⟩ => rfl
      | ⟨1, _⟩ => rfl
    rw [hi]
    exact Ref.out_apply (argQkv m c) (argL1 m c) (argL2 m c) (argL3 m c) (argL4 m c) (hfin c).1 (hl c) (argG m c) (i 0) (i 1)

end Cert.Proof.Attn

end
-- ==== Proof.Ffn.Math.lean ====
/-
  The feed-forward on one row, as functions of the row and of the weights' columns.
-/
module

public import Idealize.ShloMosaic.Lib.Pointwise
public import Idealize.ShloMosaic.PureOps.Ideal.Laws
public import Idealize.ShloMosaic.Lib.ValueIdx

@[expose] public section

set_option maxRecDepth 16384

noncomputable section

namespace Cert.Proof.Ffn

open Idealize.ShloMosaic

/-- The entry at `k` of a row of 2048 divided by its root mean square and scaled by its weights. -/
def norm (h w : Fin 2048 → EReal) (k : Fin 2048) : EReal :=
  h k * Ideal.rsqrt (Ideal.div (∑ j, h j * h j) (Ideal.ofBits .f32 0x45000000#32) + Ideal.ofBits .f32 0x358637BD#32) * w k

/-- The sigmoid gate times the value, for one gate column and one value column. -/
def act (x g u : Fin 2048 → EReal) : EReal :=
  (∑ k, x k * g k) * Ideal.logistic (∑ k, x k * g k) * (∑ k, x k * u k)

/-- What hidden unit `f` adds to an output entry; there are 5632 units. -/
def term (x : Fin 2048 → EReal) (g u : Fin 5632 → Fin 2048 → EReal) (d : Fin 5632 → EReal) (f : ℕ) : EReal :=
  if hf : f < 5632 then act x (g ⟨f, hf⟩) (u ⟨f, hf⟩) * d ⟨f, hf⟩ else 0

/-- The first `n` units' part of an output entry. -/
def part (x : Fin 2048 → EReal) (g u : Fin 5632 → Fin 2048 → EReal) (d : Fin 5632 → EReal) (n : ℕ) : EReal :=
  ∑ f ∈ Finset.range n, term x g u d f

/-- One more block of 256 units. -/
theorem part_block (x : Fin 2048 → EReal) (g u : Fin 5632 → Fin 2048 → EReal) (d : Fin 5632 → EReal) (n : ℕ) :
    part x g u d (256 * n + 256) = part x g u d (256 * n) + ∑ a : Fin 256, term x g u d (256 * n + a.val) := by
  unfold part
  rw [Finset.sum_range_add, Finset.sum_range (fun a => term x g u d (256 * n + a))]

/-- All the units together. -/
theorem part_all (x : Fin 2048 → EReal) (g u : Fin 5632 → Fin 2048 → EReal) (d : Fin 5632 → EReal) :
    part x g u d 5632 = ∑ f : Fin 5632, act x (g f) (u f) * d f := by
  unfold part
  rw [Finset.sum_range]
  refine Finset.sum_congr rfl fun f _ => ?_
  unfold term
  rw [dif_pos f.isLt]

/-- The residual row plus half the feed-forward. -/
def half (h o : Fin 2048 → EReal) (y : Fin 2048) : EReal := h y + Ideal.ofBits .f32 0x3F000000#32 * o y

/-- Row `r` of a block. -/
def row (x : (⟨2, ![1024, 2048]⟩ : Shape).Idx → EReal) (r : Fin 1024) (k : Fin 2048) : EReal := x (ix2 r k)
/-- The one row of a block of weights. -/
def row1 (x : (⟨2, ![1, 2048]⟩ : Shape).Idx → EReal) (k : Fin 2048) : EReal := x (ix2 0 k)
/-- Column `f` of a block of a stacked weight. -/
def col (x : (⟨3, ![1, 2048, 256]⟩ : Shape).Idx → EReal) (f : Fin 256) (k : Fin 2048) : EReal := x (ix3 0 k f)

/-- The new residual row `r`: the residual rows `h`, the weights `w` of the normalisation, and layer `l` of the stacked
    weights of the gate, of the value and of the way down. -/
def res (h : (⟨2, ![8192, 2048]⟩ : Shape).Idx → EReal) (w : (⟨1, ![2048]⟩ : Shape).Idx → EReal)
    (G U : (⟨3, ![2, 2048, 5632]⟩ : Shape).Idx → EReal) (D : (⟨3, ![2, 5632, 2048]⟩ : Shape).Idx → EReal)
    (l : Fin 2) (r : Fin 8192) (y : Fin 2048) : EReal :=
  half (fun j => h (ix2 r j))
    (fun y' => part (norm (fun j => h (ix2 r j)) (fun j => w (ix1 j))) (fun f k => G (ix3 l k f)) (fun f k => U (ix3 l k f))
      (fun f => D (ix3 l f y')) 5632) y

end Cert.Proof.Ffn

end
-- ==== Proof.Ffn.Body.lean ====
/-
  What one grid point of the last feed-forward computes, read at an index.

  A point holds 1024 rows and one block of 256 hidden units. The first point of a row block normalises the rows; every
  point adds its units' part to the output; the last one adds the residual and normalises again.
-/
module

public import proofs.«01_k».proof.Defs
public import proofs.«01_k».proof.Proof.Ffn.Math
public import proofs.«01_k».proof.Proof.Gen.FfnFinalIdeal.Value
public import Idealize.ShloMosaic.Lib.Pointwise
public import Idealize.ShloMosaic.Lib.ValueIdx

@[expose] public section

set_option maxRecDepth 16384

noncomputable section

namespace Cert.Proof.Ffn

open Idealize.ShloMosaic Idealize.SL.Sem Cert.FfnFinalIdeal Cert.FfnFinalIdeal.Gen Idealize.ShloMosaic.TcCoe

/-- The normalised rows. -/
theorem pay1_apply (x : Vec Ideal S1024x2048 .f32) (w : Vec Ideal S1x2048 .f32) (r : Fin 1024) (k : Fin 2048) :
    k0_pay1 (F := Ideal) x w (ix2 r k) = norm (row x r) (row1 w) k := by
  pointwise [k0_pay1]
  rfl

/-- The output starts from zero. -/
theorem pay2_apply (r : Fin 1024) (k : Fin 2048) : k0_pay2 (F := Ideal) (ix2 r k) = (0 : EReal) := by
  pointwise [k0_pay2]

/-- A point adds its 256 units' part. -/
theorem pay3_apply (x : Vec Ideal S1024x2048 .bf16) (g u : Vec Ideal S1x2048x256 .f32) (o : Vec Ideal S1024x2048 .f32)
    (d : Vec Ideal S1x256x2048 .f32) (r : Fin 1024) (y : Fin 2048) :
    k0_pay3 (F := Ideal) x g u o d (ix2 r y)
      = o (ix2 r y) + ∑ a : Fin 256, act (row x r) (col g a) (col u a) * d (ix3 0 a y) := by
  pointwise [k0_pay3]
  rfl

/-- The last point adds the residual to half the sum and normalises. -/
theorem pay4_apply (h o : Vec Ideal S1024x2048 .f32) (w : Vec Ideal S1x2048 .f32) (r : Fin 1024) (y : Fin 2048) :
    k0_pay4 (F := Ideal) h o w (ix2 r y) = norm (half (row h r) (row o r)) (row1 w) y := by
  pointwise [k0_pay4]
  rfl

end Cert.Proof.Ffn

end
-- ==== Proof.Ffn.Array.lean ====
/-
  The last feed-forward's output array.

  A grid point's blocks are read as entries of the arguments. The 22 points of a row block then leave, in the scratch, the
  normalised rows, and in the output the part of the feed-forward of the units visited so far; the last one leaves the
  normalised residual.
-/
module

public import proofs.«01_k».proof.Proof.Ffn.Body
public import Idealize.ShloMosaic.Lib.Pipeline.ValueKit.Acc
public import Idealize.ShloMosaic.Lib.StableHlo.Run

@[expose] public section

set_option maxRecDepth 16384

noncomputable section

namespace Cert.Proof.Ffn

open Idealize.ShloMosaic Idealize.SL.Sem Cert.FfnFinalIdeal Cert.FfnFinalIdeal.Gen Cert.FfnFinalIdeal.Value Idealize.ShloMosaic.TcCoe

variable (m : (ℓ : Loc nD τ sig) → Buf (Elt Ideal) ℓ) (c : Dev nD)

/-- The residual rows. -/
abbrev argH : (⟨2, ![8192, 2048]⟩ : Shape).Idx → EReal := m ((c.tc : Thread nD τ).loc main_arg0)
/-- The weights of the normalisation. -/
abbrev argW : (⟨1, ![2048]⟩ : Shape).Idx → EReal := m ((c.tc : Thread nD τ).loc main_arg1)
/-- The weights of the gate. -/
abbrev argGate : (⟨3, ![2, 2048, 5632]⟩ : Shape).Idx → EReal := m ((c.tc : Thread nD τ).loc main_arg2)
/-- The weights of the value. -/
abbrev argUp : (⟨3, ![2, 2048, 5632]⟩ : Shape).Idx → EReal := m ((c.tc : Thread nD τ).loc main_arg3)
/-- The weights of the way down. -/
abbrev argDown : (⟨3, ![2, 5632, 2048]⟩ : Shape).Idx → EReal := m ((c.tc : Thread nD τ).loc main_arg4)
/-- The weights of the last normalisation. -/
abbrev argWf : (⟨1, ![2048]⟩ : Shape).Idx → EReal := m ((c.tc : Thread nD τ).loc main_arg5)

/-- Each point's block of residual rows. -/
theorem idx0 : ∀ t : Fin cfg0.N, win0_0.index t (0 : Fin 2) = t.val / 22 ∧ win0_0.index t (1 : Fin 2) = 0 :=
  (by decide +kernel : ∀ t : Fin grid0.N, _)
/-- The weights of the normalisation are one block. -/
theorem idx1 : ∀ t : Fin cfg0.N, win0_1.index t (0 : Fin 2) = 0 ∧ win0_1.index t (1 : Fin 2) = 0 :=
  (by decide +kernel : ∀ t : Fin grid0.N, _)
/-- Each point's columns of the gate. -/
theorem idx2 : ∀ t : Fin cfg0.N,
    win0_2.index t (0 : Fin 3) = 1 ∧ win0_2.index t (1 : Fin 3) = 0 ∧ win0_2.index t (2 : Fin 3) = t.val % 22 :=
  (by decide +kernel : ∀ t : Fin grid0.N, _)
/-- Each point's columns of the value. -/
theorem idx3 : ∀ t : Fin cfg0.N,
    win0_3.index t (0 : Fin 3) = 1 ∧ win0_3.index t (1 : Fin 3) = 0 ∧ win0_3.index t (2 : Fin 3) = t.val % 22 :=
  (by decide +kernel : ∀ t : Fin grid0.N, _)
/-- Each point's rows of the way down. -/
theorem idx4 : ∀ t : Fin cfg0.N,
    win0_4.index t (0 : Fin 3) = 1 ∧ win0_4.index t (1 : Fin 3) = t.val % 22 ∧ win0_4.index t (2 : Fin 3) = 0 :=
  (by decide +kernel : ∀ t : Fin grid0.N, _)
/-- The weights of the last normalisation are one block. -/
theorem idx5 : ∀ t : Fin cfg0.N, win0_5.index t (0 : Fin 2) = 0 ∧ win0_5.index t (1 : Fin 2) = 0 :=
  (by decide +kernel : ∀ t : Fin grid0.N, _)

/-- There are 176 points. -/
theorem lt_N (t : Fin cfg0.N) : t.val < 176 := lt_of_lt_of_eq t.isLt N_0

/-- The residual row of number `q`. -/
def hrow (q : ℕ) (k : Fin 2048) : EReal := if hq : q < 8192 then argH m c (ix2 ⟨q, hq⟩ k) else 0

/-- The residual block's rows are the argument's. -/
theorem iblk0 (t : Fin cfg0.N) (r : Fin 1024) : row (iblk m c 0 t) r = hrow m c (t.val / 22 * 1024 + r.val) := by
  obtain ⟨e0, e1⟩ := idx0 t
  have ht := lt_N t
  have hr := r.isLt
  funext k
  unfold hrow
  rw [dif_pos (by omega)]
  unfold row iblk
  show V m c main_arg0 (((cfg0.win 0).blk t).view.emb (ix2 r k)) = _
  rw [V_main_arg0]
  refine congrArg (m ((c.tc : Thread nD τ).loc main_arg0)) ?_
  have hb0 : (((cfg0.win 0).blk t).view.emb (ix2 r k) 0).val = win0_0.index t (0 : Fin 2) * 1024 + 1 * r.val := rfl
  have hb1 : (((cfg0.win 0).blk t).view.emb (ix2 r k) 1).val = win0_0.index t (1 : Fin 2) * 2048 + 1 * k.val := rfl
  rw [e0] at hb0
  rw [e1] at hb1
  funext a
  match a with
  | ⟨0, _⟩ => exact Fin.ext (hb0.trans (by show _ = t.val / 22 * 1024 + r.val; omega))
  | ⟨1, _⟩ => exact Fin.ext (hb1.trans (by show _ = k.val; omega))

/-- The weights of the normalisation as a row when the grid is entered. -/
theorem row_eq : V m c main_v0 = shapeCast S1x2048 (argW m c : FVec Ideal S2048 .f32) shapeCasts_S2048_S1x2048 := by
  unfold V hostOps0
  after_results
  rfl

/-- The weights of the last normalisation as a row when the grid is entered. -/
theorem rowf_eq : V m c main_v1 = shapeCast S1x2048 (argWf m c : FVec Ideal S2048 .f32) shapeCasts_S2048_S1x2048 := by
  unfold V hostOps0
  after_results
  rfl

/-- The weights of the normalisation in a point's block. -/
theorem iblk1 (t : Fin cfg0.N) : row1 (iblk m c 1 t) = fun k => argW m c (ix1 k) := by
  have h : (iblk m c 1 t : (⟨2, ![1, 2048]⟩ : Shape).Idx → EReal) = V m c main_v0 := by
    funext i
    unfold iblk
    show V m c main_v0 (((cfg0.win 1).blk t).view.emb i) = _
    refine congrArg (V m c main_v0) ?_
    obtain ⟨e0, e1⟩ := idx1 t
    have hb0 : (((cfg0.win 1).blk t).view.emb i 0).val = win0_1.index t (0 : Fin 2) * 1 + 1 * (i 0).val := rfl
    have hb1 : (((cfg0.win 1).blk t).view.emb i 1).val = win0_1.index t (1 : Fin 2) * 2048 + 1 * (i 1).val := rfl
    rw [e0] at hb0
    rw [e1] at hb1
    funext a
    match a with
    | ⟨0, _⟩ => exact Fin.ext (hb0.trans (by show _ = (i 0).val; omega))
    | ⟨1, _⟩ => exact Fin.ext (hb1.trans (by show _ = (i 1).val; omega))
  funext k
  unfold row1
  rw [h, row_eq]
  pointwise []

/-- The weights of the last normalisation in a point's block. -/
theorem iblk5 (t : Fin cfg0.N) : row1 (iblk m c 5 t) = fun k => argWf m c (ix1 k) := by
  have h : (iblk m c 5 t : (⟨2, ![1, 2048]⟩ : Shape).Idx → EReal) = V m c main_v1 := by
    funext i
    unfold iblk
    show V m c main_v1 (((cfg0.win 5).blk t).view.emb i) = _
    refine congrArg (V m c main_v1) ?_
    obtain ⟨e0, e1⟩ := idx5 t
    have hb0 : (((cfg0.win 5).blk t).view.emb i 0).val = win0_5.index t (0 : Fin 2) * 1 + 1 * (i 0).val := rfl
    have hb1 : (((cfg0.win 5).blk t).view.emb i 1).val = win0_5.index t (1 : Fin 2) * 2048 + 1 * (i 1).val := rfl
    rw [e0] at hb0
    rw [e1] at hb1
    funext a
    match a with
    | ⟨0, _⟩ => exact Fin.ext (hb0.trans (by show _ = (i 0).val; omega))
    | ⟨1, _⟩ => exact Fin.ext (hb1.trans (by show _ = (i 1).val; omega))
  funext k
  unfold row1
  rw [h, rowf_eq]
  pointwise []

/-- A column of the gate in a point's block. -/
theorem iblk2 (t : Fin cfg0.N) (a : Fin 256) (h : 256 * (t.val % 22) + a.val < 5632) :
    col (iblk m c 2 t) a = fun k => argGate m c (ix3 1 k ⟨256 * (t.val % 22) + a.val, h⟩) := by
  obtain ⟨e0, e1, e2⟩ := idx2 t
  funext k
  unfold col iblk
  show V m c main_arg2 (((cfg0.win 2).blk t).view.emb (ix3 0 k a)) = _
  rw [V_main_arg2]
  refine congrArg (m ((c.tc : Thread nD τ).loc main_arg2)) ?_
  have hb0 : (((cfg0.win 2).blk t).view.emb (ix3 0 k a) 0).val = win0_2.index t (0 : Fin 3) * 1 + 1 * 0 := rfl
  have hb1 : (((cfg0.win 2).blk t).view.emb (ix3 0 k a) 1).val = win0_2.index t (1 : Fin 3) * 2048 + 1 * k.val := rfl
  have hb2 : (((cfg0.win 2).blk t).view.emb (ix3 0 k a) 2).val = win0_2.index t (2 : Fin 3) * 256 + 1 * a.val := rfl
  rw [e0] at hb0
  rw [e1] at hb1
  rw [e2] at hb2
  funext b
  match b with
  | ⟨0, _⟩ => exact Fin.ext (hb0.trans rfl)
  | ⟨1, _⟩ => exact Fin.ext (hb1.trans (by show _ = k.val; omega))
  | ⟨2, _⟩ => exact Fin.ext (hb2.trans (by show _ = 256 * (t.val % 22) + a.val; omega))

/-- A column of the value in a point's block. -/
theorem iblk3 (t : Fin cfg0.N) (a : Fin 256) (h : 256 * (t.val % 22) + a.val < 5632) :
    col (iblk m c 3 t) a = fun k => argUp m c (ix3 1 k ⟨256 * (t.val % 22) + a.val, h⟩) := by
  obtain ⟨e0, e1, e2⟩ := idx3 t
  funext k
  unfold col iblk
  show V m c main_arg3 (((cfg0.win 3).blk t).view.emb (ix3 0 k a)) = _
  rw [V_main_arg3]
  refine congrArg (m ((c.tc : Thread nD τ).loc main_arg3)) ?_
  have hb0 : (((cfg0.win 3).blk t).view.emb (ix3 0 k a) 0).val = win0_3.index t (0 : Fin 3) * 1 + 1 * 0 := rfl
  have hb1 : (((cfg0.win 3).blk t).view.emb (ix3 0 k a) 1).val = win0_3.index t (1 : Fin 3) * 2048 + 1 * k.val := rfl
  have hb2 : (((cfg0.win 3).blk t).view.emb (ix3 0 k a) 2).val = win0_3.index t (2 : Fin 3) * 256 + 1 * a.val := rfl
  rw [e0] at hb0
  rw [e1] at hb1
  rw [e2] at hb2
  funext b
  match b with
  | ⟨0, _⟩ => exact Fin.ext (hb0.trans rfl)
  | ⟨1, _⟩ => exact Fin.ext (hb1.trans (by show _ = k.val; omega))
  | ⟨2, _⟩ => exact Fin.ext (hb2.trans (by show _ = 256 * (t.val % 22) + a.val; omega))

/-- An entry of the way down in a point's block. -/
theorem iblk4 (t : Fin cfg0.N) (a : Fin 256) (y : Fin 2048) (h : 256 * (t.val % 22) + a.val < 5632) :
    iblk m c 4 t (ix3 0 a y) = argDown m c (ix3 1 ⟨256 * (t.val % 22) + a.val, h⟩ y) := by
  obtain ⟨e0, e1, e2⟩ := idx4 t
  unfold iblk
  show V m c main_arg4 (((cfg0.win 4).blk t).view.emb (ix3 0 a y)) = _
  rw [V_main_arg4]
  refine congrArg (m ((c.tc : Thread nD τ).loc main_arg4)) ?_
  have hb0 : (((cfg0.win 4).blk t).view.emb (ix3 0 a y) 0).val = win0_4.index t (0 : Fin 3) * 1 + 1 * 0 := rfl
  have hb1 : (((cfg0.win 4).blk t).view.emb (ix3 0 a y) 1).val = win0_4.index t (1 : Fin 3) * 256 + 1 * a.val := rfl
  have hb2 : (((cfg0.win 4).blk t).view.emb (ix3 0 a y) 2).val = win0_4.index t (2 : Fin 3) * 2048 + 1 * y.val := rfl
  rw [e0] at hb0
  rw [e1] at hb1
  rw [e2] at hb2
  funext b
  match b with
  | ⟨0, _⟩ => exact Fin.ext (hb0.trans rfl)
  | ⟨1, _⟩ => exact Fin.ext (hb1.trans (by show _ = 256 * (t.val % 22) + a.val; omega))
  | ⟨2, _⟩ => exact Fin.ext (hb2.trans (by show _ = y.val; omega))

/-- The normalised residual row of number `q`. -/
def xrow (q : ℕ) : Fin 2048 → EReal := norm (hrow m c q) (fun k => argW m c (ix1 k))

/-- The first `n` units' part of the output of row `q`. -/
def done (q : ℕ) (n : ℕ) (y : Fin 2048) : EReal :=
  part (xrow m c q) (fun f k => argGate m c (ix3 1 k f)) (fun f k => argUp m c (ix3 1 k f)) (fun f => argDown m c (ix3 1 f y)) n

/-- What a point adds, from normalised rows and an output found. -/
theorem step (t : Fin cfg0.N) (q : ℕ) (x : Vec Ideal S1024x2048 .bf16) (o : Vec Ideal S1024x2048 .f32) (r : Fin 1024) (y : Fin 2048)
    (hx : row x r = xrow m c q) (ho : o (ix2 r y) = done m c q (256 * (t.val % 22)) y) :
    k0_pay3 (F := Ideal) x (iblk m c 2 t) (iblk m c 3 t) o (iblk m c 4 t) (ix2 r y) = done m c q (256 * (t.val % 22) + 256) y := by
  rw [pay3_apply, ho, hx]
  unfold done
  rw [part_block]
  refine congrArg _ (Finset.sum_congr rfl fun a _ => ?_)
  have ha := a.isLt
  have h : 256 * (t.val % 22) + a.val < 5632 := by omega
  unfold term
  rw [dif_pos h, iblk2 m c t a h, iblk3 m c t a h, iblk4 m c t a y h]

/-- What the scratch and the output hold after point `n`: the normalised rows of its block, and the part of the units
    visited or, after the last, the normalised residual. -/
theorem state : ∀ (n : ℕ) (hn : n < cfg0.N),
    (∀ r : Fin 1024, row (outsAt0 m c n hn).2 r = xrow m c (n / 22 * 1024 + r.val))
    ∧ (n % 22 ≠ 21 → ∀ (r : Fin 1024) (y : Fin 2048),
        (outsAt0 m c n hn).1 (ix2 r y) = done m c (n / 22 * 1024 + r.val) (256 * (n % 22) + 256) y)
    ∧ (n % 22 = 21 → ∀ (r : Fin 1024) (y : Fin 2048),
        (outsAt0 m c n hn).1 (ix2 r y)
          = norm (half (hrow m c (n / 22 * 1024 + r.val)) (done m c (n / 22 * 1024 + r.val) 5632)) (fun k => argWf m c (ix1 k)) y) := by
  intro n
  induction n using Nat.strong_induction_on with
  | _ n ih =>
    intro hn
    by_cases h0 : n % 22 = 0
    · have h1 : ¬ n % 22 = 21 := by omega
      have hx : ∀ r : Fin 1024, row (k0_pay1 (F := Ideal) (iblk m c 0 ⟨n, hn⟩) (iblk m c 1 ⟨n, hn⟩)) r = xrow m c (n / 22 * 1024 + r.val) := by
        intro r
        funext k
        unfold row
        rw [pay1_apply, iblk0, iblk1]
        rfl
      refine ⟨fun r => ?_, fun _ r y => ?_, fun h => absurd h h1⟩
      · rw [outsAt0_A m c ⟨n, hn⟩ h0 h1]
        frame_out
        exact hx r
      · rw [outsAt0_A m c ⟨n, hn⟩ h0 h1]
        frame_out
        refine step m c ⟨n, hn⟩ _ _ _ r y (hx r) ?_
        rw [pay2_apply]
        unfold done
        show _ = part _ _ _ _ (256 * (n % 22))
        rw [h0]
        rfl
    · have hlt : n - 1 < n := by omega
      have hn' : n - 1 < cfg0.N := by omega
      obtain ⟨ihx, iho, -⟩ := ih (n - 1) hlt hn'
      have hq : (n - 1) / 22 = n / 22 := by omega
      have hr : 256 * ((n - 1) % 22) + 256 = 256 * (n % 22) := by omega
      have hs : (n - 1) % 22 ≠ 21 := by omega
      rw [hq] at ihx iho
      rw [hr] at iho
      have hstep : ∀ (r : Fin 1024) (y : Fin 2048),
          k0_pay3 (F := Ideal) (outsAt0 m c (n - 1) hn').2 (iblk m c 2 ⟨n, hn⟩) (iblk m c 3 ⟨n, hn⟩) (outsAt0 m c (n - 1) hn').1
            (iblk m c 4 ⟨n, hn⟩) (ix2 r y) = done m c (n / 22 * 1024 + r.val) (256 * (n % 22) + 256) y :=
        fun r y => step m c ⟨n, hn⟩ _ _ _ r y (ihx r) (iho hs r y)
      by_cases h1 : n % 22 = 21
      · refine ⟨fun r => ?_, fun h => absurd h1 h, fun _ r y => ?_⟩
        · rw [outsAt0_C m c ⟨n, hn⟩ h0 h1]
          exact ihx r
        · rw [outsAt0_C m c ⟨n, hn⟩ h0 h1]
          frame_out
          rw [(Memref.isWhole_whole cc0_scratch0).read_unread, pay4_apply, iblk0, iblk5]
          refine congrArg (fun o => norm (half _ o) _ y) (funext fun y' => ?_)
          refine (hstep r y').trans ?_
          rw [h1]
      · refine ⟨fun r => ?_, fun _ r y => ?_, fun h => absurd h h1⟩
        · rw [outsAt0_B m c ⟨n, hn⟩ h0 h1]
          exact ihx r
        · rw [outsAt0_B m c ⟨n, hn⟩ h0 h1]
          frame_out
          rw [(Memref.isWhole_whole cc0_scratch0).read_unread]
          exact hstep r y

/-- The output array: each row the normalised residual row. -/
theorem G6_apply (r : Fin 8192) (y : Fin 2048) :
    G6 m c (ix2 r y)
      = norm (res (argH m c) (argW m c) (argGate m c) (argUp m c) (argDown m c) 1 r) (fun k => argWf m c (ix1 k)) y := by
  have hr := r.isLt
  have hy := y.isLt
  have hp : pt6Of (ix2 r y) = 22 * (r.val / 1024) + 21 := by
    show 22 * (1 * (r.val / 1024 - 0) + 1 * (y.val / 2048 - 0)) + 21 = _
    omega
  have hl : loc6Of (ix2 r y) = ix2 ⟨r.val % 1024, Nat.mod_lt _ (by decide)⟩ y := by
    funext a
    match a with
    | ⟨0, _⟩ => rfl
    | ⟨1, _⟩ => exact Fin.ext (Nat.mod_eq_of_lt hy)
  have hN : pt6Of (ix2 r y) < cfg0.N := lt_of_lt_of_eq (b := 176) (by rw [hp]; omega) N_0.symm
  unfold G6
  rw [dif_pos hN, hl, ← outsAt0_sweep m c _ hN]
  have h21 : pt6Of (ix2 r y) % 22 = 21 := by rw [hp]; omega
  have hrow' : pt6Of (ix2 r y) / 22 * 1024 + r.val % 1024 = r.val := by rw [hp]; omega
  refine ((state m c _ hN).2.2 h21 ⟨r.val % 1024, Nat.mod_lt _ (by decide)⟩ y).trans ?_
  show norm (half (hrow m c (pt6Of (ix2 r y) / 22 * 1024 + r.val % 1024)) (done m c (pt6Of (ix2 r y) / 22 * 1024 + r.val % 1024) 5632)) _ y = _
  rw [hrow']
  have hh : hrow m c r.val = fun j => argH m c (ix2 r j) := by
    funext j
    unfold hrow
    rw [dif_pos hr]
  refine congrArg (fun o => norm o _ y) ?_
  funext y'
  unfold res done xrow half
  rw [hh]

end Cert.Proof.Ffn

end
-- ==== Proof.Ffn.Ref.lean ====
/-
  The reference of the last feed-forward, read at an index: the normalised sum of the residual row and half the
  feed-forward of the normalised row.
-/
module

public import proofs.«01_k».proof.Proof.Ffn.Math
public import proofs.«01_k».proof.Proof.Gen.FfnFinalRefIdeal.Read
public import Idealize.ShloMosaic.Lib.Pointwise
public import Idealize.ShloMosaic.Lib.IdealHost

@[expose] public section

set_option maxRecDepth 16384

noncomputable section

namespace Cert.Proof.Ffn.Ref

open Idealize.ShloMosaic Idealize.SL.Sem Cert.FfnFinalRefIdeal Cert.FfnFinalRefIdeal.Gen Cert.FfnFinalRefIdeal.Value Cert.FfnFinalRefIdeal.Read Idealize.ShloMosaic.TcCoe

variable (h : (⟨2, ![8192, 2048]⟩ : Shape).Idx → EReal) (w wf : (⟨1, ![2048]⟩ : Shape).Idx → EReal)
  (G U : (⟨3, ![2, 2048, 5632]⟩ : Shape).Idx → EReal) (D : (⟨3, ![2, 5632, 2048]⟩ : Shape).Idx → EReal)

/-- The square sum of a residual row. -/
theorem sq_apply (r : Fin 8192) :
    val_main_v1 (F := Ideal) h (ix1 r) = ∑ k : Fin 2048, h (ix2 r k) * h (ix2 r k) := by
  have z : ∀ i, val_main_cst (F := Ideal) i = (0 : EReal) := fun _ => Ideal.ofBits_zero .f32
  rw [val_main_v1_apply, z, zero_add]
  refine Finset.sum_congr rfl fun k _ => ?_
  have e : idx_main_v1 (ix1 r) k = ix2 r k := by
    funext a
    match a with
    | ⟨0, _⟩ => rfl
    | ⟨1, _⟩ => rfl
  rw [val_main_v0_apply, e]
  rfl

/-- The normalised row. -/
theorem norm_apply (r : Fin 8192) (k : Fin 2048) :
    val_main_v12 (F := Ideal) h w (ix2 r k) = norm (fun j => h (ix2 r j)) (fun j => w (ix1 j)) k := by
  have e1 : idx_main_v2 (idx_main_v8 (ix2 r k)) = ix1 r := by
    funext a
    match a with
    | ⟨0, _⟩ => rfl
  have e2 : idx_main_v10 (idx_main_v11 (ix2 r k)) = ix1 k := by
    funext a
    match a with
    | ⟨0, _⟩ => rfl
  rw [val_main_v12_apply, val_main_v11_apply, val_main_v10_apply, val_main_v9_apply, val_main_v8_apply, val_main_v7_apply,
    val_main_v6_apply, val_main_v5_apply, val_main_v4_apply, val_main_v3_apply, val_main_v2_apply, e1, e2, sq_apply,
    val_main_cst_0_apply, val_main_cst_1_apply]
  rfl

/-- The second layer's gate column. -/
theorem gate_apply (k : Fin 2048) (f : Fin 5632) : val_main_v14 (F := Ideal) G (ix2 k f) = G (ix3 1 k f) := by
  have hk := k.isLt
  have hf := f.isLt
  rw [val_main_v14_apply, val_main_v13_apply]
  refine congrArg G ?_
  funext a
  match a with
  | ⟨0, _⟩ => refine Fin.ext ?_; show _ = 1; simp
  | ⟨1, _⟩ => refine Fin.ext ?_; show _ = k.val; simp; try omega
  | ⟨2, _⟩ => refine Fin.ext ?_; show _ = f.val; simp; try omega

/-- The second layer's value column. -/
theorem up_apply (k : Fin 2048) (f : Fin 5632) : val_main_v16 (F := Ideal) U (ix2 k f) = U (ix3 1 k f) := by
  have hk := k.isLt
  have hf := f.isLt
  rw [val_main_v16_apply, val_main_v15_apply]
  refine congrArg U ?_
  funext a
  match a with
  | ⟨0, _⟩ => refine Fin.ext ?_; show _ = 1; simp
  | ⟨1, _⟩ => refine Fin.ext ?_; show _ = k.val; simp; try omega
  | ⟨2, _⟩ => refine Fin.ext ?_; show _ = f.val; simp; try omega

/-- The second layer's down projection. -/
theorem down_apply (f : Fin 5632) (y : Fin 2048) : val_main_v18 (F := Ideal) D (ix2 f y) = D (ix3 1 f y) := by
  have hk := y.isLt
  have hf := f.isLt
  rw [val_main_v18_apply, val_main_v17_apply]
  refine congrArg D ?_
  funext a
  match a with
  | ⟨0, _⟩ => refine Fin.ext ?_; show _ = 1; simp
  | ⟨1, _⟩ => refine Fin.ext ?_; show _ = f.val; simp; try omega
  | ⟨2, _⟩ => refine Fin.ext ?_; show _ = y.val; simp; try omega

/-- The gate's product. -/
theorem gdot_apply (r : Fin 8192) (f : Fin 5632) :
    val_main_v19 (F := Ideal) h w G (ix2 r f)
      = ∑ k, norm (fun j => h (ix2 r j)) (fun j => w (ix1 j)) k * G (ix3 1 k f) := by
  rw [val_main_v19_apply]
  refine Finset.sum_congr rfl fun k _ => ?_
  have el : lidx_main_v19 (ix2 r f) k = ix2 r k := by
    funext a
    match a with
    | ⟨0, _⟩ => rfl
    | ⟨1, _⟩ => rfl
  have er : ridx_main_v19 (ix2 r f) k = ix2 k f := by
    funext a
    match a with
    | ⟨0, _⟩ => rfl
    | ⟨1, _⟩ => rfl
  rw [el, er, norm_apply, gate_apply]

/-- The value's product. -/
theorem udot_apply (r : Fin 8192) (f : Fin 5632) :
    val_main_v21 (F := Ideal) h w U (ix2 r f)
      = ∑ k, norm (fun j => h (ix2 r j)) (fun j => w (ix1 j)) k * U (ix3 1 k f) := by
  rw [val_main_v21_apply]
  refine Finset.sum_congr rfl fun k _ => ?_
  have el : lidx_main_v21 (ix2 r f) k = ix2 r k := by
    funext a
    match a with
    | ⟨0, _⟩ => rfl
    | ⟨1, _⟩ => rfl
  have er : ridx_main_v21 (ix2 r f) k = ix2 k f := by
    funext a
    match a with
    | ⟨0, _⟩ => rfl
    | ⟨1, _⟩ => rfl
  rw [el, er, norm_apply, up_apply]

/-- One, as the word says it. -/
theorem one_word : (FloatOps.ofBits (F := Ideal) .f32 0x3F800000#32 : EReal) = 1 := by
  exact Ideal.ofBits_one_f32

/-- A hidden unit. -/
theorem act_apply (r : Fin 8192) (f : Fin 5632) :
    val_main_v22 (F := Ideal) h w G U (ix2 r f)
      = act (norm (fun j => h (ix2 r j)) (fun j => w (ix1 j))) (fun k => G (ix3 1 k f)) (fun k => U (ix3 1 k f)) := by
  rw [val_main_v22_apply, val_main_v20_apply, val_main_call0_v5_apply, val_main_call0_v4_apply, val_main_call0_v3_apply,
    val_main_call0_v2_apply, val_main_call0_v1_apply, val_main_call0_v0_apply, val_main_call0_cst_apply,
    val_main_call0_cst_0_apply, one_word, gdot_apply, udot_apply]
  rfl

/-- The feed-forward. -/
theorem ffn_apply (r : Fin 8192) (y : Fin 2048) :
    val_main_v23 (F := Ideal) h w G U D (ix2 r y)
      = part (norm (fun j => h (ix2 r j)) (fun j => w (ix1 j))) (fun f k => G (ix3 1 k f)) (fun f k => U (ix3 1 k f))
          (fun f => D (ix3 1 f y)) 5632 := by
  rw [val_main_v23_apply, part_all]
  refine Finset.sum_congr rfl fun f _ => ?_
  have el : lidx_main_v23 (ix2 r y) f = ix2 r f := by
    funext a
    match a with
    | ⟨0, _⟩ => rfl
    | ⟨1, _⟩ => rfl
  have er : ridx_main_v23 (ix2 r y) f = ix2 f y := by
    funext a
    match a with
    | ⟨0, _⟩ => rfl
    | ⟨1, _⟩ => rfl
  rw [el, er, act_apply, down_apply]

/-- The reference's residual row. -/
theorem res_apply (r : Fin 8192) (y : Fin 2048) : val_main_v26 (F := Ideal) h w G U D (ix2 r y) = res h w G U D 1 r y := by
  rw [val_main_v26_apply, val_main_v25_apply, val_main_v24_apply, val_main_cst_2_apply, ffn_apply]
  rfl

/-- The square sum of the new residual row. -/
theorem sq2_apply (r : Fin 8192) :
    val_main_v28 (F := Ideal) h w G U D (ix1 r) = ∑ k : Fin 2048, res h w G U D 1 r k * res h w G U D 1 r k := by
  have z : ∀ i, val_main_cst_3 (F := Ideal) i = (0 : EReal) := fun _ => Ideal.ofBits_zero .f32
  rw [val_main_v28_apply, z, zero_add]
  refine Finset.sum_congr rfl fun k _ => ?_
  have e : idx_main_v28 (ix1 r) k = ix2 r k := by
    funext a
    match a with
    | ⟨0, _⟩ => rfl
    | ⟨1, _⟩ => rfl
  rw [val_main_v27_apply, e, res_apply]
  rfl

/-- The reference's result. -/
theorem out_apply (r : Fin 8192) (y : Fin 2048) :
    val_main_v39 (F := Ideal) h w G U D wf (ix2 r y) = norm (res h w G U D 1 r) (fun j => wf (ix1 j)) y := by
  have e1 : idx_main_v29 (idx_main_v35 (ix2 r y)) = ix1 r := by
    funext a
    match a with
    | ⟨0, _⟩ => rfl
  have e2 : idx_main_v37 (idx_main_v38 (ix2 r y)) = ix1 y := by
    funext a
    match a with
    | ⟨0, _⟩ => rfl
  rw [val_main_v39_apply, val_main_v38_apply, val_main_v37_apply, val_main_v36_apply, val_main_v35_apply, val_main_v34_apply,
    val_main_v33_apply, val_main_v32_apply, val_main_v31_apply, val_main_v30_apply, val_main_v29_apply, e1, e2, sq2_apply, res_apply,
    val_main_cst_4_apply, val_main_cst_5_apply]
  generalize res h w G U D 1 r = z
  rfl

end Cert.Proof.Ffn.Ref

end
-- ==== Proof.Ffn.Claim.lean ====
/-
  The claim about the last feed-forward: the kernel's result and the reference's are the same function of the arguments.
-/
module

public import proofs.«01_k».proof.Proof.Ffn.Array
public import proofs.«01_k».proof.Proof.Ffn.Ref

@[expose] public section

set_option maxRecDepth 16384

noncomputable section

namespace Cert.Proof.Ffn

open Idealize.ShloMosaic Idealize.SL.Sem Idealize.ShloMosaic.TcCoe

/-- From equal arguments the kernel and the reference end with equal results and their arguments unchanged. -/
theorem algebraic : Cert.algebraic_FfnFinalIdeal_FfnFinalRefIdeal (hFfnFinalIdeal := Cert.FfnFinalIdeal.Gen.facts)
    (hFfnFinalRefIdeal := Cert.FfnFinalRefIdeal.Gen.facts) := by
  intro m g m' g' _ hargs
  refine ⟨fun c => Cert.FfnFinalIdeal.Value.G6 m c, Cert.FfnFinalIdeal.Value.run (F := Ideal) m g, ?_⟩
  refine (θ_run (Cert.FfnFinalRefIdeal.defs (F := Ideal)) _ _).mono (fun r h c => ?_) (Cert.FfnFinalRefIdeal.Value.run (F := Ideal) m' g')
  refine ⟨(h c).1.trans ?_, (h c).2⟩
  obtain ⟨e0, e1, e2, e3, e4, e5⟩ := hargs c
  rw [Cert.FfnFinalRefIdeal.Read.val_main_v39_eq, e0, e1, e2, e3, e4, e5]
  refine funext fun i => ?_
  have hi : i = ix2 (n0 := 8192) (n1 := 2048) (i 0) (i 1) := by
    funext a
    match a with
    | ⟨0, _⟩ => rfl
    | ⟨1, _⟩ => rfl
  rw [hi]
  refine (Ref.out_apply (argH m c) (argW m c) (argWf m c) (argGate m c) (argUp m c) (argDown m c) (i 0) (i 1)).trans ?_
  exact (G6_apply m c (i 0) (i 1)).symm

end Cert.Proof.Ffn

end
-- ==== Proof.Next.Body.lean ====
/-
  What one grid point of the opening feed-forward computes, read at an index.

  A point holds 1024 rows and one block of 256 hidden units. The first point of a row block normalises the rows; every
  point adds its units' part to the first result; the last one adds the residual, and normalises again into the second.
-/
module

public import proofs.«01_k».proof.Defs
public import proofs.«01_k».proof.Proof.Ffn.Math
public import proofs.«01_k».proof.Proof.Gen.FfnNextIdeal.Skeleton
public import Idealize.ShloMosaic.Lib.Pointwise
public import Idealize.ShloMosaic.Lib.ValueIdx

@[expose] public section

set_option maxRecDepth 16384

noncomputable section

namespace Cert.Proof.Next

open Cert.Proof.Ffn Idealize.ShloMosaic Idealize.SL.Sem Cert.FfnNextIdeal Cert.FfnNextIdeal.Gen Idealize.ShloMosaic.TcCoe

/-- The normalised rows. -/
theorem pay1_apply (x : Vec Ideal S1024x2048 .f32) (w : Vec Ideal S1x2048 .f32) (r : Fin 1024) (k : Fin 2048) :
    k0_pay1 (F := Ideal) x w (ix2 r k) = norm (row x r) (row1 w) k := by
  pointwise [k0_pay1]
  rfl

/-- The output starts from zero. -/
theorem pay2_apply (r : Fin 1024) (k : Fin 2048) : k0_pay2 (F := Ideal) (ix2 r k) = (0 : EReal) := by
  pointwise [k0_pay2]

/-- A point adds its 256 units' part. -/
theorem pay3_apply (x : Vec Ideal S1024x2048 .bf16) (g u : Vec Ideal S1x2048x256 .f32) (o : Vec Ideal S1024x2048 .f32)
    (d : Vec Ideal S1x256x2048 .f32) (r : Fin 1024) (y : Fin 2048) :
    k0_pay3 (F := Ideal) x g u o d (ix2 r y)
      = o (ix2 r y) + ∑ a : Fin 256, act (row x r) (col g a) (col u a) * d (ix3 0 a y) := by
  pointwise [k0_pay3]
  rfl

/-- The last point adds the residual to half the sum. -/
theorem pay4_apply (h o : Vec Ideal S1024x2048 .f32) (r : Fin 1024) (y : Fin 2048) :
    k0_pay4 (F := Ideal) h o (ix2 r y) = half (row h r) (row o r) y := by
  pointwise [k0_pay4]
  rfl

/-- The last point also normalises the new residual. -/
theorem pay5_apply (h o : Vec Ideal S1024x2048 .f32) (w : Vec Ideal S1x2048 .f32) (r : Fin 1024) (y : Fin 2048) :
    k0_pay5 (F := Ideal) h o w (ix2 r y) = norm (half (row h r) (row o r)) (row1 w) y := by
  pointwise [k0_pay5, k0_pay4]
  rfl

end Cert.Proof.Next

end
-- ==== Proof.Next.Points.lean ====
/-
  The body of the feed-forward that opens a block, point by point: it walks a block of rows along the hidden units; at
  the walk's first point it normalises the rows and clears the sum, at every point it adds one block of hidden units,
  and at the last it adds the sum to the rows and normalises the result. Each of the three kinds of point is run once,
  on any buffers, to what it leaves in the two result blocks.
-/
module

public import proofs.«01_k».proof.Proof.Gen.FfnNextIdeal
public import proofs.«01_k».proof.Proof.Gen.FfnNextIdeal.Frame
public import proofs.«01_k».proof.Proof.Gen.FfnNextIdeal.Skeleton
public import Idealize.ShloMosaic.Lib.Pipeline.ValueKit.Acc
public import Idealize.ShloMosaic.Lib.VecWindow

@[expose] public section

set_option maxRecDepth 16384

noncomputable section

namespace Cert.Proof.Next

open Cert.FfnNextIdeal Cert.FfnNextIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first branch is taken at the first point of every walk. -/
theorem first_iff (t : Fin cfg0.N) : k0_cond1 (grid0.coords t) = 1#1 ↔ t.val % 22 = 0 := by
  have ht : t.val < 176 := Nat.lt_of_lt_of_eq t.isLt N_0
  have e1 : (grid0.coords t 1).val = t.val / 1 % 22 := Pipeline.Grid.coords_val t 1 (by decide) rfl
  simp only [k0_cond1, e1]
  word_cmp

/-- The second branch is taken at the last point of every walk. -/
theorem last_iff (t : Fin cfg0.N) : k0_cond2 (grid0.coords t) = 1#1 ↔ t.val % 22 = 21 := by
  have ht : t.val < 176 := Nat.lt_of_lt_of_eq t.isLt N_0
  have e1 : (grid0.coords t 1).val = t.val / 1 % 22 := Pipeline.Grid.coords_val t 1 (by decide) rfl
  simp only [k0_cond2, e1]
  word_cmp

/-- The eight buffers of the body at stated contents: the rows, the first weight, the three blocks of the products'
    weights, the second weight, and the two results. -/
def held (c : Dev nD) (a2 : Memref sig .tc .vmem S1024x2048 .f32) (a3 : Memref sig .tc .vmem S1x2048 .f32)
    (a4 a5 : Memref sig .tc .vmem S1x2048x256 .f32) (a6 : Memref sig .tc .vmem S1x256x2048 .f32)
    (a7 : Memref sig .tc .vmem S1x2048 .f32) (a8 : Memref sig .tc .vmem S1024x2048 .f32)
    (a9 : Memref sig .tc .vmem S1024x2048 .bf16) (x0 : Vec F S1024x2048 .f32) (x1 : Vec F S1x2048 .f32)
    (x2 x3 : Vec F S1x2048x256 .f32) (x4 : Vec F S1x256x2048 .f32) (x5 : Vec F S1x2048 .f32)
    (x6 : Vec F S1024x2048 .f32) (x7 : Vec F S1024x2048 .bf16) : sProp 𝕄 :=
  iprop(owns (c : Thread nD τ) a2 fullShare x0 ∗ owns (c : Thread nD τ) a3 fullShare x1
    ∗ owns (c : Thread nD τ) a4 fullShare x2 ∗ owns (c : Thread nD τ) a5 fullShare x3
    ∗ owns (c : Thread nD τ) a6 fullShare x4 ∗ owns (c : Thread nD τ) a7 fullShare x5
    ∗ owns (c : Thread nD τ) a8 fullShare x6 ∗ owns (c : Thread nD τ) a9 fullShare x7)

set_option maxHeartbeats 1000000 in
/-- The first point of a walk leaves the normalised rows, and the first block's part over a cleared sum. -/
theorem run_first
    (c : Dev nD) (i : grid0.Coords) (a2 : Memref sig .tc .vmem S1024x2048 .f32) (h2 : a2.IsWhole)
    (a3 : Memref sig .tc .vmem S1x2048 .f32) (h3 : a3.IsWhole) (a4 : Memref sig .tc .vmem S1x2048x256 .f32) (h4 : a4.IsWhole)
    (a5 : Memref sig .tc .vmem S1x2048x256 .f32) (h5 : a5.IsWhole) (a6 : Memref sig .tc .vmem S1x256x2048 .f32) (h6 : a6.IsWhole)
    (a7 : Memref sig .tc .vmem S1x2048 .f32) (h7 : a7.IsWhole) (a8 : Memref sig .tc .vmem S1024x2048 .f32) (h8 : a8.IsWhole)
    (a9 : Memref sig .tc .vmem S1024x2048 .bf16) (h9 : a9.IsWhole)
    (x0 : Vec F S1024x2048 .f32) (x1 : Vec F S1x2048 .f32) (x2 x3 : Vec F S1x2048x256 .f32) (x4 : Vec F S1x256x2048 .f32)
    (x5 : Vec F S1x2048 .f32) (x6 : Vec F S1024x2048 .f32) (x7 : Vec F S1024x2048 .bf16) (K : PUnit → sProp 𝕄)
    (hc0 : k0_cond1 i = 1#1) (hc1 : ¬k0_cond2 i = 1#1) :
    iprop(held c a2 a3 a4 a5 a6 a7 a8 a9 x0 x1 x2 x3 x4 x5 x6 x7
        ∗ (held c a2 a3 a4 a5 a6 a7 a8 a9 x0 x1 x2 x3 x4 x5 (k0_pay3 (k0_pay1 x0 x1) x2 x3 k0_pay2 x4) (k0_pay1 x0 x1) -∗ K ⟨⟩))
      ⊢ wp frame (wpE (defs₀ (F := F)) Variants.none c none) Set.univ
          (cc0_ffn i a2 h2 a3 h3 a4 h4 a5 h5 a6 h6 a7 h7 a8 h8 a9 h9) K := by
  simp only [cc0_ffn_eq_skeleton]; unfold cc0_ffn_skel held owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩, Hk⟩
  obtain rfl := h2.eq_unread e0; obtain rfl := h3.eq_unread e1; obtain rfl := h4.eq_unread e2; obtain rfl := h5.eq_unread e3
  obtain rfl := h6.eq_unread e4; obtain rfl := h7.eq_unread e5; obtain rfl := h8.eq_unread e6; obtain rfl := h9.eq_unread e7
  sl_exec (disch := first | sl_exact hc0 | sl_exact hc1)
  sl_step
  iapply Hk
  isplitl [H0]; · iexists _; isplitr; · ipureintro; exact h2.read_unread _
                  iexact H0
  isplitl [H1]; · iexists _; isplitr; · ipureintro; exact h3.read_unread _
                  iexact H1
  isplitl [H2]; · iexists _; isplitr; · ipureintro; exact h4.read_unread _
                  iexact H2
  isplitl [H3]; · iexists _; isplitr; · ipureintro; exact h5.read_unread _
                  iexact H3
  isplitl [H4]; · iexists _; isplitr; · ipureintro; exact h6.read_unread _
                  iexact H4
  isplitl [H5]; · iexists _; isplitr; · ipureintro; exact h7.read_unread _
                  iexact H5
  isplitl [H6]
  · iexists _; isplitr
    swap; · iexact H6
    ipureintro
    frame_open
    rw [View.read_writes_full]
    frame_out
  iexists _; isplitr
  swap; · iexact H7
  ipureintro
  frame_open
  rw [View.read_writes_full]
  frame_out

set_option maxHeartbeats 1000000 in
/-- A point inside a walk adds its block's part to the sum and leaves the normalised rows as they were. -/
theorem run_inner
    (c : Dev nD) (i : grid0.Coords) (a2 : Memref sig .tc .vmem S1024x2048 .f32) (h2 : a2.IsWhole)
    (a3 : Memref sig .tc .vmem S1x2048 .f32) (h3 : a3.IsWhole) (a4 : Memref sig .tc .vmem S1x2048x256 .f32) (h4 : a4.IsWhole)
    (a5 : Memref sig .tc .vmem S1x2048x256 .f32) (h5 : a5.IsWhole) (a6 : Memref sig .tc .vmem S1x256x2048 .f32) (h6 : a6.IsWhole)
    (a7 : Memref sig .tc .vmem S1x2048 .f32) (h7 : a7.IsWhole) (a8 : Memref sig .tc .vmem S1024x2048 .f32) (h8 : a8.IsWhole)
    (a9 : Memref sig .tc .vmem S1024x2048 .bf16) (h9 : a9.IsWhole)
    (x0 : Vec F S1024x2048 .f32) (x1 : Vec F S1x2048 .f32) (x2 x3 : Vec F S1x2048x256 .f32) (x4 : Vec F S1x256x2048 .f32)
    (x5 : Vec F S1x2048 .f32) (x6 : Vec F S1024x2048 .f32) (x7 : Vec F S1024x2048 .bf16) (K : PUnit → sProp 𝕄)
    (hc0 : ¬k0_cond1 i = 1#1) (hc1 : ¬k0_cond2 i = 1#1) :
    iprop(held c a2 a3 a4 a5 a6 a7 a8 a9 x0 x1 x2 x3 x4 x5 x6 x7
        ∗ (held c a2 a3 a4 a5 a6 a7 a8 a9 x0 x1 x2 x3 x4 x5 (k0_pay3 x7 x2 x3 x6 x4) x7 -∗ K ⟨⟩))
      ⊢ wp frame (wpE (defs₀ (F := F)) Variants.none c none) Set.univ
          (cc0_ffn i a2 h2 a3 h3 a4 h4 a5 h5 a6 h6 a7 h7 a8 h8 a9 h9) K := by
  simp only [cc0_ffn_eq_skeleton]; unfold cc0_ffn_skel held owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩, Hk⟩
  obtain rfl := h2.eq_unread e0; obtain rfl := h3.eq_unread e1; obtain rfl := h4.eq_unread e2; obtain rfl := h5.eq_unread e3
  obtain rfl := h6.eq_unread e4; obtain rfl := h7.eq_unread e5; obtain rfl := h8.eq_unread e6; obtain rfl := h9.eq_unread e7
  sl_exec (disch := first | sl_exact hc0 | sl_exact hc1)
  sl_step
  iapply Hk
  isplitl [H0]; · iexists _; isplitr; · ipureintro; exact h2.read_unread _
                  iexact H0
  isplitl [H1]; · iexists _; isplitr; · ipureintro; exact h3.read_unread _
                  iexact H1
  isplitl [H2]; · iexists _; isplitr; · ipureintro; exact h4.read_unread _
                  iexact H2
  isplitl [H3]; · iexists _; isplitr; · ipureintro; exact h5.read_unread _
                  iexact H3
  isplitl [H4]; · iexists _; isplitr; · ipureintro; exact h6.read_unread _
                  iexact H4
  isplitl [H5]; · iexists _; isplitr; · ipureintro; exact h7.read_unread _
                  iexact H5
  isplitl [H6]
  · iexists _; isplitr
    swap; · iexact H6
    ipureintro
    frame_open
    rw [View.read_writes_full]
    frame_out
  iexists _; isplitr; · ipureintro; exact h9.read_unread _
  iexact H7

set_option maxHeartbeats 1000000 in
/-- The last point of a walk adds its block's part, then leaves the rows with the sum added, and that normalised. -/
theorem run_last
    (c : Dev nD) (i : grid0.Coords) (a2 : Memref sig .tc .vmem S1024x2048 .f32) (h2 : a2.IsWhole)
    (a3 : Memref sig .tc .vmem S1x2048 .f32) (h3 : a3.IsWhole) (a4 : Memref sig .tc .vmem S1x2048x256 .f32) (h4 : a4.IsWhole)
    (a5 : Memref sig .tc .vmem S1x2048x256 .f32) (h5 : a5.IsWhole) (a6 : Memref sig .tc .vmem S1x256x2048 .f32) (h6 : a6.IsWhole)
    (a7 : Memref sig .tc .vmem S1x2048 .f32) (h7 : a7.IsWhole) (a8 : Memref sig .tc .vmem S1024x2048 .f32) (h8 : a8.IsWhole)
    (a9 : Memref sig .tc .vmem S1024x2048 .bf16) (h9 : a9.IsWhole)
    (x0 : Vec F S1024x2048 .f32) (x1 : Vec F S1x2048 .f32) (x2 x3 : Vec F S1x2048x256 .f32) (x4 : Vec F S1x256x2048 .f32)
    (x5 : Vec F S1x2048 .f32) (x6 : Vec F S1024x2048 .f32) (x7 : Vec F S1024x2048 .bf16) (K : PUnit → sProp 𝕄)
    (hc0 : ¬k0_cond1 i = 1#1) (hc1 : k0_cond2 i = 1#1) :
    iprop(held c a2 a3 a4 a5 a6 a7 a8 a9 x0 x1 x2 x3 x4 x5 x6 x7
        ∗ (held c a2 a3 a4 a5 a6 a7 a8 a9 x0 x1 x2 x3 x4 x5 (k0_pay4 x0 (k0_pay3 x7 x2 x3 x6 x4))
          (k0_pay5 x0 (k0_pay3 x7 x2 x3 x6 x4) x5) -∗ K ⟨⟩))
      ⊢ wp frame (wpE (defs₀ (F := F)) Variants.none c none) Set.univ
          (cc0_ffn i a2 h2 a3 h3 a4 h4 a5 h5 a6 h6 a7 h7 a8 h8 a9 h9) K := by
  simp only [cc0_ffn_eq_skeleton]; unfold cc0_ffn_skel held owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩, Hk⟩
  obtain rfl := h2.eq_unread e0; obtain rfl := h3.eq_unread e1; obtain rfl := h4.eq_unread e2; obtain rfl := h5.eq_unread e3
  obtain rfl := h6.eq_unread e4; obtain rfl := h7.eq_unread e5; obtain rfl := h8.eq_unread e6; obtain rfl := h9.eq_unread e7
  sl_exec (disch := first | sl_exact hc0 | sl_exact hc1)
  sl_step
  iapply Hk
  isplitl [H0]; · iexists _; isplitr; · ipureintro; exact h2.read_unread _
                  iexact H0
  isplitl [H1]; · iexists _; isplitr; · ipureintro; exact h3.read_unread _
                  iexact H1
  isplitl [H2]; · iexists _; isplitr; · ipureintro; exact h4.read_unread _
                  iexact H2
  isplitl [H3]; · iexists _; isplitr; · ipureintro; exact h5.read_unread _
                  iexact H3
  isplitl [H4]; · iexists _; isplitr; · ipureintro; exact h6.read_unread _
                  iexact H4
  isplitl [H5]; · iexists _; isplitr; · ipureintro; exact h7.read_unread _
                  iexact H5
  isplitl [H6]
  · iexists _; isplitr
    swap; · iexact H6
    ipureintro
    frame_open
    rw [View.read_writes_full]
    frame_out
  iexists _; isplitr
  swap; · iexact H7
  ipureintro
  frame_open
  rw [View.read_writes_full]
  frame_out

end Cert.Proof.Next

end
-- ==== Proof.Next.Run.lean ====
/-
  The run of the feed-forward that opens a block: what its two result blocks hold after every point, the proof that the
  body brings each point's contents to the next, and the run of the whole program.
-/
module

public import proofs.«01_k».proof.Proof.Next.Points
public import Idealize.ShloMosaic.Lib.Claim

@[expose] public section

set_option maxRecDepth 16384

noncomputable section

namespace Cert.Proof.Next

open Cert.FfnNextIdeal Cert.FfnNextIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two result blocks, point by point -/

/-- The contents of the two result blocks. -/
abbrev Pair (F : FTy → Type) [FloatOps F] : Type := Vec F S1024x2048 .f32 × Vec F S1024x2048 .bf16

/-- What the first point of a walk leaves. -/
def first (c : Dev nD) (t : Fin cfg0.N) : Pair F :=
  (k0_pay3 (k0_pay1 (iblk m c 0 t) (iblk m c 1 t)) (iblk m c 2 t) (iblk m c 3 t) k0_pay2 (iblk m c 4 t),
    k0_pay1 (iblk m c 0 t) (iblk m c 1 t))

/-- What a point inside a walk leaves, from what it finds. -/
def inner (c : Dev nD) (t : Fin cfg0.N) (s : Pair F) : Pair F :=
  (k0_pay3 s.2 (iblk m c 2 t) (iblk m c 3 t) s.1 (iblk m c 4 t), s.2)

/-- What the last point of a walk leaves, from what it finds. -/
def last (c : Dev nD) (t : Fin cfg0.N) (s : Pair F) : Pair F :=
  (k0_pay4 (iblk m c 0 t) (inner m c t s).1, k0_pay5 (iblk m c 0 t) (inner m c t s).1 (iblk m c 5 t))

/-- The two result blocks after point `n`. -/
def st (c : Dev nD) : (n : ℕ) → n < cfg0.N → Pair F
  | 0, h => first m c ⟨0, h⟩
  | n + 1, h =>
    if (n + 1) % 22 = 0 then first m c ⟨n + 1, h⟩
    else if (n + 1) % 22 = 21 then last m c ⟨n + 1, h⟩ (st c n (Nat.lt_of_succ_lt h))
    else inner m c ⟨n + 1, h⟩ (st c n (Nat.lt_of_succ_lt h))

/-- The point before a point is a point. -/
theorem pred_lt (t : Fin cfg0.N) : t.val - 1 < cfg0.N := Nat.lt_of_le_of_lt (Nat.sub_le _ _) t.isLt

/-- At the first point of a walk. -/
theorem st_first (c : Dev nD) (t : Fin cfg0.N) (h : t.val % 22 = 0) : st m c t.val t.isLt = first m c t := by
  obtain ⟨n, hn⟩ := t
  cases n with
  | zero => rfl
  | succ n => exact if_pos h

/-- At a point inside a walk. -/
theorem st_inner (c : Dev nD) (t : Fin cfg0.N) (h : ¬t.val % 22 = 0) (h' : ¬t.val % 22 = 21) :
    st m c t.val t.isLt = inner m c t (st m c (t.val - 1) (pred_lt t)) := by
  obtain ⟨n, hn⟩ := t
  cases n with
  | zero => exact absurd rfl h
  | succ n => exact (if_neg h).trans (if_neg h')

/-- At the last point of a walk. -/
theorem st_last (c : Dev nD) (t : Fin cfg0.N) (h' : t.val % 22 = 21) :
    st m c t.val t.isLt = last m c t (st m c (t.val - 1) (pred_lt t)) := by
  obtain ⟨n, hn⟩ := t
  cases n with
  | zero => exact absurd h' (show ¬0 % 22 = 21 by decide)
  | succ n => exact (if_neg (show ¬(n + 1) % 22 = 0 by simp only at h'; omega)).trans (if_pos h')

/-! ## The proof data -/

/-- The arrays as the region finds them, and what the body leaves in each window's block at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (st m c t.val t.isLt).1
    | ⟨7, _⟩ => (st m c t.val t.isLt).2
  Φ _ := Pipeline.ΦA spec0 c
  q _ := fullShare
  owed _ := 0

/-- Each array as it is when the grid is entered. -/
theorem A_eq (c : Dev nD) (w : Fin cfg0.W) : (dats m 0 c).A w = V m c (Pipeline.arrRef spec0 w) := by
  dsimp only [dats]

/-- A point leaves its block of the residual rows as it was. -/
theorem after0 (c : Dev nD) (t : Fin cfg0.N) : (dats m 0 c).after 0 t = iblk m c 0 t := by dsimp only [dats]
/-- A point leaves its block of the weights of the normalisation as it was. -/
theorem after1 (c : Dev nD) (t : Fin cfg0.N) : (dats m 0 c).after 1 t = iblk m c 1 t := by dsimp only [dats]
/-- A point leaves its block of the gate columns as it was. -/
theorem after2 (c : Dev nD) (t : Fin cfg0.N) : (dats m 0 c).after 2 t = iblk m c 2 t := by dsimp only [dats]
/-- A point leaves its block of the value columns as it was. -/
theorem after3 (c : Dev nD) (t : Fin cfg0.N) : (dats m 0 c).after 3 t = iblk m c 3 t := by dsimp only [dats]
/-- A point leaves its block of the rows of the way down as it was. -/
theorem after4 (c : Dev nD) (t : Fin cfg0.N) : (dats m 0 c).after 4 t = iblk m c 4 t := by dsimp only [dats]
/-- A point leaves its block of the weights of the second normalisation as it was. -/
theorem after5 (c : Dev nD) (t : Fin cfg0.N) : (dats m 0 c).after 5 t = iblk m c 5 t := by dsimp only [dats]
/-- What a point leaves in the first result's block. -/
theorem after6 (c : Dev nD) (t : Fin cfg0.N) : (dats m 0 c).after 6 t = (st m c t.val t.isLt).1 := by dsimp only [dats]
/-- What a point leaves in the second result's block. -/
theorem after7 (c : Dev nD) (t : Fin cfg0.N) : (dats m 0 c).after 7 t = (st m c t.val t.isLt).2 := by dsimp only [dats]

/-- A point finds its block of the residual rows. -/
theorem before0 (c : Dev nD) (t : Fin cfg0.N) (d) : (dats m 0 c).before 0 t d = iblk m c 0 t :=
  before0_0_of m (dats m 0 c) (A_eq m c 0) (after0 m c) t d
/-- A point finds its block of the weights of the normalisation. -/
theorem before1 (c : Dev nD) (t : Fin cfg0.N) (d) : (dats m 0 c).before 1 t d = iblk m c 1 t :=
  before0_1_of m (dats m 0 c) (A_eq m c 1) (after1 m c) t d
/-- A point finds its block of the gate columns. -/
theorem before2 (c : Dev nD) (t : Fin cfg0.N) (d) : (dats m 0 c).before 2 t d = iblk m c 2 t :=
  before0_2_of m (dats m 0 c) (A_eq m c 2) (after2 m c) t d
/-- A point finds its block of the value columns. -/
theorem before3 (c : Dev nD) (t : Fin cfg0.N) (d) : (dats m 0 c).before 3 t d = iblk m c 3 t :=
  before0_3_of m (dats m 0 c) (A_eq m c 3) (after3 m c) t d
/-- A point finds its block of the rows of the way down. -/
theorem before4 (c : Dev nD) (t : Fin cfg0.N) (d) : (dats m 0 c).before 4 t d = iblk m c 4 t :=
  before0_4_of m (dats m 0 c) (A_eq m c 4) (after4 m c) t d
/-- A point finds its block of the weights of the second normalisation. -/
theorem before5 (c : Dev nD) (t : Fin cfg0.N) (d) : (dats m 0 c).before 5 t d = iblk m c 5 t :=
  before0_5_of m (dats m 0 c) (A_eq m c 5) (after5 m c) t d

/-- After the first point of a walk the sum's buffer holds what the point before left. -/
theorem before6 (c : Dev nD) (t : Fin cfg0.N) (h : ¬t.val % 22 = 0) (d) :
    (dats m 0 c).before 6 t d = (st m c (t.val - 1) (pred_lt t)).1 := by
  rw [Dat.before_out_kept _ 6 rfl t (by omega)
    (Bool.eq_false_iff.mpr fun hf => by have := (flush0_6 _).mp hf; dsimp only at this; omega) (fun _ => rfl) (fun _ _ => rfl)]
  dsimp only [dats]

/-- The second result's buffer is stored at the first and the last point of a walk -/
theorem live (t : Fin cfg0.N) (h : t.val % 22 = 0 ∨ t.val % 22 = 21) : cfg0.idle 7 (cfg0.grid.coords t) = false := by
  show (!(k0_cond1 (grid0.coords t) == 1#1) && !(k0_cond2 (grid0.coords t) == 1#1)) = false
  rcases h with h | h
  · rw [(first_iff t).mpr h]; rfl
  · rw [(last_iff t).mpr h, Bool.and_eq_false_iff]; exact Or.inr rfl

/-- and at no other. -/
theorem idle (t : Fin cfg0.N) (h : ¬t.val % 22 = 0) (h' : ¬t.val % 22 = 21) : cfg0.idle 7 (cfg0.grid.coords t) = true := by
  show (!(k0_cond1 (grid0.coords t) == 1#1) && !(k0_cond2 (grid0.coords t) == 1#1)) = true
  rw [beq_eq_false_iff_ne.mpr fun e => h ((first_iff t).mp e), beq_eq_false_iff_ne.mpr fun e => h' ((last_iff t).mp e)]
  rfl

/-- After the first point of a walk the second result's buffer holds what the point before left: it is handed on from
    the walk's first point. -/
theorem before7 (c : Dev nD) : ∀ (n : ℕ) (t : Fin cfg0.N), t.val = n → ¬n % 22 = 0 → ∀ d,
    (dats m 0 c).before 7 t d = (st m c (t.val - 1) (pred_lt t)).2 := by
  intro n
  induction n with
  | zero => intro t _ h; exact absurd rfl h
  | succ n ih =>
    intro t ht h d
    have hf : (cfg0.win 7).flush ⟨t.val - 1, pred_lt t⟩ = false :=
      Bool.eq_false_iff.mpr fun hf => by have := (flush0_7 _).mp hf; dsimp only at this; omega
    have hz : t.val ≠ 0 := by omega
    rw [(dats m 0 c).before_of_pos 7 t hz ((cfg0.win 7).fetch_out rfl t), hf, if_neg Bool.false_ne_true]
    unfold Dat.left
    by_cases h0 : n % 22 = 0
    · rw [live ⟨t.val - 1, pred_lt t⟩ (Or.inl (by dsimp only; omega))]
      unfold Dat.kept
      dsimp only
      rw [Pipeline.fill_of_clip_none 7 _ (fun _ => rfl) d ((dats m 0 c).after 7 ⟨t.val - 1, pred_lt t⟩), Window.fill_cut, after7]
    · rw [idle ⟨t.val - 1, pred_lt t⟩ (by dsimp only; omega) (by dsimp only; omega)]
      dsimp only
      rw [ih ⟨t.val - 1, pred_lt t⟩ (by dsimp only; omega) h0]
      have e := st_inner m c ⟨t.val - 1, pred_lt t⟩ (by dsimp only; omega) (by dsimp only; omega)
      rw [e]
      rfl

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t)

/-- The eight staging buffers of point `t`, at its six input blocks and stated results. -/
abbrev heldAt (c : Dev nD) (t : Fin cfg0.N) (x6 : Vec F S1024x2048 .f32) (x7 : Vec F S1024x2048 .bf16) : sProp 𝕄 :=
  held c (st0_0 t) (st0_1 t) (st0_2 t) (st0_3 t) (st0_4 t) (st0_5 t) (st0_6 t) (st0_7 t)
    (iblk m c 0 t) (iblk m c 1 t) (iblk m c 2 t) (iblk m c 3 t) (iblk m c 4 t) (iblk m c 5 t) x6 x7

/-- At any point the body brings what it finds to that point's contents. -/
theorem run_at (c : Dev nD) (t : Fin cfg0.N) (d6 d7) (K : PUnit → sProp 𝕄) :
    iprop(heldAt m c t ((dats m 0 c).before 6 t d6) ((dats m 0 c).before 7 t d7)
        ∗ (heldAt m c t (st m c t.val t.isLt).1 (st m c t.val t.isLt).2 -∗ K ⟨⟩))
      ⊢ wp frame (wpE (defs₀ (F := F)) Variants.none c none) Set.univ (bodyAt0 t) K := by
  by_cases h0 : t.val % 22 = 0
  · rw [st_first m c t h0]
    exact run_first c _ _ _ _ _ _ _ _ _ _ _ _ _ _ _ _ _ _ _ _ _ _ _ _ _ K ((first_iff t).mpr h0)
      (fun e => by have := (last_iff t).mp e; omega)
  · rw [before6 m c t h0, before7 m c t.val t rfl h0]
    by_cases h1 : t.val % 22 = 21
    · rw [st_last m c t h1]
      exact run_last c _ _ _ _ _ _ _ _ _ _ _ _ _ _ _ _ _ _ _ _ _ _ _ _ _ K (fun e => h0 ((first_iff t).mp e))
        ((last_iff t).mpr h1)
    · rw [st_inner m c t h0 h1]
      exact run_inner c _ _ _ _ _ _ _ _ _ _ _ _ _ _ _ _ _ _ _ _ _ _ _ _ _ K (fun e => h0 ((first_iff t).mp e))
        (fun e => h1 ((last_iff t).mp e))

/-- What the point leaves in the second result's buffer is what the pipeline asks for: at a point that stores nothing
    there, what it held. -/
theorem leaves7 (c : Dev nD) (t : Fin cfg0.N) :
    owns (c : Thread nD τ) (st0_7 t) fullShare (st m c t.val t.isLt).2 ⊢ ((dats m 0 c).leavesExact 7 t : sProp 𝕄) := by
  by_cases h : t.val % 22 = 0 ∨ t.val % 22 = 21
  · unfold Dat.leavesExact
    rw [live t h, after7]
  · have hf : (cfg0.win 7).flush t = false := Bool.eq_false_iff.mpr fun hf => h (Or.inr ((flush0_7 t).mp hf))
    rw [(dats m 0 c).leavesExact_idle 7 t (idle t (fun e => h (Or.inl e)) (fun e => h (Or.inr e))) hf]
    simp only [before7 m c t.val t rfl (fun e => h (Or.inl e))]
    rw [st_inner m c t (fun e => h (Or.inl e)) (fun e => h (Or.inr e))]
    iintro H
    iexists (st m c (t.val - 1) (pred_lt t)).2
    iexact H

/-- The body's rule at a point: from what the pipeline holds before the body, the body runs and leaves what the pipeline
    asks for after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5]
  rw [show (dats m 0 c).owesAt () t.succ = (dats m 0 c).owesAt () t.castSucc from rfl,
    show (dats m 0 c).Φ t.succ = (dats m 0 c).Φ t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_at m c t d6 d7)
  unfold heldAt held
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves7 m c t)
  iexact H7

/-- The body table's row at a point is the body at that point's buffers. -/
theorem defs_row (t : Fin cfg0.N) : defs₀ (F := F) .tc cfg0.body (cfg0.bodyArgs t (cfg0.slots t)) = bodyAt0 t := by
  unfold defs₀; rw [Defs.onTc_tc]

/-- The body meets what the pipeline asks of it at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run -/

set_option backward.isDefEq.respectTransparency.types false in
/-- The whole program runs, every array ends at what the points left in it, and every counter ends at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

/-- The program runs, leaves its arguments as they were and its counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.Next

end
-- ==== Proof.Next.Array.lean ====
/-
  The opening feed-forward's two result arrays.

  A grid point's blocks are read as entries of the arguments. The 22 points of a row block keep, in the second result's
  block, the normalised rows, and gather in the first result's block the part of the feed-forward of the units visited so
  far; the last one leaves the new residual and its normalised rows.
-/
module

public import proofs.«01_k».proof.Proof.Next.Body
public import proofs.«01_k».proof.Proof.Next.Run
public import Idealize.ShloMosaic.Lib.Pipeline.ValueKit.Acc
public import Idealize.ShloMosaic.Lib.StableHlo.Run

@[expose] public section

set_option maxRecDepth 16384

noncomputable section

namespace Cert.Proof.Next

open Cert.Proof.Ffn Idealize.ShloMosaic Idealize.SL.Sem Cert.FfnNextIdeal Cert.FfnNextIdeal.Gen Idealize.ShloMosaic.TcCoe

variable (m : (ℓ : Loc nD τ sig) → Buf (Elt Ideal) ℓ) (c : Dev nD)

/-- The residual rows. -/
abbrev argH : (⟨2, ![8192, 2048]⟩ : Shape).Idx → EReal := m ((c.tc : Thread nD τ).loc main_arg0)
/-- The weights of the normalisation. -/
abbrev argW : (⟨1, ![2048]⟩ : Shape).Idx → EReal := m ((c.tc : Thread nD τ).loc main_arg1)
/-- The weights of the gate. -/
abbrev argGate : (⟨3, ![2, 2048, 5632]⟩ : Shape).Idx → EReal := m ((c.tc : Thread nD τ).loc main_arg2)
/-- The weights of the value. -/
abbrev argUp : (⟨3, ![2, 2048, 5632]⟩ : Shape).Idx → EReal := m ((c.tc : Thread nD τ).loc main_arg3)
/-- The weights of the way down. -/
abbrev argDown : (⟨3, ![2, 5632, 2048]⟩ : Shape).Idx → EReal := m ((c.tc : Thread nD τ).loc main_arg4)
/-- The weights of the last normalisation. -/
abbrev argWf : (⟨1, ![2048]⟩ : Shape).Idx → EReal := m ((c.tc : Thread nD τ).loc main_arg5)

/-- Each point's block of residual rows. -/
theorem idx0 : ∀ t : Fin cfg0.N, win0_0.index t (0 : Fin 2) = t.val / 22 ∧ win0_0.index t (1 : Fin 2) = 0 :=
  (by decide +kernel : ∀ t : Fin grid0.N, _)
/-- The weights of the normalisation are one block. -/
theorem idx1 : ∀ t : Fin cfg0.N, win0_1.index t (0 : Fin 2) = 0 ∧ win0_1.index t (1 : Fin 2) = 0 :=
  (by decide +kernel : ∀ t : Fin grid0.N, _)
/-- Each point's columns of the gate. -/
theorem idx2 : ∀ t : Fin cfg0.N,
    win0_2.index t (0 : Fin 3) = 0 ∧ win0_2.index t (1 : Fin 3) = 0 ∧ win0_2.index t (2 : Fin 3) = t.val % 22 :=
  (by decide +kernel : ∀ t : Fin grid0.N, _)
/-- Each point's columns of the value. -/
theorem idx3 : ∀ t : Fin cfg0.N,
    win0_3.index t (0 : Fin 3) = 0 ∧ win0_3.index t (1 : Fin 3) = 0 ∧ win0_3.index t (2 : Fin 3) = t.val % 22 :=
  (by decide +kernel : ∀ t : Fin grid0.N, _)
/-- Each point's rows of the way down. -/
theorem idx4 : ∀ t : Fin cfg0.N,
    win0_4.index t (0 : Fin 3) = 0 ∧ win0_4.index t (1 : Fin 3) = t.val % 22 ∧ win0_4.index t (2 : Fin 3) = 0 :=
  (by decide +kernel : ∀ t : Fin grid0.N, _)
/-- The weights of the last normalisation are one block. -/
theorem idx5 : ∀ t : Fin cfg0.N, win0_5.index t (0 : Fin 2) = 0 ∧ win0_5.index t (1 : Fin 2) = 0 :=
  (by decide +kernel : ∀ t : Fin grid0.N, _)

/-- There are 176 points. -/
theorem lt_N (t : Fin cfg0.N) : t.val < 176 := lt_of_lt_of_eq t.isLt N_0

/-- The residual row of number `q`. -/
def hrow (q : ℕ) (k : Fin 2048) : EReal := if hq : q < 8192 then argH m c (ix2 ⟨q, hq⟩ k) else 0

/-- The residual block's rows are the argument's. -/
theorem iblk0 (t : Fin cfg0.N) (r : Fin 1024) : row (iblk m c 0 t) r = hrow m c (t.val / 22 * 1024 + r.val) := by
  obtain ⟨e0, e1⟩ := idx0 t
  have ht := lt_N t
  have hr := r.isLt
  funext k
  unfold hrow
  rw [dif_pos (by omega)]
  unfold row iblk
  show V m c main_arg0 (((cfg0.win 0).blk t).view.emb (ix2 r k)) = _
  rw [V_main_arg0]
  refine congrArg (m ((c.tc : Thread nD τ).loc main_arg0)) ?_
  have hb0 : (((cfg0.win 0).blk t).view.emb (ix2 r k) 0).val = win0_0.index t (0 : Fin 2) * 1024 + 1 * r.val := rfl
  have hb1 : (((cfg0.win 0).blk t).view.emb (ix2 r k) 1).val = win0_0.index t (1 : Fin 2) * 2048 + 1 * k.val := rfl
  rw [e0] at hb0
  rw [e1] at hb1
  funext a
  match a with
  | ⟨0, _⟩ => exact Fin.ext (hb0.trans (by show _ = t.val / 22 * 1024 + r.val; omega))
  | ⟨1, _⟩ => exact Fin.ext (hb1.trans (by show _ = k.val; omega))

/-- The weights of the normalisation as a row when the grid is entered. -/
theorem row_eq : V m c main_v0 = shapeCast S1x2048 (argW m c : FVec Ideal S2048 .f32) shapeCasts_S2048_S1x2048 := by
  unfold V hostOps0
  after_results
  rfl

/-- The weights of the last normalisation as a row when the grid is entered. -/
theorem rowf_eq : V m c main_v1 = shapeCast S1x2048 (argWf m c : FVec Ideal S2048 .f32) shapeCasts_S2048_S1x2048 := by
  unfold V hostOps0
  after_results
  rfl

/-- The weights of the normalisation in a point's block. -/
theorem iblk1 (t : Fin cfg0.N) : row1 (iblk m c 1 t) = fun k => argW m c (ix1 k) := by
  have h : (iblk m c 1 t : (⟨2, ![1, 2048]⟩ : Shape).Idx → EReal) = V m c main_v0 := by
    funext i
    unfold iblk
    show V m c main_v0 (((cfg0.win 1).blk t).view.emb i) = _
    refine congrArg (V m c main_v0) ?_
    obtain ⟨e0, e1⟩ := idx1 t
    have hb0 : (((cfg0.win 1).blk t).view.emb i 0).val = win0_1.index t (0 : Fin 2) * 1 + 1 * (i 0).val := rfl
    have hb1 : (((cfg0.win 1).blk t).view.emb i 1).val = win0_1.index t (1 : Fin 2) * 2048 + 1 * (i 1).val := rfl
    rw [e0] at hb0
    rw [e1] at hb1
    funext a
    match a with
    | ⟨0, _⟩ => exact Fin.ext (hb0.trans (by show _ = (i 0).val; omega))
    | ⟨1, _⟩ => exact Fin.ext (hb1.trans (by show _ = (i 1).val; omega))
  funext k
  unfold row1
  rw [h, row_eq]
  pointwise []

/-- The weights of the last normalisation in a point's block. -/
theorem iblk5 (t : Fin cfg0.N) : row1 (iblk m c 5 t) = fun k => argWf m c (ix1 k) := by
  have h : (iblk m c 5 t : (⟨2, ![1, 2048]⟩ : Shape).Idx → EReal) = V m c main_v1 := by
    funext i
    unfold iblk
    show V m c main_v1 (((cfg0.win 5).blk t).view.emb i) = _
    refine congrArg (V m c main_v1) ?_
    obtain ⟨e0, e1⟩ := idx5 t
    have hb0 : (((cfg0.win 5).blk t).view.emb i 0).val = win0_5.index t (0 : Fin 2) * 1 + 1 * (i 0).val := rfl
    have hb1 : (((cfg0.win 5).blk t).view.emb i 1).val = win0_5.index t (1 : Fin 2) * 2048 + 1 * (i 1).val := rfl
    rw [e0] at hb0
    rw [e1] at hb1
    funext a
    match a with
    | ⟨0, _⟩ => exact Fin.ext (hb0.trans (by show _ = (i 0).val; omega))
    | ⟨1, _⟩ => exact Fin.ext (hb1.trans (by show _ = (i 1).val; omega))
  funext k
  unfold row1
  rw [h, rowf_eq]
  pointwise []

/-- A column of the gate in a point's block. -/
theorem iblk2 (t : Fin cfg0.N) (a : Fin 256) (h : 256 * (t.val % 22) + a.val < 5632) :
    col (iblk m c 2 t) a = fun k => argGate m c (ix3 0 k ⟨256 * (t.val % 22) + a.val, h⟩) := by
  obtain ⟨e0, e1, e2⟩ := idx2 t
  funext k
  unfold col iblk
  show V m c main_arg2 (((cfg0.win 2).blk t).view.emb (ix3 0 k a)) = _
  rw [V_main_arg2]
  refine congrArg (m ((c.tc : Thread nD τ).loc main_arg2)) ?_
  have hb0 : (((cfg0.win 2).blk t).view.emb (ix3 0 k a) 0).val = win0_2.index t (0 : Fin 3) * 1 + 1 * 0 := rfl
  have hb1 : (((cfg0.win 2).blk t).view.emb (ix3 0 k a) 1).val = win0_2.index t (1 : Fin 3) * 2048 + 1 * k.val := rfl
  have hb2 : (((cfg0.win 2).blk t).view.emb (ix3 0 k a) 2).val = win0_2.index t (2 : Fin 3) * 256 + 1 * a.val := rfl
  rw [e0] at hb0
  rw [e1] at hb1
  rw [e2] at hb2
  funext b
  match b with
  | ⟨0, _⟩ => exact Fin.ext (hb0.trans rfl)
  | ⟨1, _⟩ => exact Fin.ext (hb1.trans (by show _ = k.val; omega))
  | ⟨2, _⟩ => exact Fin.ext (hb2.trans (by show _ = 256 * (t.val % 22) + a.val; omega))

/-- A column of the value in a point's block. -/
theorem iblk3 (t : Fin cfg0.N) (a : Fin 256) (h : 256 * (t.val % 22) + a.val < 5632) :
    col (iblk m c 3 t) a = fun k => argUp m c (ix3 0 k ⟨256 * (t.val % 22) + a.val, h⟩) := by
  obtain ⟨e0, e1, e2⟩ := idx3 t
  funext k
  unfold col iblk
  show V m c main_arg3 (((cfg0.win 3).blk t).view.emb (ix3 0 k a)) = _
  rw [V_main_arg3]
  refine congrArg (m ((c.tc : Thread nD τ).loc main_arg3)) ?_
  have hb0 : (((cfg0.win 3).blk t).view.emb (ix3 0 k a) 0).val = win0_3.index t (0 : Fin 3) * 1 + 1 * 0 := rfl
  have hb1 : (((cfg0.win 3).blk t).view.emb (ix3 0 k a) 1).val = win0_3.index t (1 : Fin 3) * 2048 + 1 * k.val := rfl
  have hb2 : (((cfg0.win 3).blk t).view.emb (ix3 0 k a) 2).val = win0_3.index t (2 : Fin 3) * 256 + 1 * a.val := rfl
  rw [e0] at hb0
  rw [e1] at hb1
  rw [e2] at hb2
  funext b
  match b with
  | ⟨0, _⟩ => exact Fin.ext (hb0.trans rfl)
  | ⟨1, _⟩ => exact Fin.ext (hb1.trans (by show _ = k.val; omega))
  | ⟨2, _⟩ => exact Fin.ext (hb2.trans (by show _ = 256 * (t.val % 22) + a.val; omega))

/-- An entry of the way down in a point's block. -/
theorem iblk4 (t : Fin cfg0.N) (a : Fin 256) (y : Fin 2048) (h : 256 * (t.val % 22) + a.val < 5632) :
    iblk m c 4 t (ix3 0 a y) = argDown m c (ix3 0 ⟨256 * (t.val % 22) + a.val, h⟩ y) := by
  obtain ⟨e0, e1, e2⟩ := idx4 t
  unfold iblk
  show V m c main_arg4 (((cfg0.win 4).blk t).view.emb (ix3 0 a y)) = _
  rw [V_main_arg4]
  refine congrArg (m ((c.tc : Thread nD τ).loc main_arg4)) ?_
  have hb0 : (((cfg0.win 4).blk t).view.emb (ix3 0 a y) 0).val = win0_4.index t (0 : Fin 3) * 1 + 1 * 0 := rfl
  have hb1 : (((cfg0.win 4).blk t).view.emb (ix3 0 a y) 1).val = win0_4.index t (1 : Fin 3) * 256 + 1 * a.val := rfl
  have hb2 : (((cfg0.win 4).blk t).view.emb (ix3 0 a y) 2).val = win0_4.index t (2 : Fin 3) * 2048 + 1 * y.val := rfl
  rw [e0] at hb0
  rw [e1] at hb1
  rw [e2] at hb2
  funext b
  match b with
  | ⟨0, _⟩ => exact Fin.ext (hb0.trans rfl)
  | ⟨1, _⟩ => exact Fin.ext (hb1.trans (by show _ = 256 * (t.val % 22) + a.val; omega))
  | ⟨2, _⟩ => exact Fin.ext (hb2.trans (by show _ = y.val; omega))

/-- The normalised residual row of number `q`. -/
def xrow (q : ℕ) : Fin 2048 → EReal := norm (hrow m c q) (fun k => argW m c (ix1 k))

/-- The first `n` units' part of the output of row `q`. -/
def done (q : ℕ) (n : ℕ) (y : Fin 2048) : EReal :=
  part (xrow m c q) (fun f k => argGate m c (ix3 0 k f)) (fun f k => argUp m c (ix3 0 k f)) (fun f => argDown m c (ix3 0 f y)) n

/-- What a point adds, from normalised rows and an output found. -/
theorem step (t : Fin cfg0.N) (q : ℕ) (x : Vec Ideal S1024x2048 .bf16) (o : Vec Ideal S1024x2048 .f32) (r : Fin 1024) (y : Fin 2048)
    (hx : row x r = xrow m c q) (ho : o (ix2 r y) = done m c q (256 * (t.val % 22)) y) :
    k0_pay3 (F := Ideal) x (iblk m c 2 t) (iblk m c 3 t) o (iblk m c 4 t) (ix2 r y) = done m c q (256 * (t.val % 22) + 256) y := by
  rw [pay3_apply, ho, hx]
  unfold done
  rw [part_block]
  refine congrArg _ (Finset.sum_congr rfl fun a _ => ?_)
  have ha := a.isLt
  have h : 256 * (t.val % 22) + a.val < 5632 := by omega
  unfold term
  rw [dif_pos h, iblk2 m c t a h, iblk3 m c t a h, iblk4 m c t a y h]

/-- The new residual row of number `q`. -/
def newrow (q : ℕ) : Fin 2048 → EReal := half (hrow m c q) (done m c q 5632)

/-- What the two result blocks hold after point `n`: the part of the units visited and the normalised rows of its block,
    or, after the last, the new residual and its normalised rows. -/
theorem state : ∀ (n : ℕ) (hn : n < cfg0.N),
    (n % 22 ≠ 21 → ∀ r : Fin 1024, row (st m c n hn).2 r = xrow m c (n / 22 * 1024 + r.val)
      ∧ ∀ y : Fin 2048, (st m c n hn).1 (ix2 r y) = done m c (n / 22 * 1024 + r.val) (256 * (n % 22) + 256) y)
    ∧ (n % 22 = 21 → ∀ (r : Fin 1024) (y : Fin 2048),
        (st m c n hn).1 (ix2 r y) = newrow m c (n / 22 * 1024 + r.val) y
        ∧ (st m c n hn).2 (ix2 r y) = norm (newrow m c (n / 22 * 1024 + r.val)) (fun k => argWf m c (ix1 k)) y) := by
  intro n
  induction n using Nat.strong_induction_on with
  | _ n ih =>
    intro hn
    by_cases h0 : n % 22 = 0
    · have h1 : ¬ n % 22 = 21 := by omega
      have hx : ∀ r : Fin 1024, row (k0_pay1 (F := Ideal) (iblk m c 0 ⟨n, hn⟩) (iblk m c 1 ⟨n, hn⟩)) r = xrow m c (n / 22 * 1024 + r.val) := by
        intro r
        funext k
        unfold row
        rw [pay1_apply, iblk0, iblk1]
        rfl
      rw [st_first m c ⟨n, hn⟩ h0]
      refine ⟨fun _ r => ⟨hx r, fun y => ?_⟩, fun h => absurd h h1⟩
      refine step m c ⟨n, hn⟩ _ _ _ r y (hx r) ?_
      rw [pay2_apply]
      unfold done
      show _ = part _ _ _ _ (256 * (n % 22))
      rw [h0]
      rfl
    · have hlt : n - 1 < n := by omega
      have hn' : n - 1 < cfg0.N := by omega
      have hs : (n - 1) % 22 ≠ 21 := by omega
      have ihn := (ih (n - 1) hlt hn').1 hs
      have hq : (n - 1) / 22 = n / 22 := by omega
      have hr : 256 * ((n - 1) % 22) + 256 = 256 * (n % 22) := by omega
      rw [hq, hr] at ihn
      have hstep : ∀ (r : Fin 1024) (y : Fin 2048),
          (inner m c ⟨n, hn⟩ (st m c (n - 1) hn')).1 (ix2 r y) = done m c (n / 22 * 1024 + r.val) (256 * (n % 22) + 256) y :=
        fun r y => step m c ⟨n, hn⟩ _ _ _ r y (ihn r).1 ((ihn r).2 y)
      by_cases h1 : n % 22 = 21
      · have hrow' : ∀ r : Fin 1024, half (row (iblk m c 0 ⟨n, hn⟩) r) (row (inner m c ⟨n, hn⟩ (st m c (n - 1) hn')).1 r)
            = newrow m c (n / 22 * 1024 + r.val) := by
          intro r
          rw [iblk0]
          unfold newrow
          refine congrArg (half _) (funext fun y => ?_)
          refine (hstep r y).trans ?_
          rw [h1]
        rw [st_last m c ⟨n, hn⟩ h1]
        refine ⟨fun h => absurd h1 h, fun _ r y => ⟨?_, ?_⟩⟩
        · refine (pay4_apply _ _ r y).trans ?_
          exact congrFun (hrow' r) y
        · refine (pay5_apply _ _ _ r y).trans ?_
          rw [hrow' r, iblk5]
      · rw [st_inner m c ⟨n, hn⟩ h0 h1]
        exact ⟨fun _ r => ⟨(ihn r).1, fun y => hstep r y⟩, fun h => absurd h h1⟩

/-- Each point's block of the first result. -/
theorem idx6 : ∀ t : Fin cfg0.N, win0_6.index t (0 : Fin 2) = t.val / 22 ∧ win0_6.index t (1 : Fin 2) = 0 :=
  (by decide +kernel : ∀ t : Fin grid0.N, _)
/-- Each point's block of the second result. -/
theorem idx7 : ∀ t : Fin cfg0.N, win0_7.index t (0 : Fin 2) = t.val / 22 ∧ win0_7.index t (1 : Fin 2) = 0 :=
  (by decide +kernel : ∀ t : Fin grid0.N, _)

/-- The first result array: each row the new residual row. -/
def out6 : Buf (Elt Ideal) ((c : Thread nD τ).loc main_v2_0) := fun i => newrow m c (i 0).val (i 1)
/-- The second result array: each row the new residual row, normalised. -/
def out7 : Buf (Elt Ideal) ((c : Thread nD τ).loc main_v2_1) := fun i =>
  norm (newrow m c (i 0).val) (fun k => argWf m c (ix1 k)) (i 1)

/-- The point that writes back the block of row `q`. -/
abbrev lastPt (q : Fin 8192) : Fin cfg0.N := ⟨22 * (q.val / 1024) + 21, lt_of_lt_of_eq (b := 176) (by omega) N_0.symm⟩

/-- The last point of a walk writes back its block of the first result array. -/
theorem flushed6 (t : Fin cfg0.N) (hf : (cfg0.win 6).flush t = true) :
    (dats m 0 c).flushed 6 t = ((cfg0.win 6).blk t).view.read (Elt Ideal) (out6 m c) := by
  show (cfg0.win 6).cut (grid0.coords t) ((dats m 0 c).after 6 t) = _
  rw [after6]
  have hm : t.val % 22 = 21 := (flush0_6 t).mp hf
  obtain ⟨e0, e1⟩ := idx6 t
  funext i
  have hb0 : (((cfg0.win 6).blk t).view.emb i 0).val = win0_6.index t (0 : Fin 2) * 1024 + 1 * (i 0).val := rfl
  have hb1 : (((cfg0.win 6).blk t).view.emb i 1).val = win0_6.index t (1 : Fin 2) * 2048 + 1 * (i 1).val := rfl
  have q0 : (((cfg0.win 6).blk t).view.emb i 0).val = t.val / 22 * 1024 + (i 0).val := by rw [hb0, e0]; omega
  have q1 : ((cfg0.win 6).blk t).view.emb i 1 = (⟨(i 1).val, (i 1).isLt⟩ : Fin 2048) := Fin.ext (hb1.trans (by rw [e1]; show 0 * 2048 + 1 * (i 1).val = (i 1).val; omega))
  have hi : (cfg0.win 6).xinj (grid0.coords t) i = ix2 (n0 := 1024) (n1 := 2048) ⟨(i 0).val, (i 0).isLt⟩ ⟨(i 1).val, (i 1).isLt⟩ := by
    funext a
    match a with
    | ⟨0, _⟩ => rfl
    | ⟨1, _⟩ => rfl
  show (st m c t.val t.isLt).1 ((cfg0.win 6).xinj (grid0.coords t) i) = out6 m c (((cfg0.win 6).blk t).view.emb i)
  rw [hi]
  refine ((state m c t.val t.isLt).2 hm ⟨(i 0).val, (i 0).isLt⟩ ⟨(i 1).val, (i 1).isLt⟩).1.trans ?_
  unfold out6
  rw [q0, q1]

/-- Every index of the first result array lies in a block written back. -/
theorem covered6 (i : S8192x2048.Idx) : ∃ t : Fin cfg0.N, (cfg0.win 6).flush t = true ∧ i ∈ ((cfg0.win 6).blk t).view.set := by
  have hi0 : (i 0).val < 8192 := (i 0).isLt
  have hi1 : (i 1).val < 2048 := (i 1).isLt
  have hv : (lastPt (i 0)).val = 22 * ((i 0).val / 1024) + 21 := rfl
  refine ⟨lastPt (i 0), (flush0_6 _).mpr (by rw [hv]; omega), ?_⟩
  obtain ⟨e0, e1⟩ := idx6 (lastPt (i 0))
  show i ∈ ((View.whole main_v2_0).slice (win0_6.rect (lastPt (i 0)))).set
  rw [View.set_slice_whole, Rect.mem_set_unit]
  intro a
  match a with
  | ⟨0, _⟩ =>
    show win0_6.index (lastPt (i 0)) (0 : Fin 2) * 1024 ≤ (i 0).val ∧ (i 0).val < win0_6.index (lastPt (i 0)) (0 : Fin 2) * 1024 + 1024
    rw [e0, hv]; omega
  | ⟨1, _⟩ =>
    show win0_6.index (lastPt (i 0)) (1 : Fin 2) * 2048 ≤ (i 1).val ∧ (i 1).val < win0_6.index (lastPt (i 0)) (1 : Fin 2) * 2048 + 2048
    rw [e1]; omega

/-- What the first result array holds in the end. -/
theorem final6 : (dats m 0 c).arrAt 6 cfg0.N = out6 m c :=
  (dats m 0 c).arrAt_eq_of_cover 6 _ (fun t hf => flushed6 m c t hf) (fun i => covered6 i)

/-- The last point of a walk writes back its block of the second result array. -/
theorem flushed7 (t : Fin cfg0.N) (hf : (cfg0.win 7).flush t = true) :
    (dats m 0 c).flushed 7 t = ((cfg0.win 7).blk t).view.read (Elt Ideal) (out7 m c) := by
  show (cfg0.win 7).cut (grid0.coords t) ((dats m 0 c).after 7 t) = _
  rw [after7]
  have hm : t.val % 22 = 21 := (flush0_7 t).mp hf
  obtain ⟨e0, e1⟩ := idx7 t
  funext i
  have hb0 : (((cfg0.win 7).blk t).view.emb i 0).val = win0_7.index t (0 : Fin 2) * 1024 + 1 * (i 0).val := rfl
  have hb1 : (((cfg0.win 7).blk t).view.emb i 1).val = win0_7.index t (1 : Fin 2) * 2048 + 1 * (i 1).val := rfl
  have q0 : (((cfg0.win 7).blk t).view.emb i 0).val = t.val / 22 * 1024 + (i 0).val := by rw [hb0, e0]; omega
  have q1 : ((cfg0.win 7).blk t).view.emb i 1 = (⟨(i 1).val, (i 1).isLt⟩ : Fin 2048) := Fin.ext (hb1.trans (by rw [e1]; show 0 * 2048 + 1 * (i 1).val = (i 1).val; omega))
  have hi : (cfg0.win 7).xinj (grid0.coords t) i = ix2 (n0 := 1024) (n1 := 2048) ⟨(i 0).val, (i 0).isLt⟩ ⟨(i 1).val, (i 1).isLt⟩ := by
    funext a
    match a with
    | ⟨0, _⟩ => rfl
    | ⟨1, _⟩ => rfl
  show (st m c t.val t.isLt).2 ((cfg0.win 7).xinj (grid0.coords t) i) = out7 m c (((cfg0.win 7).blk t).view.emb i)
  rw [hi]
  refine ((state m c t.val t.isLt).2 hm ⟨(i 0).val, (i 0).isLt⟩ ⟨(i 1).val, (i 1).isLt⟩).2.trans ?_
  unfold out7
  rw [q0, q1]

/-- Every index of the second result array lies in a block written back. -/
theorem covered7 (i : S8192x2048.Idx) : ∃ t : Fin cfg0.N, (cfg0.win 7).flush t = true ∧ i ∈ ((cfg0.win 7).blk t).view.set := by
  have hi0 : (i 0).val < 8192 := (i 0).isLt
  have hi1 : (i 1).val < 2048 := (i 1).isLt
  have hv : (lastPt (i 0)).val = 22 * ((i 0).val / 1024) + 21 := rfl
  refine ⟨lastPt (i 0), (flush0_7 _).mpr (by rw [hv]; omega), ?_⟩
  obtain ⟨e0, e1⟩ := idx7 (lastPt (i 0))
  show i ∈ ((View.whole main_v2_1).slice (win0_7.rect (lastPt (i 0)))).set
  rw [View.set_slice_whole, Rect.mem_set_unit]
  intro a
  match a with
  | ⟨0, _⟩ =>
    show win0_7.index (lastPt (i 0)) (0 : Fin 2) * 1024 ≤ (i 0).val ∧ (i 0).val < win0_7.index (lastPt (i 0)) (0 : Fin 2) * 1024 + 1024
    rw [e0, hv]; omega
  | ⟨1, _⟩ =>
    show win0_7.index (lastPt (i 0)) (1 : Fin 2) * 2048 ≤ (i 1).val ∧ (i 1).val < win0_7.index (lastPt (i 0)) (1 : Fin 2) * 2048 + 2048
    rw [e1]; omega

/-- What the second result array holds in the end. -/
theorem final7 : (dats m 0 c).arrAt 7 cfg0.N = out7 m c :=
  (dats m 0 c).arrAt_eq_of_cover 7 _ (fun t hf => flushed7 m c t hf) (fun i => covered7 i)

/-- A new residual row, from the arguments. -/
theorem newrow_eq (r : Fin 8192) : newrow m c r.val = res (argH m c) (argW m c) (argGate m c) (argUp m c) (argDown m c) 0 r := by
  have hh : hrow m c r.val = fun j => argH m c (ix2 r j) := by
    funext j
    unfold hrow
    rw [dif_pos r.isLt]
  funext y
  unfold newrow res done xrow half
  rw [hh]

end Cert.Proof.Next

end
-- ==== Proof.Next.Ref.lean ====
/-
  The reference of the opening feed-forward, read at an index: the normalised sum of the residual row and half the
  feed-forward of the normalised row.
-/
module

public import proofs.«01_k».proof.Proof.Ffn.Math
public import proofs.«01_k».proof.Proof.Gen.FfnNextRefIdeal.Read
public import Idealize.ShloMosaic.Lib.Pointwise
public import Idealize.ShloMosaic.Lib.IdealHost

@[expose] public section

set_option maxRecDepth 16384

noncomputable section

namespace Cert.Proof.Next.Ref

open Cert.Proof.Ffn Idealize.ShloMosaic Idealize.SL.Sem Cert.FfnNextRefIdeal Cert.FfnNextRefIdeal.Gen Cert.FfnNextRefIdeal.Value Cert.FfnNextRefIdeal.Read Idealize.ShloMosaic.TcCoe

variable (h : (⟨2, ![8192, 2048]⟩ : Shape).Idx → EReal) (w wf : (⟨1, ![2048]⟩ : Shape).Idx → EReal)
  (G U : (⟨3, ![2, 2048, 5632]⟩ : Shape).Idx → EReal) (D : (⟨3, ![2, 5632, 2048]⟩ : Shape).Idx → EReal)

/-- The square sum of a residual row. -/
theorem sq_apply (r : Fin 8192) :
    val_main_v1 (F := Ideal) h (ix1 r) = ∑ k : Fin 2048, h (ix2 r k) * h (ix2 r k) := by
  have z : ∀ i, val_main_cst (F := Ideal) i = (0 : EReal) := fun _ => Ideal.ofBits_zero .f32
  rw [val_main_v1_apply, z, zero_add]
  refine Finset.sum_congr rfl fun k _ => ?_
  have e : idx_main_v1 (ix1 r) k = ix2 r k := by
    funext a
    match a with
    | ⟨0, _⟩ => rfl
    | ⟨1, _⟩ => rfl
  rw [val_main_v0_apply, e]
  rfl

/-- The normalised row. -/
theorem norm_apply (r : Fin 8192) (k : Fin 2048) :
    val_main_v12 (F := Ideal) h w (ix2 r k) = norm (fun j => h (ix2 r j)) (fun j => w (ix1 j)) k := by
  have e1 : idx_main_v2 (idx_main_v8 (ix2 r k)) = ix1 r := by
    funext a
    match a with
    | ⟨0, _⟩ => rfl
  have e2 : idx_main_v10 (idx_main_v11 (ix2 r k)) = ix1 k := by
    funext a
    match a with
    | ⟨0, _⟩ => rfl
  rw [val_main_v12_apply, val_main_v11_apply, val_main_v10_apply, val_main_v9_apply, val_main_v8_apply, val_main_v7_apply,
    val_main_v6_apply, val_main_v5_apply, val_main_v4_apply, val_main_v3_apply, val_main_v2_apply, e1, e2, sq_apply,
    val_main_cst_0_apply, val_main_cst_1_apply]
  rfl

/-- The first layer's gate column. -/
theorem gate_apply (k : Fin 2048) (f : Fin 5632) : val_main_v14 (F := Ideal) G (ix2 k f) = G (ix3 0 k f) := by
  have hk := k.isLt
  have hf := f.isLt
  rw [val_main_v14_apply, val_main_v13_apply]
  refine congrArg G ?_
  funext a
  match a with
  | ⟨0, _⟩ => refine Fin.ext ?_; show _ = 0; simp
  | ⟨1, _⟩ => refine Fin.ext ?_; show _ = k.val; simp; try omega
  | ⟨2, _⟩ => refine Fin.ext ?_; show _ = f.val; simp; try omega

/-- The first layer's value column. -/
theorem up_apply (k : Fin 2048) (f : Fin 5632) : val_main_v16 (F := Ideal) U (ix2 k f) = U (ix3 0 k f) := by
  have hk := k.isLt
  have hf := f.isLt
  rw [val_main_v16_apply, val_main_v15_apply]
  refine congrArg U ?_
  funext a
  match a with
  | ⟨0, _⟩ => refine Fin.ext ?_; show _ = 0; simp
  | ⟨1, _⟩ => refine Fin.ext ?_; show _ = k.val; simp; try omega
  | ⟨2, _⟩ => refine Fin.ext ?_; show _ = f.val; simp; try omega

/-- The first layer's down projection. -/
theorem down_apply (f : Fin 5632) (y : Fin 2048) : val_main_v18 (F := Ideal) D (ix2 f y) = D (ix3 0 f y) := by
  have hk := y.isLt
  have hf := f.isLt
  rw [val_main_v18_apply, val_main_v17_apply]
  refine congrArg D ?_
  funext a
  match a with
  | ⟨0, _⟩ => refine Fin.ext ?_; show _ = 0; simp
  | ⟨1, _⟩ => refine Fin.ext ?_; show _ = f.val; simp; try omega
  | ⟨2, _⟩ => refine Fin.ext ?_; show _ = y.val; simp; try omega

/-- The gate's product. -/
theorem gdot_apply (r : Fin 8192) (f : Fin 5632) :
    val_main_v19 (F := Ideal) h w G (ix2 r f)
      = ∑ k, norm (fun j => h (ix2 r j)) (fun j => w (ix1 j)) k * G (ix3 0 k f) := by
  rw [val_main_v19_apply]
  refine Finset.sum_congr rfl fun k _ => ?_
  have el : lidx_main_v19 (ix2 r f) k = ix2 r k := by
    funext a
    match a with
    | ⟨0, _⟩ => rfl
    | ⟨1, _⟩ => rfl
  have er : ridx_main_v19 (ix2 r f) k = ix2 k f := by
    funext a
    match a with
    | ⟨0, _⟩ => rfl
    | ⟨1, _⟩ => rfl
  rw [el, er, norm_apply, gate_apply]

/-- The value's product. -/
theorem udot_apply (r : Fin 8192) (f : Fin 5632) :
    val_main_v21 (F := Ideal) h w U (ix2 r f)
      = ∑ k, norm (fun j => h (ix2 r j)) (fun j => w (ix1 j)) k * U (ix3 0 k f) := by
  rw [val_main_v21_apply]
  refine Finset.sum_congr rfl fun k _ => ?_
  have el : lidx_main_v21 (ix2 r f) k = ix2 r k := by
    funext a
    match a with
    | ⟨0, _⟩ => rfl
    | ⟨1, _⟩ => rfl
  have er : ridx_main_v21 (ix2 r f) k = ix2 k f := by
    funext a
    match a with
    | ⟨0, _⟩ => rfl
    | ⟨1, _⟩ => rfl
  rw [el, er, norm_apply, up_apply]

/-- One, as the word says it. -/
theorem one_word : (FloatOps.ofBits (F := Ideal) .f32 0x3F800000#32 : EReal) = 1 := by
  exact Ideal.ofBits_one_f32

/-- A hidden unit. -/
theorem act_apply (r : Fin 8192) (f : Fin 5632) :
    val_main_v22 (F := Ideal) h w G U (ix2 r f)
      = act (norm (fun j => h (ix2 r j)) (fun j => w (ix1 j))) (fun k => G (ix3 0 k f)) (fun k => U (ix3 0 k f)) := by
  rw [val_main_v22_apply, val_main_v20_apply, val_main_call0_v5_apply, val_main_call0_v4_apply, val_main_call0_v3_apply,
    val_main_call0_v2_apply, val_main_call0_v1_apply, val_main_call0_v0_apply, val_main_call0_cst_apply,
    val_main_call0_cst_0_apply, one_word, gdot_apply, udot_apply]
  rfl

/-- The feed-forward. -/
theorem ffn_apply (r : Fin 8192) (y : Fin 2048) :
    val_main_v23 (F := Ideal) h w G U D (ix2 r y)
      = part (norm (fun j => h (ix2 r j)) (fun j => w (ix1 j))) (fun f k => G (ix3 0 k f)) (fun f k => U (ix3 0 k f))
          (fun f => D (ix3 0 f y)) 5632 := by
  rw [val_main_v23_apply, part_all]
  refine Finset.sum_congr rfl fun f _ => ?_
  have el : lidx_main_v23 (ix2 r y) f = ix2 r f := by
    funext a
    match a with
    | ⟨0, _⟩ => rfl
    | ⟨1, _⟩ => rfl
  have er : ridx_main_v23 (ix2 r y) f = ix2 f y := by
    funext a
    match a with
    | ⟨0, _⟩ => rfl
    | ⟨1, _⟩ => rfl
  rw [el, er, act_apply, down_apply]

/-- The reference's first result. -/
theorem res_apply (r : Fin 8192) (y : Fin 2048) : val_main_v26 (F := Ideal) h w G U D (ix2 r y) = res h w G U D 0 r y := by
  rw [val_main_v26_apply, val_main_v25_apply, val_main_v24_apply, val_main_cst_2_apply, ffn_apply]
  rfl

/-- The square sum of the new residual row. -/
theorem sq2_apply (r : Fin 8192) :
    val_main_v28 (F := Ideal) h w G U D (ix1 r) = ∑ k : Fin 2048, res h w G U D 0 r k * res h w G U D 0 r k := by
  have z : ∀ i, val_main_cst_3 (F := Ideal) i = (0 : EReal) := fun _ => Ideal.ofBits_zero .f32
  rw [val_main_v28_apply, z, zero_add]
  refine Finset.sum_congr rfl fun k _ => ?_
  have e : idx_main_v28 (ix1 r) k = ix2 r k := by
    funext a
    match a with
    | ⟨0, _⟩ => rfl
    | ⟨1, _⟩ => rfl
  rw [val_main_v27_apply, e, res_apply]
  rfl

/-- The reference's second result. -/
theorem out_apply (r : Fin 8192) (y : Fin 2048) :
    val_main_v40 (F := Ideal) h w G U D wf (ix2 r y) = norm (res h w G U D 0 r) (fun j => wf (ix1 j)) y := by
  have e1 : idx_main_v29 (idx_main_v35 (ix2 r y)) = ix1 r := by
    funext a
    match a with
    | ⟨0, _⟩ => rfl
  have e2 : idx_main_v37 (idx_main_v38 (ix2 r y)) = ix1 y := by
    funext a
    match a with
    | ⟨0, _⟩ => rfl
  rw [val_main_v40_apply, val_main_v39_apply, val_main_v38_apply, val_main_v37_apply, val_main_v36_apply, val_main_v35_apply, val_main_v34_apply,
    val_main_v33_apply, val_main_v32_apply, val_main_v31_apply, val_main_v30_apply, val_main_v29_apply, e1, e2, sq2_apply, res_apply,
    val_main_cst_4_apply, val_main_cst_5_apply]
  generalize res h w G U D 0 r = z
  rfl

end Cert.Proof.Next.Ref

end
-- ==== Proof.Next.Claim.lean ====
/-
  The claims about the opening feed-forward: it runs and leaves its arguments as they were, and its two results and the
  reference's are the same functions of the arguments.
-/
module

public import proofs.«01_k».proof.Proof.Next.Array
public import proofs.«01_k».proof.Proof.Next.Ref
public import proofs.«01_k».proof.Proof.Gen.FfnNext
public import proofs.«01_k».proof.Proof.Gen.FfnNextRefIdeal.Run

@[expose] public section

set_option maxRecDepth 16384

noncomputable section

namespace Cert.Proof.Next

open Cert.Proof.Ffn Idealize.ShloMosaic Idealize.SL.Sem Idealize.ShloMosaic.TcCoe

section Frame

variable {F : FTy → Type} [FloatOps F]

local instance factsOne : Cert.FfnNext.Facts := Cert.FfnNext.Gen.facts
local instance factsTwo : Cert.FfnNextIdeal.Facts := Cert.FfnNextIdeal.Gen.facts

/-- The two instances of the program have the same bodies. -/
theorem bodies_eq : Cert.FfnNext.defs₀ (F := F) = Cert.FfnNextIdeal.defs₀ (F := F) := by
  unfold Cert.FfnNext.defs₀ Cert.FfnNextIdeal.defs₀
  refine congrArg Defs.onTc (funext fun x => funext fun a => ?_)
  match x, a with
  | ⟨0, _⟩, (t, s) => rfl
  | ⟨n + 1, h⟩, _ => exact absurd h (Nat.not_lt.2 (Nat.le_add_left _ _))

/-- The two instances of the program have the same definitions. -/
theorem defs_eq : Cert.FfnNext.defs (F := F) = Cert.FfnNextIdeal.defs (F := F) :=
  congrArg (Pipeline.defs Cert.FfnNext.pcfgs) bodies_eq

/-- The program runs on the machine's numbers and leaves its arguments as they were: the run is the one for any numbers. -/
theorem frame_bits : Cert.quiescent_FfnNext (hFfnNext := Cert.FfnNext.Gen.facts) := fun m ρ _ => by
  rw [defs_eq]
  exact frame_run m ρ

end Frame

open Cert.FfnNextIdeal in
/-- The run on exact numbers: each result array holds the rows named, and the arguments are as they were. -/
theorem value_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v2_0) = out6 m c
      ∧ r.2.mem ((c : Thread nD τ).loc main_v2_1) = out7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h.1.1 c).1 6).trans (final6 m c), ((h.1.1 c).1 7).trans (final7 m c), h.2.1 c⟩)
    (θ_run_and (run_main m ρ) (frame_run m ρ))

/-- From equal arguments the kernel and the reference end with equal results and their arguments unchanged. -/
theorem algebraic : Cert.algebraic_FfnNextIdeal_FfnNextRefIdeal (hFfnNextIdeal := Cert.FfnNextIdeal.Gen.facts)
    (hFfnNextRefIdeal := Cert.FfnNextRefIdeal.Gen.facts) := by
  intro m g m' g' _ hargs
  refine ⟨fun c => out6 m c, fun c => out7 m c, value_run m g, ?_⟩
  refine (θ_run (Cert.FfnNextRefIdeal.defs (F := Ideal)) _ _).mono (fun r h c => ?_) (Cert.FfnNextRefIdeal.Value.run (F := Ideal) m' g')
  obtain ⟨e0, e1, e2, e3, e4, e5⟩ := hargs c
  have hi : ∀ i : (⟨2, ![8192, 2048]⟩ : Shape).Idx, i = ix2 (n0 := 8192) (n1 := 2048) (i 0) (i 1) := by
    intro i
    funext a
    match a with
    | ⟨0, _⟩ => rfl
    | ⟨1, _⟩ => rfl
  refine ⟨(h c).1.trans ?_, (h c).2.1.trans ?_, (h c).2.2⟩
  · refine (Cert.FfnNextRefIdeal.Read.val_main_v26_eq (F := Ideal) _ _ _ _ _).trans ?_
    rw [e0, e1, e2, e3, e4]
    refine funext fun i => ?_
    rw [hi i]
    refine (Ref.res_apply (argH m c) (argW m c) (argGate m c) (argUp m c) (argDown m c) (i 0) (i 1)).trans ?_
    exact (congrFun (newrow_eq m c (i 0)) (i 1)).symm
  · refine (Cert.FfnNextRefIdeal.Read.val_main_v40_eq (F := Ideal) m' c).trans ?_
    rw [e0, e1, e2, e3, e4, e5]
    refine funext fun i => ?_
    rw [hi i]
    refine (Ref.out_apply (argH m c) (argW m c) (argWf m c) (argGate m c) (argUp m c) (argDown m c) (i 0) (i 1)).trans ?_
    exact (congrArg (fun z => norm z (fun k => argWf m c (ix1 k)) (i 1)) (newrow_eq m c (i 0))).symm

end Cert.Proof.Next

end
-- ==== Proof.Plain.Body.lean ====
/-
  What one grid point of the inner feed-forward computes, read at an index.

  A point holds 1024 rows and one block of 256 hidden units. The first point of a row block normalises the rows; every
  point adds its units' part to the output; the last one adds the residual.
-/
module

public import proofs.«01_k».proof.Defs
public import proofs.«01_k».proof.Proof.Ffn.Math
public import proofs.«01_k».proof.Proof.Gen.FfnIdeal.Value
public import Idealize.ShloMosaic.Lib.Pointwise
public import Idealize.ShloMosaic.Lib.ValueIdx

@[expose] public section

set_option maxRecDepth 16384

noncomputable section

namespace Cert.Proof.Plain

open Cert.Proof.Ffn Idealize.ShloMosaic Idealize.SL.Sem Cert.FfnIdeal Cert.FfnIdeal.Gen Idealize.ShloMosaic.TcCoe

/-- The normalised rows. -/
theorem pay1_apply (x : Vec Ideal S1024x2048 .f32) (w : Vec Ideal S1x2048 .f32) (r : Fin 1024) (k : Fin 2048) :
    k0_pay1 (F := Ideal) x w (ix2 r k) = norm (row x r) (row1 w) k := by
  pointwise [k0_pay1]
  rfl

/-- The output starts from zero. -/
theorem pay2_apply (r : Fin 1024) (k : Fin 2048) : k0_pay2 (F := Ideal) (ix2 r k) = (0 : EReal) := by
  pointwise [k0_pay2]

/-- A point adds its 256 units' part. -/
theorem pay3_apply (x : Vec Ideal S1024x2048 .bf16) (g u : Vec Ideal S1x2048x256 .f32) (o : Vec Ideal S1024x2048 .f32)
    (d : Vec Ideal S1x256x2048 .f32) (r : Fin 1024) (y : Fin 2048) :
    k0_pay3 (F := Ideal) x g u o d (ix2 r y)
      = o (ix2 r y) + ∑ a : Fin 256, act (row x r) (col g a) (col u a) * d (ix3 0 a y) := by
  pointwise [k0_pay3]
  rfl

/-- The last point adds the residual to half the sum. -/
theorem pay4_apply (h o : Vec Ideal S1024x2048 .f32) (r : Fin 1024) (y : Fin 2048) :
    k0_pay4 (F := Ideal) h o (ix2 r y) = half (row h r) (row o r) y := by
  pointwise [k0_pay4]
  rfl

end Cert.Proof.Plain

end
-- ==== Proof.Plain.Array.lean ====
/-
  The inner feed-forward's output array.

  A grid point's blocks are read as entries of the arguments. The 22 points of a row block then leave, in the scratch, the
  normalised rows, and in the output the part of the feed-forward of the units visited so far; the last one leaves the
  new residual.
-/
module

public import proofs.«01_k».proof.Proof.Plain.Body
public import Idealize.ShloMosaic.Lib.Pipeline.ValueKit.Acc
public import Idealize.ShloMosaic.Lib.StableHlo.Run

@[expose] public section

set_option maxRecDepth 16384

noncomputable section

namespace Cert.Proof.Plain

open Cert.Proof.Ffn Idealize.ShloMosaic Idealize.SL.Sem Cert.FfnIdeal Cert.FfnIdeal.Gen Cert.FfnIdeal.Value Idealize.ShloMosaic.TcCoe

variable (m : (ℓ : Loc nD τ sig) → Buf (Elt Ideal) ℓ) (c : Dev nD)

/-- The residual rows. -/
abbrev argH : (⟨2, ![8192, 2048]⟩ : Shape).Idx → EReal := m ((c.tc : Thread nD τ).loc main_arg0)
/-- The weights of the normalisation. -/
abbrev argW : (⟨1, ![2048]⟩ : Shape).Idx → EReal := m ((c.tc : Thread nD τ).loc main_arg1)
/-- The weights of the gate. -/
abbrev argGate : (⟨3, ![2, 2048, 5632]⟩ : Shape).Idx → EReal := m ((c.tc : Thread nD τ).loc main_arg2)
/-- The weights of the value. -/
abbrev argUp : (⟨3, ![2, 2048, 5632]⟩ : Shape).Idx → EReal := m ((c.tc : Thread nD τ).loc main_arg3)
/-- The weights of the way down. -/
abbrev argDown : (⟨3, ![2, 5632, 2048]⟩ : Shape).Idx → EReal := m ((c.tc : Thread nD τ).loc main_arg4)
/-- Each point's block of residual rows. -/
theorem idx0 : ∀ t : Fin cfg0.N, win0_0.index t (0 : Fin 2) = t.val / 22 ∧ win0_0.index t (1 : Fin 2) = 0 :=
  (by decide +kernel : ∀ t : Fin grid0.N, _)
/-- The weights of the normalisation are one block. -/
theorem idx1 : ∀ t : Fin cfg0.N, win0_1.index t (0 : Fin 2) = 0 ∧ win0_1.index t (1 : Fin 2) = 0 :=
  (by decide +kernel : ∀ t : Fin grid0.N, _)
/-- Each point's columns of the gate. -/
theorem idx2 : ∀ t : Fin cfg0.N,
    win0_2.index t (0 : Fin 3) = 0 ∧ win0_2.index t (1 : Fin 3) = 0 ∧ win0_2.index t (2 : Fin 3) = t.val % 22 :=
  (by decide +kernel : ∀ t : Fin grid0.N, _)
/-- Each point's columns of the value. -/
theorem idx3 : ∀ t : Fin cfg0.N,
    win0_3.index t (0 : Fin 3) = 0 ∧ win0_3.index t (1 : Fin 3) = 0 ∧ win0_3.index t (2 : Fin 3) = t.val % 22 :=
  (by decide +kernel : ∀ t : Fin grid0.N, _)
/-- Each point's rows of the way down. -/
theorem idx4 : ∀ t : Fin cfg0.N,
    win0_4.index t (0 : Fin 3) = 0 ∧ win0_4.index t (1 : Fin 3) = t.val % 22 ∧ win0_4.index t (2 : Fin 3) = 0 :=
  (by decide +kernel : ∀ t : Fin grid0.N, _)
/-- There are 176 points. -/
theorem lt_N (t : Fin cfg0.N) : t.val < 176 := lt_of_lt_of_eq t.isLt N_0

/-- The residual row of number `q`. -/
def hrow (q : ℕ) (k : Fin 2048) : EReal := if hq : q < 8192 then argH m c (ix2 ⟨q, hq⟩ k) else 0

/-- The residual block's rows are the argument's. -/
theorem iblk0 (t : Fin cfg0.N) (r : Fin 1024) : row (iblk m c 0 t) r = hrow m c (t.val / 22 * 1024 + r.val) := by
  obtain ⟨e0, e1⟩ := idx0 t
  have ht := lt_N t
  have hr := r.isLt
  funext k
  unfold hrow
  rw [dif_pos (by omega)]
  unfold row iblk
  show V m c main_arg0 (((cfg0.win 0).blk t).view.emb (ix2 r k)) = _
  rw [V_main_arg0]
  refine congrArg (m ((c.tc : Thread nD τ).loc main_arg0)) ?_
  have hb0 : (((cfg0.win 0).blk t).view.emb (ix2 r k) 0).val = win0_0.index t (0 : Fin 2) * 1024 + 1 * r.val := rfl
  have hb1 : (((cfg0.win 0).blk t).view.emb (ix2 r k) 1).val = win0_0.index t (1 : Fin 2) * 2048 + 1 * k.val := rfl
  rw [e0] at hb0
  rw [e1] at hb1
  funext a
  match a with
  | ⟨0, _⟩ => exact Fin.ext (hb0.trans (by show _ = t.val / 22 * 1024 + r.val; omega))
  | ⟨1, _⟩ => exact Fin.ext (hb1.trans (by show _ = k.val; omega))

/-- The weights of the normalisation as a row when the grid is entered. -/
theorem row_eq : V m c main_v0 = shapeCast S1x2048 (argW m c : FVec Ideal S2048 .f32) shapeCasts_S2048_S1x2048 := by
  unfold V hostOps0
  after_results
  rfl

/-- The weights of the normalisation in a point's block. -/
theorem iblk1 (t : Fin cfg0.N) : row1 (iblk m c 1 t) = fun k => argW m c (ix1 k) := by
  have h : (iblk m c 1 t : (⟨2, ![1, 2048]⟩ : Shape).Idx → EReal) = V m c main_v0 := by
    funext i
    unfold iblk
    show V m c main_v0 (((cfg0.win 1).blk t).view.emb i) = _
    refine congrArg (V m c main_v0) ?_
    obtain ⟨e0, e1⟩ := idx1 t
    have hb0 : (((cfg0.win 1).blk t).view.emb i 0).val = win0_1.index t (0 : Fin 2) * 1 + 1 * (i 0).val := rfl
    have hb1 : (((cfg0.win 1).blk t).view.emb i 1).val = win0_1.index t (1 : Fin 2) * 2048 + 1 * (i 1).val := rfl
    rw [e0] at hb0
    rw [e1] at hb1
    funext a
    match a with
    | ⟨0, _⟩ => exact Fin.ext (hb0.trans (by show _ = (i 0).val; omega))
    | ⟨1, _⟩ => exact Fin.ext (hb1.trans (by show _ = (i 1).val; omega))
  funext k
  unfold row1
  rw [h, row_eq]
  pointwise []

/-- A column of the gate in a point's block. -/
theorem iblk2 (t : Fin cfg0.N) (a : Fin 256) (h : 256 * (t.val % 22) + a.val < 5632) :
    col (iblk m c 2 t) a = fun k => argGate m c (ix3 0 k ⟨256 * (t.val % 22) + a.val, h⟩) := by
  obtain ⟨e0, e1, e2⟩ := idx2 t
  funext k
  unfold col iblk
  show V m c main_arg2 (((cfg0.win 2).blk t).view.emb (ix3 0 k a)) = _
  rw [V_main_arg2]
  refine congrArg (m ((c.tc : Thread nD τ).loc main_arg2)) ?_
  have hb0 : (((cfg0.win 2).blk t).view.emb (ix3 0 k a) 0).val = win0_2.index t (0 : Fin 3) * 1 + 1 * 0 := rfl
  have hb1 : (((cfg0.win 2).blk t).view.emb (ix3 0 k a) 1).val = win0_2.index t (1 : Fin 3) * 2048 + 1 * k.val := rfl
  have hb2 : (((cfg0.win 2).blk t).view.emb (ix3 0 k a) 2).val = win0_2.index t (2 : Fin 3) * 256 + 1 * a.val := rfl
  rw [e0] at hb0
  rw [e1] at hb1
  rw [e2] at hb2
  funext b
  match b with
  | ⟨0, _⟩ => exact Fin.ext (hb0.trans rfl)
  | ⟨1, _⟩ => exact Fin.ext (hb1.trans (by show _ = k.val; omega))
  | ⟨2, _⟩ => exact Fin.ext (hb2.trans (by show _ = 256 * (t.val % 22) + a.val; omega))

/-- A column of the value in a point's block. -/
theorem iblk3 (t : Fin cfg0.N) (a : Fin 256) (h : 256 * (t.val % 22) + a.val < 5632) :
    col (iblk m c 3 t) a = fun k => argUp m c (ix3 0 k ⟨256 * (t.val % 22) + a.val, h⟩) := by
  obtain ⟨e0, e1, e2⟩ := idx3 t
  funext k
  unfold col iblk
  show V m c main_arg3 (((cfg0.win 3).blk t).view.emb (ix3 0 k a)) = _
  rw [V_main_arg3]
  refine congrArg (m ((c.tc : Thread nD τ).loc main_arg3)) ?_
  have hb0 : (((cfg0.win 3).blk t).view.emb (ix3 0 k a) 0).val = win0_3.index t (0 : Fin 3) * 1 + 1 * 0 := rfl
  have hb1 : (((cfg0.win 3).blk t).view.emb (ix3 0 k a) 1).val = win0_3.index t (1 : Fin 3) * 2048 + 1 * k.val := rfl
  have hb2 : (((cfg0.win 3).blk t).view.emb (ix3 0 k a) 2).val = win0_3.index t (2 : Fin 3) * 256 + 1 * a.val := rfl
  rw [e0] at hb0
  rw [e1] at hb1
  rw [e2] at hb2
  funext b
  match b with
  | ⟨0, _⟩ => exact Fin.ext (hb0.trans rfl)
  | ⟨1, _⟩ => exact Fin.ext (hb1.trans (by show _ = k.val; omega))
  | ⟨2, _⟩ => exact Fin.ext (hb2.trans (by show _ = 256 * (t.val % 22) + a.val; omega))

/-- An entry of the way down in a point's block. -/
theorem iblk4 (t : Fin cfg0.N) (a : Fin 256) (y : Fin 2048) (h : 256 * (t.val % 22) + a.val < 5632) :
    iblk m c 4 t (ix3 0 a y) = argDown m c (ix3 0 ⟨256 * (t.val % 22) + a.val, h⟩ y) := by
  obtain ⟨e0, e1, e2⟩ := idx4 t
  unfold iblk
  show V m c main_arg4 (((cfg0.win 4).blk t).view.emb (ix3 0 a y)) = _
  rw [V_main_arg4]
  refine congrArg (m ((c.tc : Thread nD τ).loc main_arg4)) ?_
  have hb0 : (((cfg0.win 4).blk t).view.emb (ix3 0 a y) 0).val = win0_4.index t (0 : Fin 3) * 1 + 1 * 0 := rfl
  have hb1 : (((cfg0.win 4).blk t).view.emb (ix3 0 a y) 1).val = win0_4.index t (1 : Fin 3) * 256 + 1 * a.val := rfl
  have hb2 : (((cfg0.win 4).blk t).view.emb (ix3 0 a y) 2).val = win0_4.index t (2 : Fin 3) * 2048 + 1 * y.val := rfl
  rw [e0] at hb0
  rw [e1] at hb1
  rw [e2] at hb2
  funext b
  match b with
  | ⟨0, _⟩ => exact Fin.ext (hb0.trans rfl)
  | ⟨1, _⟩ => exact Fin.ext (hb1.trans (by show _ = 256 * (t.val % 22) + a.val; omega))
  | ⟨2, _⟩ => exact Fin.ext (hb2.trans (by show _ = y.val; omega))

/-- The normalised residual row of number `q`. -/
def xrow (q : ℕ) : Fin 2048 → EReal := norm (hrow m c q) (fun k => argW m c (ix1 k))

/-- The first `n` units' part of the output of row `q`. -/
def done (q : ℕ) (n : ℕ) (y : Fin 2048) : EReal :=
  part (xrow m c q) (fun f k => argGate m c (ix3 0 k f)) (fun f k => argUp m c (ix3 0 k f)) (fun f => argDown m c (ix3 0 f y)) n

/-- What a point adds, from normalised rows and an output found. -/
theorem step (t : Fin cfg0.N) (q : ℕ) (x : Vec Ideal S1024x2048 .bf16) (o : Vec Ideal S1024x2048 .f32) (r : Fin 1024) (y : Fin 2048)
    (hx : row x r = xrow m c q) (ho : o (ix2 r y) = done m c q (256 * (t.val % 22)) y) :
    k0_pay3 (F := Ideal) x (iblk m c 2 t) (iblk m c 3 t) o (iblk m c 4 t) (ix2 r y) = done m c q (256 * (t.val % 22) + 256) y := by
  rw [pay3_apply, ho, hx]
  unfold done
  rw [part_block]
  refine congrArg _ (Finset.sum_congr rfl fun a _ => ?_)
  have ha := a.isLt
  have h : 256 * (t.val % 22) + a.val < 5632 := by omega
  unfold term
  rw [dif_pos h, iblk2 m c t a h, iblk3 m c t a h, iblk4 m c t a y h]

/-- What the scratch and the output hold after point `n`: the normalised rows of its block, and the part of the units
    visited or, after the last, the new residual. -/
theorem state : ∀ (n : ℕ) (hn : n < cfg0.N),
    (∀ r : Fin 1024, row (outsAt0 m c n hn).2 r = xrow m c (n / 22 * 1024 + r.val))
    ∧ (n % 22 ≠ 21 → ∀ (r : Fin 1024) (y : Fin 2048),
        (outsAt0 m c n hn).1 (ix2 r y) = done m c (n / 22 * 1024 + r.val) (256 * (n % 22) + 256) y)
    ∧ (n % 22 = 21 → ∀ (r : Fin 1024) (y : Fin 2048),
        (outsAt0 m c n hn).1 (ix2 r y)
          = half (hrow m c (n / 22 * 1024 + r.val)) (done m c (n / 22 * 1024 + r.val) 5632) y) := by
  intro n
  induction n using Nat.strong_induction_on with
  | _ n ih =>
    intro hn
    by_cases h0 : n % 22 = 0
    · have h1 : ¬ n % 22 = 21 := by omega
      have hx : ∀ r : Fin 1024, row (k0_pay1 (F := Ideal) (iblk m c 0 ⟨n, hn⟩) (iblk m c 1 ⟨n, hn⟩)) r = xrow m c (n / 22 * 1024 + r.val) := by
        intro r
        funext k
        unfold row
        rw [pay1_apply, iblk0, iblk1]
        rfl
      refine ⟨fun r => ?_, fun _ r y => ?_, fun h => absurd h h1⟩
      · rw [outsAt0_A m c ⟨n, hn⟩ h0 h1]
        frame_out
        exact hx r
      · rw [outsAt0_A m c ⟨n, hn⟩ h0 h1]
        frame_out
        refine step m c ⟨n, hn⟩ _ _ _ r y (hx r) ?_
        rw [pay2_apply]
        unfold done
        show _ = part _ _ _ _ (256 * (n % 22))
        rw [h0]
        rfl
    · have hlt : n - 1 < n := by omega
      have hn' : n - 1 < cfg0.N := by omega
      obtain ⟨ihx, iho, -⟩ := ih (n - 1) hlt hn'
      have hq : (n - 1) / 22 = n / 22 := by omega
      have hr : 256 * ((n - 1) % 22) + 256 = 256 * (n % 22) := by omega
      have hs : (n - 1) % 22 ≠ 21 := by omega
      rw [hq] at ihx iho
      rw [hr] at iho
      have hstep : ∀ (r : Fin 1024) (y : Fin 2048),
          k0_pay3 (F := Ideal) (outsAt0 m c (n - 1) hn').2 (iblk m c 2 ⟨n, hn⟩) (iblk m c 3 ⟨n, hn⟩) (outsAt0 m c (n - 1) hn').1
            (iblk m c 4 ⟨n, hn⟩) (ix2 r y) = done m c (n / 22 * 1024 + r.val) (256 * (n % 22) + 256) y :=
        fun r y => step m c ⟨n, hn⟩ _ _ _ r y (ihx r) (iho hs r y)
      by_cases h1 : n % 22 = 21
      · refine ⟨fun r => ?_, fun h => absurd h1 h, fun _ r y => ?_⟩
        · rw [outsAt0_C m c ⟨n, hn⟩ h0 h1]
          exact ihx r
        · rw [outsAt0_C m c ⟨n, hn⟩ h0 h1]
          frame_out
          rw [(Memref.isWhole_whole cc0_scratch0).read_unread, pay4_apply, iblk0]
          refine congrArg (fun o => half _ o y) (funext fun y' => ?_)
          refine (hstep r y').trans ?_
          rw [h1]
      · refine ⟨fun r => ?_, fun _ r y => ?_, fun h => absurd h h1⟩
        · rw [outsAt0_B m c ⟨n, hn⟩ h0 h1]
          exact ihx r
        · rw [outsAt0_B m c ⟨n, hn⟩ h0 h1]
          frame_out
          rw [(Memref.isWhole_whole cc0_scratch0).read_unread]
          exact hstep r y

/-- The output array: each row the new residual row. -/
theorem G6_apply (r : Fin 8192) (y : Fin 2048) :
    G6 m c (ix2 r y)
      = res (argH m c) (argW m c) (argGate m c) (argUp m c) (argDown m c) 0 r y := by
  have hr := r.isLt
  have hy := y.isLt
  have hp : pt6Of (ix2 r y) = 22 * (r.val / 1024) + 21 := by
    show 22 * (1 * (r.val / 1024 - 0) + 1 * (y.val / 2048 - 0)) + 21 = _
    omega
  have hl : loc6Of (ix2 r y) = ix2 ⟨r.val % 1024, Nat.mod_lt _ (by decide)⟩ y := by
    funext a
    match a with
    | ⟨0, _⟩ => rfl
    | ⟨1, _⟩ => exact Fin.ext (Nat.mod_eq_of_lt hy)
  have hN : pt6Of (ix2 r y) < cfg0.N := lt_of_lt_of_eq (b := 176) (by rw [hp]; omega) N_0.symm
  unfold G6
  rw [dif_pos hN, hl, ← outsAt0_sweep m c _ hN]
  have h21 : pt6Of (ix2 r y) % 22 = 21 := by rw [hp]; omega
  have hrow' : pt6Of (ix2 r y) / 22 * 1024 + r.val % 1024 = r.val := by rw [hp]; omega
  refine ((state m c _ hN).2.2 h21 ⟨r.val % 1024, Nat.mod_lt _ (by decide)⟩ y).trans ?_
  show half (hrow m c (pt6Of (ix2 r y) / 22 * 1024 + r.val % 1024)) (done m c (pt6Of (ix2 r y) / 22 * 1024 + r.val % 1024) 5632) y = _
  rw [hrow']
  have hh : hrow m c r.val = fun j => argH m c (ix2 r j) := by
    funext j
    unfold hrow
    rw [dif_pos hr]
  unfold res done xrow half
  rw [hh]

end Cert.Proof.Plain

end
-- ==== Proof.Plain.Ref.lean ====
/-
  The reference of the inner feed-forward, read at an index: the sum of the residual row and half the feed-forward of
  the normalised row.
-/
module

public import proofs.«01_k».proof.Proof.Ffn.Math
public import proofs.«01_k».proof.Proof.Gen.FfnRefIdeal.Read
public import Idealize.ShloMosaic.Lib.Pointwise
public import Idealize.ShloMosaic.Lib.IdealHost

@[expose] public section

set_option maxRecDepth 16384

noncomputable section

namespace Cert.Proof.Plain.Ref

open Cert.Proof.Ffn Idealize.ShloMosaic Idealize.SL.Sem Cert.FfnRefIdeal Cert.FfnRefIdeal.Gen Cert.FfnRefIdeal.Value Cert.FfnRefIdeal.Read Idealize.ShloMosaic.TcCoe

variable (h : (⟨2, ![8192, 2048]⟩ : Shape).Idx → EReal) (w : (⟨1, ![2048]⟩ : Shape).Idx → EReal)
  (G U : (⟨3, ![2, 2048, 5632]⟩ : Shape).Idx → EReal) (D : (⟨3, ![2, 5632, 2048]⟩ : Shape).Idx → EReal)

/-- The square sum of a residual row. -/
theorem sq_apply (r : Fin 8192) :
    val_main_v1 (F := Ideal) h (ix1 r) = ∑ k : Fin 2048, h (ix2 r k) * h (ix2 r k) := by
  have z : ∀ i, val_main_cst (F := Ideal) i = (0 : EReal) := fun _ => Ideal.ofBits_zero .f32
  rw [val_main_v1_apply, z, zero_add]
  refine Finset.sum_congr rfl fun k _ => ?_
  have e : idx_main_v1 (ix1 r) k = ix2 r k := by
    funext a
    match a with
    | ⟨0, _⟩ => rfl
    | ⟨1, _⟩ => rfl
  rw [val_main_v0_apply, e]
  rfl

/-- The normalised row. -/
theorem norm_apply (r : Fin 8192) (k : Fin 2048) :
    val_main_v12 (F := Ideal) h w (ix2 r k) = norm (fun j => h (ix2 r j)) (fun j => w (ix1 j)) k := by
  have e1 : idx_main_v2 (idx_main_v8 (ix2 r k)) = ix1 r := by
    funext a
    match a with
    | ⟨0, _⟩ => rfl
  have e2 : idx_main_v10 (idx_main_v11 (ix2 r k)) = ix1 k := by
    funext a
    match a with
    | ⟨0, _⟩ => rfl
  rw [val_main_v12_apply, val_main_v11_apply, val_main_v10_apply, val_main_v9_apply, val_main_v8_apply, val_main_v7_apply,
    val_main_v6_apply, val_main_v5_apply, val_main_v4_apply, val_main_v3_apply, val_main_v2_apply, e1, e2, sq_apply,
    val_main_cst_0_apply, val_main_cst_1_apply]
  rfl

/-- The first layer's gate column. -/
theorem gate_apply (k : Fin 2048) (f : Fin 5632) : val_main_v14 (F := Ideal) G (ix2 k f) = G (ix3 0 k f) := by
  have hk := k.isLt
  have hf := f.isLt
  rw [val_main_v14_apply, val_main_v13_apply]
  refine congrArg G ?_
  funext a
  match a with
  | ⟨0, _⟩ => refine Fin.ext ?_; show _ = 0; simp
  | ⟨1, _⟩ => refine Fin.ext ?_; show _ = k.val; simp; try omega
  | ⟨2, _⟩ => refine Fin.ext ?_; show _ = f.val; simp; try omega

/-- The first layer's value column. -/
theorem up_apply (k : Fin 2048) (f : Fin 5632) : val_main_v16 (F := Ideal) U (ix2 k f) = U (ix3 0 k f) := by
  have hk := k.isLt
  have hf := f.isLt
  rw [val_main_v16_apply, val_main_v15_apply]
  refine congrArg U ?_
  funext a
  match a with
  | ⟨0, _⟩ => refine Fin.ext ?_; show _ = 0; simp
  | ⟨1, _⟩ => refine Fin.ext ?_; show _ = k.val; simp; try omega
  | ⟨2, _⟩ => refine Fin.ext ?_; show _ = f.val; simp; try omega

/-- The first layer's down projection. -/
theorem down_apply (f : Fin 5632) (y : Fin 2048) : val_main_v18 (F := Ideal) D (ix2 f y) = D (ix3 0 f y) := by
  have hk := y.isLt
  have hf := f.isLt
  rw [val_main_v18_apply, val_main_v17_apply]
  refine congrArg D ?_
  funext a
  match a with
  | ⟨0, _⟩ => refine Fin.ext ?_; show _ = 0; simp
  | ⟨1, _⟩ => refine Fin.ext ?_; show _ = f.val; simp; try omega
  | ⟨2, _⟩ => refine Fin.ext ?_; show _ = y.val; simp; try omega

/-- The gate's product. -/
theorem gdot_apply (r : Fin 8192) (f : Fin 5632) :
    val_main_v19 (F := Ideal) h w G (ix2 r f)
      = ∑ k, norm (fun j => h (ix2 r j)) (fun j => w (ix1 j)) k * G (ix3 0 k f) := by
  rw [val_main_v19_apply]
  refine Finset.sum_congr rfl fun k _ => ?_
  have el : lidx_main_v19 (ix2 r f) k = ix2 r k := by
    funext a
    match a with
    | ⟨0, _⟩ => rfl
    | ⟨1, _⟩ => rfl
  have er : ridx_main_v19 (ix2 r f) k = ix2 k f := by
    funext a
    match a with
    | ⟨0, _⟩ => rfl
    | ⟨1, _⟩ => rfl
  rw [el, er, norm_apply, gate_apply]

/-- The value's product. -/
theorem udot_apply (r : Fin 8192) (f : Fin 5632) :
    val_main_v21 (F := Ideal) h w U (ix2 r f)
      = ∑ k, norm (fun j => h (ix2 r j)) (fun j => w (ix1 j)) k * U (ix3 0 k f) := by
  rw [val_main_v21_apply]
  refine Finset.sum_congr rfl fun k _ => ?_
  have el : lidx_main_v21 (ix2 r f) k = ix2 r k := by
    funext a
    match a with
    | ⟨0, _⟩ => rfl
    | ⟨1, _⟩ => rfl
  have er : ridx_main_v21 (ix2 r f) k = ix2 k f := by
    funext a
    match a with
    | ⟨0, _⟩ => rfl
    | ⟨1, _⟩ => rfl
  rw [el, er, norm_apply, up_apply]

/-- One, as the word says it. -/
theorem one_word : (FloatOps.ofBits (F := Ideal) .f32 0x3F800000#32 : EReal) = 1 := by
  exact Ideal.ofBits_one_f32

/-- A hidden unit. -/
theorem act_apply (r : Fin 8192) (f : Fin 5632) :
    val_main_v22 (F := Ideal) h w G U (ix2 r f)
      = act (norm (fun j => h (ix2 r j)) (fun j => w (ix1 j))) (fun k => G (ix3 0 k f)) (fun k => U (ix3 0 k f)) := by
  rw [val_main_v22_apply, val_main_v20_apply, val_main_call0_v5_apply, val_main_call0_v4_apply, val_main_call0_v3_apply,
    val_main_call0_v2_apply, val_main_call0_v1_apply, val_main_call0_v0_apply, val_main_call0_cst_apply,
    val_main_call0_cst_0_apply, one_word, gdot_apply, udot_apply]
  rfl

/-- The feed-forward. -/
theorem ffn_apply (r : Fin 8192) (y : Fin 2048) :
    val_main_v23 (F := Ideal) h w G U D (ix2 r y)
      = part (norm (fun j => h (ix2 r j)) (fun j => w (ix1 j))) (fun f k => G (ix3 0 k f)) (fun f k => U (ix3 0 k f))
          (fun f => D (ix3 0 f y)) 5632 := by
  rw [val_main_v23_apply, part_all]
  refine Finset.sum_congr rfl fun f _ => ?_
  have el : lidx_main_v23 (ix2 r y) f = ix2 r f := by
    funext a
    match a with
    | ⟨0, _⟩ => rfl
    | ⟨1, _⟩ => rfl
  have er : ridx_main_v23 (ix2 r y) f = ix2 f y := by
    funext a
    match a with
    | ⟨0, _⟩ => rfl
    | ⟨1, _⟩ => rfl
  rw [el, er, act_apply, down_apply]

/-- The reference's result. -/
theorem res_apply (r : Fin 8192) (y : Fin 2048) : val_main_v26 (F := Ideal) h w G U D (ix2 r y) = res h w G U D 0 r y := by
  rw [val_main_v26_apply, val_main_v25_apply, val_main_v24_apply, val_main_cst_2_apply, ffn_apply]
  rfl

end Cert.Proof.Plain.Ref

end
-- ==== Proof.Plain.Claim.lean ====
/-
  The claim about the inner feed-forward: the kernel's result and the reference's are the same function of the arguments.
-/
module

public import proofs.«01_k».proof.Proof.Plain.Array
public import proofs.«01_k».proof.Proof.Plain.Ref

@[expose] public section

set_option maxRecDepth 16384

noncomputable section

namespace Cert.Proof.Plain

open Cert.Proof.Ffn Idealize.ShloMosaic Idealize.SL.Sem Idealize.ShloMosaic.TcCoe

/-- From equal arguments the kernel and the reference end with equal results and their arguments unchanged. -/
theorem algebraic : Cert.algebraic_FfnIdeal_FfnRefIdeal (hFfnIdeal := Cert.FfnIdeal.Gen.facts)
    (hFfnRefIdeal := Cert.FfnRefIdeal.Gen.facts) := by
  intro m g m' g' _ hargs
  refine ⟨fun c => Cert.FfnIdeal.Value.G6 m c, Cert.FfnIdeal.Value.run (F := Ideal) m g, ?_⟩
  refine (θ_run (Cert.FfnRefIdeal.defs (F := Ideal)) _ _).mono (fun r h c => ?_) (Cert.FfnRefIdeal.Value.run (F := Ideal) m' g')
  refine ⟨(h c).1.trans ?_, (h c).2⟩
  obtain ⟨e0, e1, e2, e3, e4⟩ := hargs c
  refine (Cert.FfnRefIdeal.Read.val_main_v26_eq (F := Ideal) _ _ _ _ _).trans ?_
  rw [e0, e1, e2, e3, e4]
  refine funext fun i => ?_
  have hi : i = ix2 (n0 := 8192) (n1 := 2048) (i 0) (i 1) := by
    funext a
    match a with
    | ⟨0, _⟩ => rfl
    | ⟨1, _⟩ => rfl
  rw [hi]
  refine (Ref.res_apply (argH m c) (argW m c) (argGate m c) (argUp m c) (argDown m c) (i 0) (i 1)).trans ?_
  exact (G6_apply m c (i 0) (i 1)).symm

end Cert.Proof.Plain

end
-- ==== Proof.OutAttn.Claim.lean ====
/-
  The output projection of the differential attention, 2048 columns in: each result entry is the residual's plus the product of a row and a column
  of the weights.

  The first point of a block of result columns keeps the weights' columns; the points after it use what is kept.
-/
module

public import proofs.«01_k».proof.Defs
public import proofs.«01_k».proof.Proof.Gen.OutAttn
public import proofs.«01_k».proof.Proof.Gen.OutAttnIdeal.Value
public import proofs.«01_k».proof.Proof.Gen.OutAttnRefIdeal.Read
public import proofs.«01_k».proof.Proof.Gen.OutAttnRefIdeal.Run
public import Idealize.ShloMosaic.Lib.Pointwise
public import Idealize.ShloMosaic.Lib.ValueIdx
public import Idealize.ShloMosaic.Lib.Pipeline.ValueKit.Acc
public import Idealize.ShloMosaic.Lib.StableHlo.Run
public import Idealize.ShloMosaic.Lib.IdealHost

@[expose] public section

set_option maxRecDepth 16384

noncomputable section

namespace Cert.Proof.OutAttn

open Idealize.ShloMosaic Idealize.SL.Sem Cert.OutAttnIdeal Cert.OutAttnIdeal.Gen Cert.OutAttnIdeal.Value Idealize.ShloMosaic.TcCoe

/-! ## What a point computes -/

/-- The weights' columns of a point. -/
theorem pay1_apply (w : Vec Ideal S1x2048x1024 .f32) (k : Fin 2048) (y : Fin 1024) : k0_pay1 (F := Ideal) w (ix2 k y) = w (ix3 0 k y) := by
  pointwise [k0_pay1]

/-- The residual plus the product. -/
theorem pay2_apply (h : Vec Ideal S1024x1024 .f32) (x : Vec Ideal S1024x2048 .bf16) (w : Vec Ideal S2048x1024 .bf16) (r : Fin 1024) (y : Fin 1024) :
    k0_pay2 (F := Ideal) h x w (ix2 r y) = (h (ix2 r y) : EReal) + ∑ k : Fin 2048, (x (ix2 r k) : EReal) * (w (ix2 k y) : EReal) := by
  pointwise [k0_pay2]

/-! ## The result array -/

/-- One result entry: the residual's plus the product of a row and a column. -/
def lin (x : (⟨2, ![8192, 2048]⟩ : Shape).Idx → EReal) (w : (⟨3, ![1, 2048, 2048]⟩ : Shape).Idx → EReal)
    (h : (⟨2, ![8192, 2048]⟩ : Shape).Idx → EReal) (r : Fin 8192) (y : Fin 2048) : EReal :=
  h (ix2 r y) + ∑ k : Fin 2048, x (ix2 r k) * w (ix3 0 k y)

variable (m : (ℓ : Loc nD τ sig) → Buf (Elt Ideal) ℓ) (c : Dev nD)

/-- The rows. -/
abbrev argX : (⟨2, ![8192, 2048]⟩ : Shape).Idx → EReal := m ((c.tc : Thread nD τ).loc main_arg0)
/-- The weights. -/
abbrev argW : (⟨3, ![1, 2048, 2048]⟩ : Shape).Idx → EReal := m ((c.tc : Thread nD τ).loc main_arg1)
/-- The residual. -/
abbrev argH : (⟨2, ![8192, 2048]⟩ : Shape).Idx → EReal := m ((c.tc : Thread nD τ).loc main_arg2)

/-- Each point's rows. -/
theorem idx0 : ∀ t : Fin cfg0.N, win0_0.index t (0 : Fin 2) = t.val % 8 ∧ win0_0.index t (1 : Fin 2) = 0 :=
  (by decide +kernel : ∀ t : Fin grid0.N, _)
/-- Each point's columns of the weights. -/
theorem idx1 : ∀ t : Fin cfg0.N,
    win0_1.index t (0 : Fin 3) = 0 ∧ win0_1.index t (1 : Fin 3) = 0 ∧ win0_1.index t (2 : Fin 3) = t.val / 8 :=
  (by decide +kernel : ∀ t : Fin grid0.N, _)
/-- Each point's block of the residual. -/
theorem idx2 : ∀ t : Fin cfg0.N, win0_2.index t (0 : Fin 2) = t.val % 8 ∧ win0_2.index t (1 : Fin 2) = t.val / 8 :=
  (by decide +kernel : ∀ t : Fin grid0.N, _)

/-- An entry of a point's rows. -/
theorem iblk0 (t : Fin cfg0.N) (r : Fin 1024) (k : Fin 2048) (R : Fin 8192) (hR : R.val = t.val % 8 * 1024 + r.val) :
    iblk m c 0 t (ix2 r k) = argX m c (ix2 R k) := by
  obtain ⟨e0, e1⟩ := idx0 t
  unfold iblk
  show V m c main_arg0 (((cfg0.win 0).blk t).view.emb (ix2 r k)) = _
  rw [V_main_arg0]
  refine congrArg (m ((c.tc : Thread nD τ).loc main_arg0)) ?_
  have hb0 : (((cfg0.win 0).blk t).view.emb (ix2 r k) 0).val = win0_0.index t (0 : Fin 2) * 1024 + 1 * r.val := rfl
  have hb1 : (((cfg0.win 0).blk t).view.emb (ix2 r k) 1).val = win0_0.index t (1 : Fin 2) * 2048 + 1 * k.val := rfl
  rw [e0] at hb0
  rw [e1] at hb1
  funext a
  match a with
  | ⟨0, _⟩ => exact Fin.ext (hb0.trans (by show _ = R.val; omega))
  | ⟨1, _⟩ => exact Fin.ext (hb1.trans (by show _ = k.val; omega))

/-- An entry of a point's columns of the weights. -/
theorem iblk1 (t : Fin cfg0.N) (k : Fin 2048) (y : Fin 1024) (Y : Fin 2048) (hY : Y.val = t.val / 8 * 1024 + y.val) :
    iblk m c 1 t (ix3 0 k y) = argW m c (ix3 0 k Y) := by
  obtain ⟨e0, e1, e2⟩ := idx1 t
  unfold iblk
  show V m c main_arg1 (((cfg0.win 1).blk t).view.emb (ix3 0 k y)) = _
  rw [V_main_arg1]
  refine congrArg (m ((c.tc : Thread nD τ).loc main_arg1)) ?_
  have hb0 : (((cfg0.win 1).blk t).view.emb (ix3 0 k y) 0).val = win0_1.index t (0 : Fin 3) * 1 + 1 * 0 := rfl
  have hb1 : (((cfg0.win 1).blk t).view.emb (ix3 0 k y) 1).val = win0_1.index t (1 : Fin 3) * 2048 + 1 * k.val := rfl
  have hb2 : (((cfg0.win 1).blk t).view.emb (ix3 0 k y) 2).val = win0_1.index t (2 : Fin 3) * 1024 + 1 * y.val := rfl
  rw [e0] at hb0
  rw [e1] at hb1
  rw [e2] at hb2
  funext b
  match b with
  | ⟨0, _⟩ => exact Fin.ext (hb0.trans rfl)
  | ⟨1, _⟩ => exact Fin.ext (hb1.trans (by show _ = k.val; omega))
  | ⟨2, _⟩ => exact Fin.ext (hb2.trans (by show _ = Y.val; omega))

/-- An entry of a point's block of the residual. -/
theorem iblk2 (t : Fin cfg0.N) (r : Fin 1024) (y : Fin 1024) (R : Fin 8192) (Y : Fin 2048)
    (hR : R.val = t.val % 8 * 1024 + r.val) (hY : Y.val = t.val / 8 * 1024 + y.val) :
    iblk m c 2 t (ix2 r y) = argH m c (ix2 R Y) := by
  obtain ⟨e0, e1⟩ := idx2 t
  unfold iblk
  show V m c main_arg2 (((cfg0.win 2).blk t).view.emb (ix2 r y)) = _
  rw [V_main_arg2]
  refine congrArg (m ((c.tc : Thread nD τ).loc main_arg2)) ?_
  have hb0 : (((cfg0.win 2).blk t).view.emb (ix2 r y) 0).val = win0_2.index t (0 : Fin 2) * 1024 + 1 * r.val := rfl
  have hb1 : (((cfg0.win 2).blk t).view.emb (ix2 r y) 1).val = win0_2.index t (1 : Fin 2) * 1024 + 1 * y.val := rfl
  rw [e0] at hb0
  rw [e1] at hb1
  funext a
  match a with
  | ⟨0, _⟩ => exact Fin.ext (hb0.trans (by show _ = R.val; omega))
  | ⟨1, _⟩ => exact Fin.ext (hb1.trans (by show _ = Y.val; omega))

/-- What a point computes from the weights' columns that are kept. -/
theorem point (t : Fin cfg0.N) (w : Vec Ideal S2048x1024 .bf16)
    (hw : ∀ (k : Fin 2048) (y : Fin 1024) (Y : Fin 2048), Y.val = t.val / 8 * 1024 + y.val → w (ix2 k y) = argW m c (ix3 0 k Y))
    (r : Fin 1024) (y : Fin 1024) (R : Fin 8192) (Y : Fin 2048)
    (hR : R.val = t.val % 8 * 1024 + r.val) (hY : Y.val = t.val / 8 * 1024 + y.val) :
    k0_pay2 (F := Ideal) (iblk m c 2 t) (iblk m c 0 t) w (ix2 r y) = lin (argX m c) (argW m c) (argH m c) R Y := by
  rw [pay2_apply, iblk2 m c t r y R Y hR hY]
  unfold lin
  refine congrArg _ (Finset.sum_congr rfl fun k _ => ?_)
  rw [iblk0 m c t r k R hR, hw k y Y hY]

/-- What is kept and what the result block holds after point `n`. -/
theorem state : ∀ (n : ℕ) (hn : n < cfg0.N),
    (∀ (k : Fin 2048) (y : Fin 1024) (Y : Fin 2048), Y.val = n / 8 * 1024 + y.val → (outsAt0 m c n hn).2 (ix2 k y) = argW m c (ix3 0 k Y))
    ∧ (∀ (r : Fin 1024) (y : Fin 1024) (R : Fin 8192) (Y : Fin 2048), R.val = n % 8 * 1024 + r.val → Y.val = n / 8 * 1024 + y.val →
        (outsAt0 m c n hn).1 (ix2 r y) = lin (argX m c) (argW m c) (argH m c) R Y) := by
  intro n
  induction n using Nat.strong_induction_on with
  | _ n ih =>
    intro hn
    by_cases h0 : n % 8 = 0
    · have hw : ∀ (k : Fin 2048) (y : Fin 1024) (Y : Fin 2048), Y.val = n / 8 * 1024 + y.val →
          k0_pay1 (F := Ideal) (iblk m c 1 ⟨n, hn⟩) (ix2 k y) = argW m c (ix3 0 k Y) := fun k y Y hY => by
        rw [pay1_apply, iblk1 m c ⟨n, hn⟩ k y Y hY]
      refine ⟨fun k y Y hY => ?_, fun r y R Y hR hY => ?_⟩
      · rw [outsAt0_A m c ⟨n, hn⟩ h0]
        frame_out
        exact hw k y Y hY
      · rw [outsAt0_A m c ⟨n, hn⟩ h0]
        frame_out
        exact point m c ⟨n, hn⟩ _ hw r y R Y hR hY
    · have hn' : n - 1 < cfg0.N := by omega
      have hq : (n - 1) / 8 = n / 8 := by omega
      have ihw := (ih (n - 1) (by omega) hn').1
      rw [hq] at ihw
      refine ⟨fun k y Y hY => ?_, fun r y R Y hR hY => ?_⟩
      · rw [outsAt0_B m c ⟨n, hn⟩ h0]
        exact ihw k y Y hY
      · rw [outsAt0_B m c ⟨n, hn⟩ h0]
        frame_out
        rw [(Memref.isWhole_whole cc0_scratch0).read_unread]
        exact point m c ⟨n, hn⟩ _ ihw r y R Y hR hY

/-- The result array. -/
theorem G3_apply (r : Fin 8192) (y : Fin 2048) : G3 m c (ix2 r y) = lin (argX m c) (argW m c) (argH m c) r y := by
  have hr := r.isLt
  have hy := y.isLt
  have hp : pt3Of (ix2 r y) = r.val / 1024 + 8 * (y.val / 1024) := by
    show 1 * (r.val / 1024 - 0) + 8 * (y.val / 1024 - 0) = _
    omega
  have hl : loc3Of (ix2 r y) = ix2 ⟨r.val % 1024, Nat.mod_lt _ (by decide)⟩ ⟨y.val % 1024, Nat.mod_lt _ (by decide)⟩ := by
    funext a
    match a with
    | ⟨0, _⟩ => rfl
    | ⟨1, _⟩ => rfl
  have hN : pt3Of (ix2 r y) < cfg0.N := lt_of_lt_of_eq (b := 2 * 8) (by rw [hp]; omega) N_0.symm
  unfold G3
  rw [dif_pos hN, hl, ← outsAt0_sweep m c _ hN]
  refine (state m c _ hN).2 _ _ r y ?_ ?_
  · show r.val = pt3Of (ix2 r y) % 8 * 1024 + r.val % 1024
    rw [hp]; omega
  · show y.val = pt3Of (ix2 r y) / 8 * 1024 + y.val % 1024
    rw [hp]; omega

end Cert.Proof.OutAttn

namespace Cert.Proof.OutAttn.Ref

open Idealize.ShloMosaic Idealize.SL.Sem Cert.OutAttnRefIdeal Cert.OutAttnRefIdeal.Gen Cert.OutAttnRefIdeal.Value Cert.OutAttnRefIdeal.Read Idealize.ShloMosaic.TcCoe

/-- The reference's result. -/
theorem lin_apply (x : (⟨2, ![8192, 2048]⟩ : Shape).Idx → EReal) (w : (⟨3, ![1, 2048, 2048]⟩ : Shape).Idx → EReal)
    (h : (⟨2, ![8192, 2048]⟩ : Shape).Idx → EReal) (r : Fin 8192) (y : Fin 2048) :
    val_main_v3 (F := Ideal) x w h (ix2 r y) = lin x w h r y := by
  have hy := y.isLt
  rw [val_main_v3_apply, val_main_v2_apply]
  unfold lin
  show (_ : EReal) + _ = _
  refine congrArg _ (Finset.sum_congr rfl fun k _ => ?_)
  have hk := k.isLt
  have el : lidx_main_v2 (ix2 r y) k = ix2 r k := by
    funext a
    match a with
    | ⟨0, _⟩ => rfl
    | ⟨1, _⟩ => rfl
  have er : idx_main_v1 (ridx_main_v2 (ix2 r y) k) = ix3 0 k y := by
    funext a
    match a with
    | ⟨0, _⟩ => rfl
    | ⟨1, _⟩ => refine Fin.ext ?_; show (k.val * 2048 + y.val) / 2048 % 2048 = k.val; omega
    | ⟨2, _⟩ => refine Fin.ext ?_; show (k.val * 2048 + y.val) % 2048 = y.val; omega
  rw [val_main_v1_apply, er, el]
  rfl

end Cert.Proof.OutAttn.Ref

namespace Cert.Proof.OutAttn

open Idealize.ShloMosaic Idealize.SL.Sem Idealize.ShloMosaic.TcCoe

/-- From equal arguments the kernel and the reference end with equal results and their arguments unchanged. -/
theorem algebraic : Cert.algebraic_OutAttnIdeal_OutAttnRefIdeal (hOutAttnIdeal := Cert.OutAttnIdeal.Gen.facts)
    (hOutAttnRefIdeal := Cert.OutAttnRefIdeal.Gen.facts) := by
  intro m g m' g' _ hargs
  refine ⟨fun c => Cert.OutAttnIdeal.Value.G3 m c, Cert.OutAttnIdeal.Value.run (F := Ideal) m g, ?_⟩
  refine (θ_run (Cert.OutAttnRefIdeal.defs (F := Ideal)) _ _).mono (fun r h c => ?_) (Cert.OutAttnRefIdeal.Value.run (F := Ideal) m' g')
  refine ⟨(h c).1.trans ?_, (h c).2⟩
  obtain ⟨e0, e1, e2⟩ := hargs c
  refine (Cert.OutAttnRefIdeal.Read.val_main_v3_eq (F := Ideal) _ _ _).trans ?_
  rw [e0, e1, e2]
  refine funext fun i => ?_
  have hi : i = ix2 (n0 := 8192) (n1 := 2048) (i 0) (i 1) := by
    funext a
    match a with
    | ⟨0, _⟩ => rfl
    | ⟨1, _⟩ => rfl
  rw [hi]
  refine (Ref.lin_apply (argX m c) (argW m c) (argH m c) (i 0) (i 1)).trans ?_
  exact (G3_apply m c (i 0) (i 1)).symm

/-- The reference runs and leaves its arguments as they were. -/
theorem frame_ref : Cert.quiescent_OutAttnRefIdeal (hOutAttnRefIdeal := Cert.OutAttnRefIdeal.Gen.facts) := by
  intro m ρ _
  exact (θ_run Cert.OutAttnRefIdeal.defs _ _).mono
    (fun r h => ⟨fun c => (h c).2, sem_eq_zero_of_no_sems (by decide) r.2⟩) (Cert.OutAttnRefIdeal.Value.run (F := Ideal) m ρ)

section Frame

variable {F : FTy → Type} [FloatOps F]

local instance factsOne : Cert.OutAttn.Facts := Cert.OutAttn.Gen.facts
local instance factsTwo : Cert.OutAttnIdeal.Facts := Cert.OutAttnIdeal.Gen.facts

/-- The two instances of the program have the same bodies. -/
theorem bodies_eq : Cert.OutAttn.defs₀ (F := F) = Cert.OutAttnIdeal.defs₀ (F := F) := by
  unfold Cert.OutAttn.defs₀ Cert.OutAttnIdeal.defs₀
  refine congrArg Defs.onTc (funext fun x => funext fun a => ?_)
  match x, a with
  | ⟨0, _⟩, (t, s) => rfl
  | ⟨n + 1, h⟩, _ => exact absurd h (Nat.not_lt.2 (Nat.le_add_left _ _))

/-- The two instances of the program have the same definitions. -/
theorem defs_eq : Cert.OutAttn.defs (F := F) = Cert.OutAttnIdeal.defs (F := F) :=
  congrArg (Pipeline.defs Cert.OutAttn.pcfgs) bodies_eq

/-- The program runs on the machine's numbers and leaves its arguments as they were: the run is the one for any numbers. -/
theorem frame_bits : Cert.quiescent_OutAttn (hOutAttn := Cert.OutAttn.Gen.facts) := fun m ρ _ => by
  rw [defs_eq]
  exact Cert.OutAttnIdeal.Gen.frame m ρ

end Frame

end Cert.Proof.OutAttn

end
-- ==== Proof.ProjConv.Spec.lean ====
/-
  The delta rule's projection as one closed form: a product of the rows with the weights' columns; over the first 8192
  columns each row is then weighted with the three rows before it in its sequence, and passed through its activation.
-/
module

public import Idealize.ShloMosaic.Lib.Pointwise
public import Idealize.ShloMosaic.Lib.ValueIdx
public import Idealize.ShloMosaic.Lib.IdealHost

@[expose] public section

noncomputable section

namespace Cert.Proof.ProjConv

open Idealize.ShloMosaic Idealize.ShloMosaic.TcCoe

/-- A number times its logistic. -/
def silu (u : EReal) : EReal := u * Ideal.logistic u

/-- The product of a row and a column. -/
def prod {R W : ℕ} (x : (⟨2, ![R, 2048]⟩ : Shape).Idx → EReal) (w : (⟨3, ![1, 2048, W]⟩ : Shape).Idx → EReal) (r : Fin R) (y : Fin W) : EReal :=
  ∑ k : Fin 2048, x (ix2 r k) * w (ix3 0 k y)

section
variable (x : (⟨2, ![8192, 2048]⟩ : Shape).Idx → EReal) (w : (⟨3, ![1, 2048, 12352]⟩ : Shape).Idx → EReal)
  (cw : (⟨3, ![1, 4, 8192]⟩ : Shape).Idx → EReal)

/-- The product of the row `d` before a row of a sequence: zero before the sequence's start. -/
def tap (d : ℕ) (r : Fin 8192) (y : Fin 12352) : EReal :=
  if d ≤ r.val % 2048 then prod x w ⟨r.val - d, lt_of_le_of_lt (Nat.sub_le _ _) r.isLt⟩ y else 0

/-- The convolution of a row with the three rows before it. -/
def conv (r : Fin 8192) (y : Fin 8192) : EReal :=
  cw (ix3 0 3 y) * tap x w 0 r ⟨y.val, by omega⟩ + cw (ix3 0 2 y) * tap x w 1 r ⟨y.val, by omega⟩
    + cw (ix3 0 1 y) * tap x w 2 r ⟨y.val, by omega⟩ + cw (ix3 0 0 y) * tap x w 3 r ⟨y.val, by omega⟩

/-- One result entry. -/
def result (r : Fin 8192) (y : Fin 12288) : EReal :=
  if h : y.val < 8192 then silu (conv x w cw r ⟨y.val, h⟩) else prod x w r ⟨y.val, by omega⟩

end

end Cert.Proof.ProjConv

end
-- ==== Proof.ProjConv.Body.lean ====
/-
  What one grid point of the delta rule's projection writes, read at an index.

  A point holds 1024 rows of one sequence's half and 16 rows before them (set to zero at a sequence's start). A point of the
  first four column tiles multiplies all 1040 rows by 256 columns at a time and adds four products, shifted by up to three
  rows, with the convolution's weights; a point of the last two tiles stores the plain product.
-/
module

public import proofs.«01_k».proof.Defs
public import proofs.«01_k».proof.Proof.ProjConv.Spec
public import proofs.«01_k».proof.Proof.Gen.ProjConvIdeal.Value
public import Idealize.ShloMosaic.Lib.Pointwise
public import Idealize.ShloMosaic.Lib.ValueIdx
public import Idealize.ShloMosaic.Lib.IdealHost
public import Idealize.ShloMosaic.Lib.Pipeline.CanonAppend

@[expose] public section

set_option maxRecDepth 16384

noncomputable section

namespace Cert.Proof.ProjConv

open Idealize.ShloMosaic Idealize.SL.Sem Cert.ProjConvIdeal Cert.ProjConvIdeal.Gen Idealize.ShloMosaic.TcCoe

/-- The row `d` before a row of a point, of the 1040 rows that it holds. -/
def back (d : ℕ) (r : Fin 1024) : Fin 1040 := ⟨16 + r.val - d, by omega⟩

/-- The convolution of a row: the row's product and those of the three rows before it, weighted. -/
def taps {W : ℕ} (x : (⟨2, ![1040, 2048]⟩ : Shape).Idx → EReal) (w : (⟨3, ![1, 2048, W]⟩ : Shape).Idx → EReal)
    (cw : (⟨3, ![1, 4, W]⟩ : Shape).Idx → EReal) (r : Fin 1024) (y : Fin W) : EReal :=
  cw (ix3 0 3 y) * prod x w (back 0 r) y + cw (ix3 0 2 y) * prod x w (back 1 r) y
    + cw (ix3 0 1 y) * prod x w (back 2 r) y + cw (ix3 0 0 y) * prod x w (back 3 r) y

/-! ## One group of 256 columns -/

/-- The choice by the row within a group of eight. -/
theorem sel (d : ℕ) (hd : d < 8) (b : Fin 8) (u v : EReal) :
    Scalar.select (IntOp.cmpi .sge (BitVec.ofNat 32 b.val) (BitVec.ofNat 32 d)) u v = if d ≤ b.val then u else v := by
  have h : ∀ d : Fin 8, ∀ b : Fin 8, IntOp.cmpi .sge (BitVec.ofNat 32 b.val) (BitVec.ofNat 32 d.val) = if d.val ≤ b.val then 1#1 else 0#1 := by decide
  rw [h ⟨d, hd⟩ b]
  by_cases e : d ≤ b.val
  · rw [if_pos e, if_pos e]; rfl
  · rw [if_neg e, if_neg e]; rfl

variable (x : FVec Ideal S1040x2048 .bf16) (w : Vec Ideal S1x2048x256 .bf16) (cw : Vec Ideal S1x4x256 .f32)

/-- The product, its rows in groups of eight. -/
theorem pay15_apply (a : Fin 130) (b : Fin 8) (y : Fin 256) :
    k0_pay15 (F := Ideal) x w (ix3 a b y) = prod x w ⟨8 * a.val + b.val, by omega⟩ y := by
  pointwise [k0_pay15]
  unfold prod
  simp only [Nat.mul_comm 8]

/-- The rows of each group moved down by one, in a ring. -/
theorem rot_apply (v : FVec Ideal S130x8x256 .f32) (a : Fin 130) (b : Fin 8) (y : Fin 256) :
    dynamicRotate 1 1#32 none v rotates_S130x8x256_d1 (ix3 a b y) = v (ix3 a ⟨(b.val + 7) % 8, Nat.mod_lt _ (by decide)⟩ y) := by
  rw [Pointwise.dynamicRotate_apply]
  refine congrArg v ?_
  funext e
  match e with
  | ⟨0, _⟩ => rfl
  | ⟨1, _⟩ => rfl
  | ⟨2, _⟩ => rfl

/-- The rows of each group moved down by one. -/
theorem pay16_apply (a : Fin 130) (b : Fin 8) (y : Fin 256) :
    k0_pay16 (F := Ideal) x w (ix3 a b y) = k0_pay15 (F := Ideal) x w (ix3 a ⟨(b.val + 7) % 8, Nat.mod_lt _ (by decide)⟩ y) := by
  unfold k0_pay16
  exact rot_apply _ a b y

/-- The rows of each group moved down by two. -/
theorem pay17_apply (a : Fin 130) (b : Fin 8) (y : Fin 256) :
    k0_pay17 (F := Ideal) x w (ix3 a b y) = k0_pay16 (F := Ideal) x w (ix3 a ⟨(b.val + 7) % 8, Nat.mod_lt _ (by decide)⟩ y) := by
  unfold k0_pay17
  exact rot_apply _ a b y

/-- The first three terms, in groups of eight. -/
theorem pay18_apply (a : Fin 128) (b : Fin 8) (y : Fin 256) :
    k0_pay18 (F := Ideal) x w cw (ix3 a b y)
      = cw (ix3 0 3 y) * k0_pay15 (F := Ideal) x w (ix3 ⟨a.val + 2, by omega⟩ b y)
        + cw (ix3 0 2 y) * (if 1 ≤ b.val then k0_pay16 (F := Ideal) x w (ix3 ⟨a.val + 2, by omega⟩ b y) else k0_pay16 (F := Ideal) x w (ix3 ⟨a.val + 1, by omega⟩ b y))
        + cw (ix3 0 1 y) * (if 2 ≤ b.val then k0_pay17 (F := Ideal) x w (ix3 ⟨a.val + 2, by omega⟩ b y) else k0_pay17 (F := Ideal) x w (ix3 ⟨a.val + 1, by omega⟩ b y)) := by
  pointwise [k0_pay18, k0_pay14]
  simp only [show (1#32 : BitVec 32) = BitVec.ofNat 32 1 from rfl, show (2#32 : BitVec 32) = BitVec.ofNat 32 2 from rfl,
    sel 1 (by omega) b, sel 2 (by omega) b, Nat.add_comm]

/-- The group as written. -/
abbrev chunk : FVec Ideal S1024x256 .bf16 :=
  k0_pay19 (F := Ideal) (k0_pay14 cw) (iota .tc S128x8x256 32 [1] iota_S128x8x256_d1_w32) (k0_pay17 x w) (k0_pay18 x w cw)

/-- The last term and the activation, from what is there before them. -/
theorem pay19_apply (s : FVec Ideal S4x256 .f32) (u : FVec Ideal S130x8x256 .f32) (v : FVec Ideal S128x8x256 .f32) (r : Fin 1024) (y : Fin 256) :
    k0_pay19 (F := Ideal) s (iota .tc S128x8x256 32 [1] iota_S128x8x256_d1_w32) u v (ix2 r y)
      = silu (v (ix3 ⟨r.val / 8, by omega⟩ ⟨r.val % 8, Nat.mod_lt _ (by decide)⟩ y) + s (ix2 0 y) *
        (if 3 ≤ r.val % 8 then u (ix3 ⟨r.val / 8 + 2, by omega⟩ ⟨(r.val % 8 + 7) % 8, Nat.mod_lt _ (by decide)⟩ y)
          else u (ix3 ⟨r.val / 8 + 1, by omega⟩ ⟨(r.val % 8 + 7) % 8, Nat.mod_lt _ (by decide)⟩ y))) := by
  have h := sel 3 (by omega) ⟨r.val % 8, Nat.mod_lt _ (by decide)⟩
  pointwise [k0_pay19]
  simp only [show (3#32 : BitVec 32) = BitVec.ofNat 32 3 from rfl, h, Nat.add_comm, show ∀ n : ℕ, 8 + n - 1 = 7 + n from fun n => by omega]
  rfl

/-- The group as written: the convolution through its activation. -/
theorem chunk_apply (r : Fin 1024) (y : Fin 256) : chunk x w cw (ix2 r y) = silu (taps x w cw r y) := by
  have hr := r.isLt
  have e : ∀ (d : ℕ) (i j : Fin 1040), (d ≤ r.val % 8 → i.val = 16 + r.val - d) → (¬d ≤ r.val % 8 → j.val = 16 + r.val - d) →
      (if d ≤ r.val % 8 then prod x w i y else prod x w j y) = prod x w (back d r) y := by
    intro d i j hi hj
    by_cases h : d ≤ r.val % 8
    · rw [if_pos h, show i = back d r from Fin.ext (hi h)]
    · rw [if_neg h, show j = back d r from Fin.ext (hj h)]
  unfold chunk taps
  rw [pay19_apply, pay18_apply]
  simp only [pay17_apply, pay16_apply, pay15_apply]
  rw [e 1 _ _ (fun h => by show 8 * (r.val / 8 + 2) + (r.val % 8 + 7) % 8 = _; omega) (fun h => by show 8 * (r.val / 8 + 1) + (r.val % 8 + 7) % 8 = _; omega),
    e 2 _ _ (fun h => by show 8 * (r.val / 8 + 2) + ((r.val % 8 + 7) % 8 + 7) % 8 = _; omega) (fun h => by show 8 * (r.val / 8 + 1) + ((r.val % 8 + 7) % 8 + 7) % 8 = _; omega),
    e 3 _ _ (fun h => by show 8 * (r.val / 8 + 2) + (((r.val % 8 + 7) % 8 + 7) % 8 + 7) % 8 = _; omega) (fun h => by show 8 * (r.val / 8 + 1) + (((r.val % 8 + 7) % 8 + 7) % 8 + 7) % 8 = _; omega),
    show (⟨8 * (r.val / 8 + 2) + r.val % 8, by omega⟩ : Fin 1040) = back 0 r from Fin.ext (by show 8 * (r.val / 8 + 2) + r.val % 8 = 16 + r.val - 0; omega)]
  rw [show k0_pay14 (F := Ideal) cw (ix2 0 y) = cw (ix3 0 0 y) from by pointwise [k0_pay14]]

/-- The rows that a point multiplies: the 16 before its own, times the factor, and its own. -/
theorem xc_apply (q : Ideal .bf16) (h : Vec Ideal S16x2048 .bf16) (z : Vec Ideal S1024x2048 .bf16) (n : Fin 1040) (k : Fin 2048) :
    k0_pay4 (F := Ideal) q h z (ix2 n k) = (if h' : n.val < 16 then h (ix2 ⟨n.val, h'⟩ k) * q else z (ix2 ⟨n.val - 16, by omega⟩ k) : EReal) := by
  pointwise [k0_pay4]

/-- The word that says whether a row block starts a sequence. -/
def word (n : ℕ) : BitVec 1 :=
  Scalar.cmpi .eq
    (Scalar.select (Scalar.andi (Scalar.xori (Scalar.cmpi .slt (Scalar.remsi (BitVec.ofNat 32 n) (Scalar.select (Scalar.cmpi .eq 2#32 0#32) 1#32 2#32)) 0#32)
        (Scalar.cmpi .slt (Scalar.select (Scalar.cmpi .eq 2#32 0#32) 1#32 2#32) 0#32))
        (Scalar.cmpi .ne (Scalar.remsi (BitVec.ofNat 32 n) (Scalar.select (Scalar.cmpi .eq 2#32 0#32) 1#32 2#32)) 0#32))
      (Scalar.addi (Scalar.remsi (BitVec.ofNat 32 n) (Scalar.select (Scalar.cmpi .eq 2#32 0#32) 1#32 2#32)) (Scalar.select (Scalar.cmpi .eq 2#32 0#32) 1#32 2#32))
      (Scalar.remsi (BitVec.ofNat 32 n) (Scalar.select (Scalar.cmpi .eq 2#32 0#32) 1#32 2#32))) 0#32

/-- It is set for the first half of a sequence. -/
theorem word_eq : ∀ n : Fin 8, word n.val = if n.val % 2 = 0 then 1#1 else 0#1 := by decide +kernel

/-- The row block of a point. -/
theorem coord : ∀ t : Fin cfg0.N, ((grid0.coords t) 1).val = t.val % 8 := (by decide +kernel : ∀ t : Fin grid0.N, _)

/-- The factor of the rows before a point's, at a point. -/
theorem keep (t : Fin cfg0.N) : (k0_pay1 (F := Ideal) (grid0.coords t) : EReal) = if t.val % 2 = 0 then 0 else 1 := by
  show (Scalar.select (word ((grid0.coords t) 1).val) (Ideal.ofBits .f32 0x00000000#32) (Ideal.ofBits .f32 0x3F800000#32) : EReal) = _
  rw [coord t, word_eq ⟨t.val % 8, Nat.mod_lt _ (by decide)⟩, Ideal.ofBits_zero, Ideal.ofBits_one_f32]
  by_cases h : t.val % 2 = 0
  · rw [if_pos h, if_pos (by show t.val % 8 % 2 = 0; omega)]; rfl
  · rw [if_neg h, if_neg (by show ¬t.val % 8 % 2 = 0; omega)]; rfl

section Out
variable (c : Dev nD) (t : Fin cfg0.N) (x0 : Vec Ideal S1024x2048 .bf16) (x1 : Vec Ideal S16x2048 .bf16) (x2 : Vec Ideal S1x2048x2048 .bf16)
  (x3 : Vec Ideal S1x4x2048 .f32)

/-- What a point of the last column tiles leaves in the output block. -/
theorem outB (hc0 hc1) (r : Fin 1024) (y : Fin 2048) :
    out0_B_4 (F := Ideal) c (grid0.coords t) (ms0_0 t) (hs0_0 t) (ms0_1 t) (hs0_1 t) (ms0_2 t) (hs0_2 t) (ms0_3 t) (hs0_3 t)
      (ms0_4 t) (hs0_4 t) hc0 hc1 x0 x1 x2 x3 (ix2 r y) = prod x0 x2 r y := by
  unfold out0_B_4
  rw [View.read_writes_eq_canon _ _ _ (cover0_B_4 c (grid0.coords t) (ms0_0 t) (hs0_0 t) (ms0_1 t) (hs0_1 t) (ms0_2 t) (hs0_2 t) (ms0_3 t) (hs0_3 t)
      (ms0_4 t) (hs0_4 t) hc0 hc1 x0 x1 x2 x3)]
  unfold kernelRun0_B
  dsimp only
  sl_unfold_words
  simp only [View.readAt_eq_ld, (hs0_0 t).read_unread, (hs0_2 t).read_unread]
  have hz : (![0, 0] : Fin S1024x2048.rank → Nat) = fun _ => 0 := funext fun a => by fin_cases a <;> rfl
  have hz2 : (![0, 0, 0] : Fin S1x2048x2048.rank → Nat) = fun _ => 0 := funext fun a => by fin_cases a <;> rfl
  rw [View.canon_unit_zero hz, View.ld_unit_zero hz, View.ld_unit_zero hz2]
  pointwise [k0_pay3]
  rfl

/-- What the output block holds after a point of the first column tiles. -/
def goal (k : Ideal .bf16) : S1024x2048.Idx → EReal := fun i => silu (taps (k0_pay4 (F := Ideal) k x1 x0) x2 x3 (i 0) (i 1))

/-! Each of the eight groups of columns is the same computation, cut up differently. -/

section Groups

variable (k : Ideal .bf16) (x0 : Vec Ideal S1024x2048 .bf16) (x1 : Vec Ideal S16x2048 .bf16)
  (w : Vec Ideal S1x2048x256 .bf16) (cw : Vec Ideal S1x4x256 .f32)

/-- The first group. -/
theorem same_first : k0_pay13 (F := Ideal) (k0_pay5 cw) (k0_pay9 k x1 x0 w cw) (k0_pay10 k x1 x0 w) k0_pay11 (k0_pay12 k x1 x0 w) = chunk (k0_pay4 (F := Ideal) k x1 x0) w cw := rfl

/-- The third group. -/
theorem same_third : k0_pay28 (F := Ideal) (k0_pay20 cw) (iota Kind.tc S128x8x256 32 [1] iota_S128x8x256_d1_w32) (k0_pay23 (k0_pay4 (F := Ideal) k x1 x0) w cw) (k0_pay24 (k0_pay4 (F := Ideal) k x1 x0) w) k0_pay25 (k0_pay26 (k0_pay4 (F := Ideal) k x1 x0) w) (k0_pay27 (k0_pay4 (F := Ideal) k x1 x0) w) = chunk (k0_pay4 (F := Ideal) k x1 x0) w cw := rfl

/-- The fourth group. -/
theorem same_fourth : k0_pay33 (F := Ideal) (k0_pay29 cw) (iota Kind.tc S128x8x256 32 [1] iota_S128x8x256_d1_w32) (k0_pay31 (k0_pay4 (F := Ideal) k x1 x0) w) (k0_pay32 (k0_pay4 (F := Ideal) k x1 x0) w cw) 1#32 = chunk (k0_pay4 (F := Ideal) k x1 x0) w cw := rfl

/-- The fifth group. -/
theorem same_fifth : k0_pay39 (F := Ideal) (k0_pay34 cw) (iota Kind.tc S128x8x256 32 [1] iota_S128x8x256_d1_w32) (k0_pay36 (k0_pay4 (F := Ideal) k x1 x0) w cw) (k0_pay37 (k0_pay4 (F := Ideal) k x1 x0) w) (k0_pay38 (k0_pay4 (F := Ideal) k x1 x0) w) = chunk (k0_pay4 (F := Ideal) k x1 x0) w cw := rfl

/-- The sixth group. -/
theorem same_sixth : k0_pay44 (F := Ideal) (k0_pay40 cw) (iota Kind.tc S128x8x256 32 [1] iota_S128x8x256_d1_w32) (k0_pay42 (k0_pay4 (F := Ideal) k x1 x0) w cw) (k0_pay43 (k0_pay4 (F := Ideal) k x1 x0) w) = chunk (k0_pay4 (F := Ideal) k x1 x0) w cw := rfl

/-- The seventh group. -/
theorem same_seventh : k0_pay48 (F := Ideal) (k0_pay45 cw) (k0_pay46 (k0_pay4 (F := Ideal) k x1 x0) w) (iota Kind.tc S128x8x256 32 [1] iota_S128x8x256_d1_w32) (k0_pay47 cw) = chunk (k0_pay4 (F := Ideal) k x1 x0) w cw := rfl

/-- The eighth group. -/
theorem same_eighth : k0_pay2 (F := Ideal) (k0_pay50 (k0_pay49 (k0_pay4 (F := Ideal) k x1 x0) w) cw) = chunk (k0_pay4 (F := Ideal) k x1 x0) w cw := rfl

end Groups

/-- A group of columns lies inside the output block. -/
theorem inside (o : ℕ) (ho : o + 256 ≤ 2048) : ∀ a, (![0, o] : Fin 2 → ℕ) a + S1024x256.size a ≤ S1024x2048.size a := fun a =>
  match a with
  | ⟨0, _⟩ => by show 0 + 1024 ≤ 1024; omega
  | ⟨1, _⟩ => ho

/-- A group of columns lies inside the block of weights. -/
theorem inside_w (o : ℕ) (ho : o + 256 ≤ 2048) : ∀ a, (![0, 0, o] : Fin 3 → ℕ) a + S1x2048x256.size a ≤ S1x2048x2048.size a := fun a =>
  match a with
  | ⟨0, _⟩ => by show 0 + 1 ≤ 1; omega
  | ⟨1, _⟩ => by show 0 + 2048 ≤ 2048; omega
  | ⟨2, _⟩ => ho

/-- A group of columns lies inside the block of the convolution's coefficients. -/
theorem inside_c (o : ℕ) (ho : o + 256 ≤ 2048) : ∀ a, (![0, 0, o] : Fin 3 → ℕ) a + S1x4x256.size a ≤ S1x4x2048.size a := fun a =>
  match a with
  | ⟨0, _⟩ => by show 0 + 1 ≤ 1; omega
  | ⟨1, _⟩ => by show 0 + 4 ≤ 4; omega
  | ⟨2, _⟩ => ho

/-- A group of columns as stored is those columns of the block. -/
theorem piece (k : Ideal .bf16) (o : ℕ) (ho : o + 256 ≤ 2048)
    (i2 : ∀ a, (![0, 0, o] : Fin 3 → ℕ) a + S1x2048x256.size a ≤ S1x2048x2048.size a)
    (i3 : ∀ a, (![0, 0, o] : Fin 3 → ℕ) a + S1x4x256.size a ≤ S1x4x2048.size a)
    (i4 : ∀ a, (![0, o] : Fin 2 → ℕ) a + S1024x256.size a ≤ S1024x2048.size a) (z : S1024x256.Idx) :
    chunk (k0_pay4 (F := Ideal) k x1 x0) (View.ld x2 (Rect.unit ![0, 0, o] S1x2048x256.size i2)) (View.ld x3 (Rect.unit ![0, 0, o] S1x4x256.size i3)) z
      = goal x0 x1 x2 x3 k ((Rect.unit (s := S1024x2048) ![0, o] S1024x256.size i4).emb z) := by
  have hz0 : (z 0).val < 1024 := (z 0).isLt
  have hz1 : (z 1).val < 256 := (z 1).isLt
  have hz : z = ix2 (n0 := 1024) (n1 := 256) ⟨(z 0).val, hz0⟩ ⟨(z 1).val, hz1⟩ := by
    funext a
    match a with
    | ⟨0, _⟩ => rfl
    | ⟨1, _⟩ => rfl
  have hl2 : ∀ k : Fin 2048, View.ld x2 (Rect.unit ![0, 0, o] S1x2048x256.size i2) (ix3 0 k (⟨(z 1).val, hz1⟩ : Fin 256)) = x2 (ix3 0 k ⟨o + (z 1).val, by omega⟩) := fun k => by
    show x2 _ = x2 _
    refine congrArg x2 (funext fun a => ?_)
    match a with
    | ⟨0, _⟩ => rfl
    | ⟨1, _⟩ => exact Fin.ext (by show 0 + 1 * k.val = k.val; omega)
    | ⟨2, _⟩ => exact Fin.ext (by show o + 1 * (z 1).val = o + (z 1).val; omega)
  have hl3 : ∀ j : Fin 4, View.ld x3 (Rect.unit ![0, 0, o] S1x4x256.size i3) (ix3 0 j (⟨(z 1).val, hz1⟩ : Fin 256)) = x3 (ix3 0 j ⟨o + (z 1).val, by omega⟩) := fun j => by
    show x3 _ = x3 _
    refine congrArg x3 (funext fun a => ?_)
    match a with
    | ⟨0, _⟩ => rfl
    | ⟨1, _⟩ => exact Fin.ext (by show 0 + 1 * j.val = j.val; omega)
    | ⟨2, _⟩ => exact Fin.ext (by show o + 1 * (z 1).val = o + (z 1).val; omega)
  have g0 : ((Rect.unit (s := S1024x2048) ![0, o] S1024x256.size i4).emb z) 0 = (⟨(z 0).val, hz0⟩ : Fin 1024) := Fin.ext (by show 0 + 1 * (z 0).val = (z 0).val; omega)
  have g1 : ((Rect.unit (s := S1024x2048) ![0, o] S1024x256.size i4).emb z) 1 = (⟨o + (z 1).val, by omega⟩ : Fin 2048) := Fin.ext (by show o + 1 * (z 1).val = o + (z 1).val; omega)
  unfold goal
  rw [g0, g1]
  refine (congrArg _ hz).trans ((chunk_apply _ _ _ _ _).trans ?_)
  unfold taps prod
  simp only [hl2, hl3]

/-- What a point of the first column tiles leaves in the output block. -/
theorem outA (hc0 hc1) (r : Fin 1024) (y : Fin 2048) :
    out0_A_4 (F := Ideal) c (grid0.coords t) (ms0_0 t) (hs0_0 t) (ms0_1 t) (hs0_1 t) (ms0_2 t) (hs0_2 t) (ms0_3 t) (hs0_3 t)
      (ms0_4 t) (hs0_4 t) hc0 hc1 x0 x1 x2 x3 (ix2 r y)
      = silu (taps (k0_pay4 (F := Ideal) (k0_pay1 (grid0.coords t)) x1 x0) x2 x3 r y) := by
  have hz : (![0, 0] : Fin S1024x2048.rank → Nat) = fun _ => 0 := funext fun a => by fin_cases a <;> rfl
  have hz1 : (![0, 0] : Fin S16x2048.rank → Nat) = fun _ => 0 := funext fun a => by fin_cases a <;> rfl
  have hcov := cover0_A_4 c (grid0.coords t) (ms0_0 t) (hs0_0 t) (ms0_1 t) (hs0_1 t) (ms0_2 t) (hs0_2 t) (ms0_3 t) (hs0_3 t)
      (ms0_4 t) (hs0_4 t) hc0 hc1 x0 x1 x2 x3 (ix2 r y)
  unfold out0_A_4
  rw [View.read_writes_eq_canon _ _ _ (cover0_A_4 c (grid0.coords t) (ms0_0 t) (hs0_0 t) (ms0_1 t) (hs0_1 t) (ms0_2 t) (hs0_2 t) (ms0_3 t) (hs0_3 t)
      (ms0_4 t) (hs0_4 t) hc0 hc1 x0 x1 x2 x3)]
  refine (congrFun (congrArg View.canon (List.append_nil _).symm) _).trans
    (View.canon_append_of_pieces (goal x0 x1 x2 x3 (k0_pay1 (grid0.coords t))) [] _ ?_ _ hcov)
  unfold kernelRun0_A
  dsimp only
  sl_unfold_words
  simp only [View.readAt_eq_ld, (hs0_0 t).read_unread, (hs0_1 t).read_unread, (hs0_2 t).read_unread, (hs0_3 t).read_unread]
  rw [View.ld_unit_zero hz, View.ld_unit_zero hz1]
  intro p hp
  simp only [List.mem_cons, List.not_mem_nil, or_false] at hp
  rcases hp with rfl | rfl | rfl | rfl | rfl | rfl | rfl | rfl
  · intro z
    refine (congrFun (same_eighth _ x0 x1 _ _) z).trans ?_
    exact (piece x0 x1 x2 x3 _ 1792 (by omega) (inside_w 1792 (by omega)) (inside_c 1792 (by omega)) (inside 1792 (by omega)) z)
  · intro z
    refine (congrFun (same_seventh _ x0 x1 _ _) z).trans ?_
    exact (piece x0 x1 x2 x3 _ 1536 (by omega) (inside_w 1536 (by omega)) (inside_c 1536 (by omega)) (inside 1536 (by omega)) z)
  · intro z
    refine (congrFun (same_sixth _ x0 x1 _ _) z).trans ?_
    exact (piece x0 x1 x2 x3 _ 1280 (by omega) (inside_w 1280 (by omega)) (inside_c 1280 (by omega)) (inside 1280 (by omega)) z)
  · intro z
    refine (congrFun (same_fifth _ x0 x1 _ _) z).trans ?_
    exact (piece x0 x1 x2 x3 _ 1024 (by omega) (inside_w 1024 (by omega)) (inside_c 1024 (by omega)) (inside 1024 (by omega)) z)
  · intro z
    refine (congrFun (same_fourth _ x0 x1 _ _) z).trans ?_
    exact (piece x0 x1 x2 x3 _ 768 (by omega) (inside_w 768 (by omega)) (inside_c 768 (by omega)) (inside 768 (by omega)) z)
  · intro z
    refine (congrFun (same_third _ x0 x1 _ _) z).trans ?_
    exact (piece x0 x1 x2 x3 _ 512 (by omega) (inside_w 512 (by omega)) (inside_c 512 (by omega)) (inside 512 (by omega)) z)
  · intro z
    exact (piece x0 x1 x2 x3 _ 256 (by omega) (inside_w 256 (by omega)) (inside_c 256 (by omega)) (inside 256 (by omega)) z)
  · intro z
    refine (congrFun (same_first _ x0 x1 _ _) z).trans ?_
    exact (piece x0 x1 x2 x3 _ 0 (by omega) (inside_w 0 (by omega)) (inside_c 0 (by omega)) (inside 0 (by omega)) z)

end Out

end Cert.Proof.ProjConv

end
-- ==== Proof.ProjConv.Array.lean ====
/-
  The result array of the delta rule's projection.

  A grid point's blocks are read as entries of the arguments; what the point writes is then `result` on its block, and the
  blocks tile the array.
-/
module

public import proofs.«01_k».proof.Defs
public import proofs.«01_k».proof.Proof.ProjConv.Spec
public import proofs.«01_k».proof.Proof.ProjConv.Body
public import proofs.«01_k».proof.Proof.Gen.ProjConvIdeal.Value
public import Idealize.ShloMosaic.Lib.Pointwise
public import Idealize.ShloMosaic.Lib.ValueIdx
public import Idealize.ShloMosaic.Lib.IdealHost
public import Idealize.ShloMosaic.Lib.StableHlo.Run

@[expose] public section

set_option maxRecDepth 16384

noncomputable section

namespace Cert.Proof.ProjConv

open Idealize.ShloMosaic Idealize.SL.Sem Cert.ProjConvIdeal Cert.ProjConvIdeal.Gen Cert.ProjConvIdeal.Value Idealize.ShloMosaic.TcCoe

variable (m : (ℓ : Loc nD τ sig) → Buf (Elt Ideal) ℓ) (c : Dev nD)

/-- The rows. -/
abbrev argX : (⟨2, ![8192, 2048]⟩ : Shape).Idx → EReal := m ((c.tc : Thread nD τ).loc main_arg0)
/-- The weights. -/
abbrev argW : (⟨3, ![1, 2048, 12352]⟩ : Shape).Idx → EReal := m ((c.tc : Thread nD τ).loc main_arg1)
/-- The convolution's weights. -/
abbrev argC : (⟨3, ![1, 4, 8192]⟩ : Shape).Idx → EReal := m ((c.tc : Thread nD τ).loc main_arg2)

/-- Each point's rows. -/
theorem idx0 : ∀ t : Fin cfg0.N, win0_0.index t (0 : Fin 2) = t.val % 8 ∧ win0_0.index t (1 : Fin 2) = 0 :=
  (by decide +kernel : ∀ t : Fin grid0.N, _)
/-- The rows before each point's. -/
theorem idx1 : ∀ t : Fin cfg0.N, win0_1.index t (0 : Fin 2) = t.val % 8 * 64 - 1 ∧ win0_1.index t (1 : Fin 2) = 0 :=
  (by decide +kernel : ∀ t : Fin grid0.N, _)
/-- Each point's columns of the weights. -/
theorem idx2 : ∀ t : Fin cfg0.N, win0_2.index t (0 : Fin 3) = 0 ∧ win0_2.index t (1 : Fin 3) = 0 ∧ win0_2.index t (2 : Fin 3) = t.val / 8 :=
  (by decide +kernel : ∀ t : Fin grid0.N, _)
/-- Each point's columns of the convolution's weights. -/
theorem idx3 : ∀ t : Fin cfg0.N, win0_3.index t (0 : Fin 3) = 0 ∧ win0_3.index t (1 : Fin 3) = 0 ∧ win0_3.index t (2 : Fin 3) = min (t.val / 8) 3 :=
  (by decide +kernel : ∀ t : Fin grid0.N, _)
/-- Each point's block of the result. -/
theorem idx4 : ∀ t : Fin cfg0.N, win0_4.index t (0 : Fin 2) = t.val % 8 ∧ win0_4.index t (1 : Fin 2) = t.val / 8 :=
  (by decide +kernel : ∀ t : Fin grid0.N, _)

/-- The weights when the grid is entered. -/
theorem w_eq : V m c main_v0 = (argW m c : FVec Ideal S1x2048x12352 .f32) := by
  unfold V hostOps0
  after_results
  rfl

/-- An entry of a point's rows. -/
theorem iblk0 (t : Fin cfg0.N) (r : Fin 1024) (k : Fin 2048) (R : Fin 8192) (hR : R.val = t.val % 8 * 1024 + r.val) :
    iblk m c 0 t (ix2 r k) = argX m c (ix2 R k) := by
  obtain ⟨e0, e1⟩ := idx0 t
  unfold iblk
  show V m c main_arg0 (((cfg0.win 0).blk t).view.emb (ix2 r k)) = _
  rw [V_main_arg0]
  refine congrArg (argX m c) ?_
  have hb0 : (((cfg0.win 0).blk t).view.emb (ix2 r k) 0).val = win0_0.index t (0 : Fin 2) * 1024 + 1 * r.val := rfl
  have hb1 : (((cfg0.win 0).blk t).view.emb (ix2 r k) 1).val = win0_0.index t (1 : Fin 2) * 2048 + 1 * k.val := rfl
  rw [e0] at hb0
  rw [e1] at hb1
  funext b
  match b with
  | ⟨0, _⟩ => exact Fin.ext (hb0.trans (by show _ = R.val; omega))
  | ⟨1, _⟩ => exact Fin.ext (hb1.trans (by show _ = k.val; omega))

/-- An entry of the rows before a point's. -/
theorem iblk1 (t : Fin cfg0.N) (r : Fin 16) (k : Fin 2048) (R : Fin 8192) (hR : R.val = (t.val % 8 * 64 - 1) * 16 + r.val) :
    iblk m c 1 t (ix2 r k) = argX m c (ix2 R k) := by
  obtain ⟨e0, e1⟩ := idx1 t
  unfold iblk
  show V m c main_arg0 (((cfg0.win 1).blk t).view.emb (ix2 r k)) = _
  rw [V_main_arg0]
  refine congrArg (argX m c) ?_
  have hb0 : (((cfg0.win 1).blk t).view.emb (ix2 r k) 0).val = win0_1.index t (0 : Fin 2) * 16 + 1 * r.val := rfl
  have hb1 : (((cfg0.win 1).blk t).view.emb (ix2 r k) 1).val = win0_1.index t (1 : Fin 2) * 2048 + 1 * k.val := rfl
  rw [e0] at hb0
  rw [e1] at hb1
  funext b
  match b with
  | ⟨0, _⟩ => exact Fin.ext (hb0.trans (by show _ = R.val; omega))
  | ⟨1, _⟩ => exact Fin.ext (hb1.trans (by show _ = k.val; omega))

/-- An entry of a point's columns of the weights. -/
theorem iblk2 (t : Fin cfg0.N) (k : Fin 2048) (y : Fin 2048) (Y : Fin 12352) (hY : Y.val = t.val / 8 * 2048 + y.val) :
    X0_2 m c t (ix3 0 k y) = argW m c (ix3 0 k Y) := by
  obtain ⟨e0, e1, e2⟩ := idx2 t
  unfold X0_2 Pipeline.Window.fill
  rw [dif_pos (moved0_2 t _)]
  generalize hj : (fun a => _ : ((cfg0.win 2).xblock (grid0.coords t)).Idx) = j
  have j0 : (j 0).val = 0 := by rw [← hj]; rfl
  have j1 : (j 1).val = k.val := by rw [← hj]; rfl
  have j2 : (j 2).val = y.val := by rw [← hj]; rfl
  unfold iblk
  show V m c main_v0 (((cfg0.win 2).blk t).view.emb j) = _
  rw [w_eq]
  refine congrArg (argW m c) ?_
  have hb0 : (((cfg0.win 2).blk t).view.emb j 0).val = win0_2.index t (0 : Fin 3) * 1 + 1 * (j 0).val := rfl
  have hb1 : (((cfg0.win 2).blk t).view.emb j 1).val = win0_2.index t (1 : Fin 3) * 2048 + 1 * (j 1).val := rfl
  have hb2 : (((cfg0.win 2).blk t).view.emb j 2).val = win0_2.index t (2 : Fin 3) * 2048 + 1 * (j 2).val := rfl
  rw [e0, j0] at hb0
  rw [e1, j1] at hb1
  rw [e2, j2] at hb2
  funext b
  match b with
  | ⟨0, _⟩ => exact Fin.ext (hb0.trans rfl)
  | ⟨1, _⟩ => exact Fin.ext (hb1.trans (by show _ = k.val; omega))
  | ⟨2, _⟩ => exact Fin.ext (hb2.trans (by show _ = Y.val; omega))

/-- An entry of a point's columns of the convolution's weights. -/
theorem iblk3 (t : Fin cfg0.N) (ht : t.val < 32) (j : Fin 4) (y : Fin 2048) (Y : Fin 8192) (hY : Y.val = t.val / 8 * 2048 + y.val) :
    iblk m c 3 t (ix3 0 j y) = argC m c (ix3 0 j Y) := by
  obtain ⟨e0, e1, e2⟩ := idx3 t
  unfold iblk
  show V m c main_arg2 (((cfg0.win 3).blk t).view.emb (ix3 0 j y)) = _
  rw [V_main_arg2]
  refine congrArg (argC m c) ?_
  have hb0 : (((cfg0.win 3).blk t).view.emb (ix3 0 j y) 0).val = win0_3.index t (0 : Fin 3) * 1 + 1 * 0 := rfl
  have hb1 : (((cfg0.win 3).blk t).view.emb (ix3 0 j y) 1).val = win0_3.index t (1 : Fin 3) * 4 + 1 * j.val := rfl
  have hb2 : (((cfg0.win 3).blk t).view.emb (ix3 0 j y) 2).val = win0_3.index t (2 : Fin 3) * 2048 + 1 * y.val := rfl
  rw [e0] at hb0
  rw [e1] at hb1
  rw [e2] at hb2
  funext b
  match b with
  | ⟨0, _⟩ => exact Fin.ext (hb0.trans rfl)
  | ⟨1, _⟩ => exact Fin.ext (hb1.trans (by show _ = j.val; omega))
  | ⟨2, _⟩ => exact Fin.ext (hb2.trans (by show _ = Y.val; omega))

/-- The product of the row `d` before a point's row. -/
theorem tap_eq (t : Fin cfg0.N) (d : ℕ) (hd : d ≤ 3) (r : Fin 1024) (R : Fin 8192) (hR : R.val = t.val % 8 * 1024 + r.val)
    (y : Fin 2048) (Y : Fin 12352) (hY : Y.val = t.val / 8 * 2048 + y.val) :
    prod (k0_pay4 (F := Ideal) (k0_pay1 (grid0.coords t)) (iblk m c 1 t) (iblk m c 0 t)) (X0_2 m c t) (back d r) y
      = tap (argX m c) (argW m c) d R Y := by
  have hr := r.isLt
  have hb : (back d r).val = 16 + r.val - d := rfl
  unfold prod tap
  by_cases h : d ≤ R.val % 2048
  · rw [if_pos h]
    unfold prod
    refine Finset.sum_congr rfl fun k _ => ?_
    rw [iblk2 m c t k y Y hY, xc_apply]
    refine congrArg (· * argW m c (ix3 0 k Y)) ?_
    by_cases h' : (back d r).val < 16
    · rw [dif_pos h', keep, if_neg (by omega), mul_one]
      exact iblk1 m c t _ k _ (by show R.val - d = (t.val % 8 * 64 - 1) * 16 + (16 + r.val - d); omega)
    · rw [dif_neg h']
      exact iblk0 m c t _ k _ (by show R.val - d = t.val % 8 * 1024 + (16 + r.val - d - 16); omega)
  · rw [if_neg h]
    refine Finset.sum_eq_zero fun k _ => ?_
    rw [xc_apply, dif_pos (by omega), keep, if_pos (by omega), mul_zero, zero_mul]

/-- What a point writes, at a row and a column of its block. -/
theorem point (t : Fin cfg0.N) (r : Fin 1024) (y : Fin 2048) (R : Fin 8192) (Y : Fin 12288)
    (hR : R.val = t.val % 8 * 1024 + r.val) (hY : Y.val = t.val / 8 * 2048 + y.val) :
    outsAt0 m c t.val t.isLt (ix2 r y) = result (argX m c) (argW m c) (argC m c) R Y := by
  have hy := y.isLt
  unfold result
  by_cases h : t.val < 32
  · rw [outsAt0_A m c t h (by omega), dif_pos (by omega)]
    refine (outA c t _ _ _ _ _ _ r y).trans ?_
    unfold taps conv
    rw [tap_eq m c t 0 (by omega) r R hR y ⟨Y.val, by omega⟩ hY, tap_eq m c t 1 (by omega) r R hR y ⟨Y.val, by omega⟩ hY,
      tap_eq m c t 2 (by omega) r R hR y ⟨Y.val, by omega⟩ hY, tap_eq m c t 3 (by omega) r R hR y ⟨Y.val, by omega⟩ hY,
      iblk3 m c t h 0 y ⟨Y.val, by omega⟩ hY, iblk3 m c t h 1 y ⟨Y.val, by omega⟩ hY, iblk3 m c t h 2 y ⟨Y.val, by omega⟩ hY,
      iblk3 m c t h 3 y ⟨Y.val, by omega⟩ hY]
  · rw [outsAt0_B m c t h (by omega), dif_neg (by omega)]
    refine (outB c t _ _ _ _ _ _ r y).trans ?_
    unfold prod
    refine Finset.sum_congr rfl fun k _ => ?_
    rw [iblk0 m c t r k R hR, iblk2 m c t k y ⟨Y.val, by omega⟩ hY]

/-- The result array. -/
def out4 : Buf (Elt Ideal) ((c : Thread nD τ).loc main_v1) := fun i => result (argX m c) (argW m c) (argC m c) (i 0) (i 1)

/-- The point that writes back the block of an entry. -/
abbrev ptOf (i : S8192x12288.Idx) : Fin cfg0.N :=
  ⟨(i 1).val / 2048 * 8 + (i 0).val / 1024, lt_of_lt_of_eq (b := 48)
    (by have h0 : (i 0).val < 8192 := (i 0).isLt; have h1 : (i 1).val < 12288 := (i 1).isLt; omega) N_0.symm⟩

/-- Each point writes back its block of the result array. -/
theorem flushed (t : Fin cfg0.N) : (dats m 0 c).flushed 4 t = ((cfg0.win 4).blk t).view.read (Elt Ideal) (out4 m c) := by
  rw [flushed4]
  have hN : t.val < 48 := lt_of_lt_of_eq t.isLt N_0
  obtain ⟨e0, e1⟩ := idx4 t
  funext i
  have hi0 : (i 0).val < 1024 := (i 0).isLt
  have hi1 : (i 1).val < 2048 := (i 1).isLt
  have hb0 : (((cfg0.win 4).blk t).view.emb i 0).val = win0_4.index t (0 : Fin 2) * 1024 + 1 * (i 0).val := rfl
  have hb1 : (((cfg0.win 4).blk t).view.emb i 1).val = win0_4.index t (1 : Fin 2) * 2048 + 1 * (i 1).val := rfl
  have hi : (cfg0.win 4).xinj (grid0.coords t) i = ix2 (n0 := 1024) (n1 := 2048) ⟨(i 0).val, hi0⟩ ⟨(i 1).val, hi1⟩ := by
    funext a
    match a with
    | ⟨0, _⟩ => rfl
    | ⟨1, _⟩ => rfl
  show outsAt0 m c t.val t.isLt ((cfg0.win 4).xinj (grid0.coords t) i) = out4 m c (((cfg0.win 4).blk t).view.emb i)
  rw [hi]
  unfold out4
  exact point m c t _ _ _ _ (by rw [hb0, e0]; show _ = t.val % 8 * 1024 + (i 0).val; omega)
    (by rw [hb1, e1]; show _ = t.val / 8 * 2048 + (i 1).val; omega)

/-- Every index of the result array lies in a block written back. -/
theorem covered (i : S8192x12288.Idx) : ∃ t : Fin cfg0.N, (cfg0.win 4).flush t = true ∧ i ∈ ((cfg0.win 4).blk t).view.set := by
  have hi0 : (i 0).val < 8192 := (i 0).isLt
  have hi1 : (i 1).val < 12288 := (i 1).isLt
  have hv : (ptOf i).val = (i 1).val / 2048 * 8 + (i 0).val / 1024 := rfl
  refine ⟨ptOf i, flush0_4 _, ?_⟩
  obtain ⟨e0, e1⟩ := idx4 (ptOf i)
  show i ∈ ((View.whole main_v1).slice (win0_4.rect (ptOf i))).set
  rw [View.set_slice_whole, Rect.mem_set_unit]
  intro a
  match a with
  | ⟨0, _⟩ =>
    show win0_4.index (ptOf i) (0 : Fin 2) * 1024 ≤ (i 0).val ∧ (i 0).val < win0_4.index (ptOf i) (0 : Fin 2) * 1024 + 1024
    rw [e0, hv]; omega
  | ⟨1, _⟩ =>
    show win0_4.index (ptOf i) (1 : Fin 2) * 2048 ≤ (i 1).val ∧ (i 1).val < win0_4.index (ptOf i) (1 : Fin 2) * 2048 + 2048
    rw [e1, hv]; omega

/-- What the result array holds in the end. -/
theorem final : (dats m 0 c).arrAt 4 cfg0.N = out4 m c :=
  (dats m 0 c).arrAt_eq_of_cover 4 _ (fun t _ => flushed m c t) (fun i => covered i)

end Cert.Proof.ProjConv

end
-- ==== Proof.ProjConv.Ref.lean ====
/-
  The reference of the delta rule's projection, read at an index: the product, and over its first 8192 columns the
  convolution of the last four rows of a sequence with its activation.
-/
module

public import proofs.«01_k».proof.Defs
public import proofs.«01_k».proof.Proof.ProjConv.Spec
public import proofs.«01_k».proof.Proof.Gen.ProjConvRefIdeal.Read
public import Idealize.ShloMosaic.Lib.Pointwise
public import Idealize.ShloMosaic.Lib.ValueIdx
public import Idealize.ShloMosaic.Lib.IdealHost
public import Idealize.ShloMosaic.Lib.KernelVsHost

@[expose] public section

set_option maxRecDepth 16384

noncomputable section

namespace Cert.Proof.ProjConv.Ref

open Idealize.ShloMosaic Idealize.SL.Sem Cert.ProjConvRefIdeal Cert.ProjConvRefIdeal.Gen Cert.ProjConvRefIdeal.Value Cert.ProjConvRefIdeal.Read Idealize.ShloMosaic.TcCoe

variable (x : (⟨2, ![8192, 2048]⟩ : Shape).Idx → EReal) (w : (⟨3, ![1, 2048, 12352]⟩ : Shape).Idx → EReal)
  (cw : (⟨3, ![1, 4, 8192]⟩ : Shape).Idx → EReal)

/-- The product of a row and a column. -/
theorem dot_apply (r : Fin 8192) (y : Fin 12352) : val_main_v2 (F := Ideal) x w (ix2 r y) = prod x w r y := by
  have hy := y.isLt
  rw [val_main_v2_apply]
  unfold prod
  refine Finset.sum_congr rfl fun k _ => ?_
  have hk := k.isLt
  have el : lidx_main_v2 (ix2 r y) k = ix2 r k := by
    funext a
    match a with
    | ⟨0, _⟩ => rfl
    | ⟨1, _⟩ => rfl
  have er : idx_main_v1 (ridx_main_v2 (ix2 r y) k) = ix3 0 k y := by
    funext a
    match a with
    | ⟨0, _⟩ => rfl
    | ⟨1, _⟩ => refine Fin.ext ?_; show (k.val * 12352 + y.val) / 12352 % 2048 = k.val; omega
    | ⟨2, _⟩ => refine Fin.ext ?_; show (k.val * 12352 + y.val) % 12352 = y.val; omega
  rw [val_main_v1_apply, er, el]
  rfl

/-- The row `d` before row `r` of a sequence, zero before the sequence's start. -/
theorem pad_apply (d : ℕ) (hd : d ≤ 3) (r : Fin 8192) (y : Fin 8192) :
    val_main_v7 (F := Ideal) x w (ix3 ⟨r.val / 2048, by omega⟩ ⟨r.val % 2048 + (3 - d), by omega⟩ y) = tap x w d r ⟨y.val, by omega⟩ := by
  have hy := y.isLt
  have hr := r.isLt
  unfold val_main_v7 tap
  by_cases h : d ≤ r.val % 2048
  · rw [if_pos h, pad_apply_of_inside _ _ _ _ _ _ _ _ (ix3 (n0 := 4) (n1 := 2048) (n2 := 8192) ⟨r.val / 2048, by omega⟩ ⟨r.val % 2048 - d, by omega⟩ y)
      (fun a => match a with
        | ⟨0, _⟩ => by show r.val / 2048 = 0 + r.val / 2048 * (0 + 1); omega
        | ⟨1, _⟩ => by show r.val % 2048 + (3 - d) = 3 + (r.val % 2048 - d) * (0 + 1); omega
        | ⟨2, _⟩ => by show y.val = 0 + y.val * (0 + 1); omega)]
    rw [val_main_v4_apply, val_main_v3_apply, ← dot_apply]
    refine congrArg _ ?_
    funext a
    match a with
    | ⟨0, _⟩ => refine Fin.ext ?_; show ((r.val / 2048 * 2048 + (r.val % 2048 - d)) * 8192 + y.val) / 8192 = r.val - d; omega
    | ⟨1, _⟩ => refine Fin.ext ?_; show ((r.val / 2048 * 2048 + (r.val % 2048 - d)) * 8192 + y.val) % 8192 = y.val; omega
  · rw [if_neg h, pad_apply_of_not_inside _ _ _ _ _ _ _ _ (1 : Fin 3)
      (by
        rintro ⟨h1, -⟩
        have h2 : 3 ≤ r.val % 2048 + (3 - d) := h1
        omega)]
    show (((0#32 : BitVec 32).toInt : ℝ) : EReal) = 0
    simp

/-- The convolution's weights, spread over the rows: the oldest row's. -/
theorem w0_apply (b : Fin 4) (s : Fin 2048) (y : Fin 8192) : val_main_v12 (F := Ideal) cw (ix3 b s y) = cw (ix3 0 0 y) := by
  have hy := y.isLt
  rw [val_main_v12_apply, val_main_v11_apply, val_main_v9_apply, val_main_v8_apply, val_main_v6_apply]
  refine congrArg cw (funext fun a => ?_)
  match a with
  | ⟨0, _⟩ => rfl
  | ⟨1, _⟩ => refine Fin.ext ?_; show (0 * 8192 + y.val % 8192) / 8192 % 4 = 0; omega
  | ⟨2, _⟩ => refine Fin.ext ?_; show (0 * 8192 + y.val % 8192) % 8192 = y.val; omega
/-- The next row's. -/
theorem w1_apply (b : Fin 4) (s : Fin 2048) (y : Fin 8192) : val_main_v20 (F := Ideal) cw (ix3 b s y) = cw (ix3 0 1 y) := by
  have hy := y.isLt
  rw [val_main_v20_apply, val_main_v19_apply, val_main_v17_apply, val_main_v16_apply, val_main_v6_apply]
  refine congrArg cw (funext fun a => ?_)
  match a with
  | ⟨0, _⟩ => rfl
  | ⟨1, _⟩ => refine Fin.ext ?_; show ((1 + 0) * 8192 + y.val % 8192) / 8192 % 4 = 1; omega
  | ⟨2, _⟩ => refine Fin.ext ?_; show ((1 + 0) * 8192 + y.val % 8192) % 8192 = y.val; omega
/-- The row before's. -/
theorem w2_apply (b : Fin 4) (s : Fin 2048) (y : Fin 8192) : val_main_v27 (F := Ideal) cw (ix3 b s y) = cw (ix3 0 2 y) := by
  have hy := y.isLt
  rw [val_main_v27_apply, val_main_v26_apply, val_main_v24_apply, val_main_v23_apply, val_main_v6_apply]
  refine congrArg cw (funext fun a => ?_)
  match a with
  | ⟨0, _⟩ => rfl
  | ⟨1, _⟩ => refine Fin.ext ?_; show ((2 + 0) * 8192 + y.val % 8192) / 8192 % 4 = 2; omega
  | ⟨2, _⟩ => refine Fin.ext ?_; show ((2 + 0) * 8192 + y.val % 8192) % 8192 = y.val; omega
/-- The row's own. -/
theorem w3_apply (b : Fin 4) (s : Fin 2048) (y : Fin 8192) : val_main_v34 (F := Ideal) cw (ix3 b s y) = cw (ix3 0 3 y) := by
  have hy := y.isLt
  rw [val_main_v34_apply, val_main_v33_apply, val_main_v31_apply, val_main_v30_apply, val_main_v6_apply]
  refine congrArg cw (funext fun a => ?_)
  match a with
  | ⟨0, _⟩ => rfl
  | ⟨1, _⟩ => refine Fin.ext ?_; show ((3 + 0) * 8192 + y.val % 8192) / 8192 % 4 = 3; omega
  | ⟨2, _⟩ => refine Fin.ext ?_; show ((3 + 0) * 8192 + y.val % 8192) % 8192 = y.val; omega

/-- The convolution. -/
theorem conv_apply (r : Fin 8192) (y : Fin 8192) :
    val_main_v36 (F := Ideal) x w cw (ix3 ⟨r.val / 2048, by omega⟩ ⟨r.val % 2048, by omega⟩ y) = conv x w cw r y := by
  have z : ∀ i, val_main_cst (F := Ideal) i = (0 : EReal) := fun _ => Ideal.ofBits_zero .f32
  rw [val_main_v36_apply, val_main_v29_apply, val_main_v22_apply, val_main_v15_apply, val_main_v14_apply, z,
    val_main_v13_apply, val_main_v21_apply, val_main_v28_apply, val_main_v35_apply, w0_apply, w1_apply, w2_apply, w3_apply,
    val_main_v10_apply, val_main_v18_apply, val_main_v25_apply, val_main_v32_apply]
  have e0 : idx_main_v10 (ix3 (⟨r.val / 2048, by omega⟩ : Fin 4) (⟨r.val % 2048, by omega⟩ : Fin 2048) y) = ix3 ⟨r.val / 2048, by omega⟩ ⟨r.val % 2048 + (3 - 3), by omega⟩ y := by
    funext a
    match a with
    | ⟨0, _⟩ => rfl
    | ⟨1, _⟩ => rfl
    | ⟨2, _⟩ => rfl
  have e1 : idx_main_v18 (ix3 (⟨r.val / 2048, by omega⟩ : Fin 4) (⟨r.val % 2048, by omega⟩ : Fin 2048) y) = ix3 ⟨r.val / 2048, by omega⟩ ⟨r.val % 2048 + (3 - 2), by omega⟩ y := by
    funext a
    match a with
    | ⟨0, _⟩ => rfl
    | ⟨1, _⟩ => exact Fin.ext (Nat.add_comm _ _)
    | ⟨2, _⟩ => rfl
  have e2 : idx_main_v25 (ix3 (⟨r.val / 2048, by omega⟩ : Fin 4) (⟨r.val % 2048, by omega⟩ : Fin 2048) y) = ix3 ⟨r.val / 2048, by omega⟩ ⟨r.val % 2048 + (3 - 1), by omega⟩ y := by
    funext a
    match a with
    | ⟨0, _⟩ => rfl
    | ⟨1, _⟩ => exact Fin.ext (Nat.add_comm _ _)
    | ⟨2, _⟩ => rfl
  have e3 : idx_main_v32 (ix3 (⟨r.val / 2048, by omega⟩ : Fin 4) (⟨r.val % 2048, by omega⟩ : Fin 2048) y) = ix3 ⟨r.val / 2048, by omega⟩ ⟨r.val % 2048 + (3 - 0), by omega⟩ y := by
    funext a
    match a with
    | ⟨0, _⟩ => rfl
    | ⟨1, _⟩ => exact Fin.ext (Nat.add_comm _ _)
    | ⟨2, _⟩ => rfl
  rw [e0, e1, e2, e3, pad_apply x w 3 (by omega) r y, pad_apply x w 2 (by omega) r y, pad_apply x w 1 (by omega) r y, pad_apply x w 0 (by omega) r y]
  unfold conv
  have ac : ∀ a b c d : EReal, 0 + a + b + c + d = d + c + b + a := fun a b c d => by
    rw [zero_add, add_comm _ d, add_comm _ c, add_comm a b, ← add_assoc, ← add_assoc]
  exact ac _ _ _ _

/-- The host constant one. -/
theorem one_word : (FloatOps.ofBits (F := Ideal) .f32 0x3F800000#32 : EReal) = 1 := Ideal.ofBits_one_f32

/-- The reference's result. -/
theorem result_apply (r : Fin 8192) (y : Fin 12288) : val_main_v40 (F := Ideal) x w cw (ix2 r y) = result x w cw r y := by
  have hy := y.isLt
  have hr := r.isLt
  rw [val_main_v40_apply]
  show val_main_v39 (F := Ideal) x w cw (ix2 r y) = _
  unfold val_main_v39 result
  by_cases h : y.val < 8192
  · rw [dif_pos h, concatenate_pair_apply_left (t := S8192x12288) (s₁ := S8192x8192) (s₂ := S8192x4096) (1 : Fin 2) _ _ _ _ rfl (ix2 r (⟨y.val, h⟩ : Fin 8192))
      (fun b => match b with
        | ⟨0, _⟩ => rfl
        | ⟨1, _⟩ => rfl)]
    have e : idx_main_v38 (ix2 r (⟨y.val, h⟩ : Fin 8192)) = ix3 ⟨r.val / 2048, by omega⟩ ⟨r.val % 2048, by omega⟩ (⟨y.val, h⟩ : Fin 8192) := by
      funext a
      match a with
      | ⟨0, _⟩ => refine Fin.ext ?_; show (r.val * 8192 + y.val) / 16777216 = r.val / 2048; omega
      | ⟨1, _⟩ => refine Fin.ext ?_; show (r.val * 8192 + y.val) / 8192 % 2048 = r.val % 2048; omega
      | ⟨2, _⟩ => refine Fin.ext ?_; show (r.val * 8192 + y.val) % 8192 = y.val; omega
    rw [val_main_v38_apply, e, val_main_v37_apply, val_main_call1_v5_apply, val_main_call1_v4_apply, val_main_call1_v3_apply,
      val_main_call1_v2_apply, val_main_call1_v1_apply, val_main_call1_v0_apply, val_main_call1_cst_apply, val_main_call1_cst_0_apply,
      one_word, conv_apply]
    rfl
  · rw [dif_neg h, concatenate_pair_apply_right (t := S8192x12288) (s₁ := S8192x8192) (s₂ := S8192x4096) (1 : Fin 2) _ _ _ _ rfl rfl (ix2 r (⟨y.val - 8192, by omega⟩ : Fin 4096))
      (fun b hb => match b with
        | ⟨0, _⟩ => rfl
        | ⟨1, _⟩ => absurd rfl hb)
      (by show y.val - 8192 + 8192 = y.val; omega)]
    rw [val_main_v5_apply, ← dot_apply]
    refine congrArg _ ?_
    funext a
    match a with
    | ⟨0, _⟩ => rfl
    | ⟨1, _⟩ => refine Fin.ext ?_; show 8192 + (y.val - 8192) = y.val; omega

end Cert.Proof.ProjConv.Ref

end
-- ==== Proof.ProjConv.Claim.lean ====
/-
  The projection into the gated delta rule: the claims.
-/
module

public import proofs.«01_k».proof.Defs
public import proofs.«01_k».proof.Proof.ProjConv.Array
public import proofs.«01_k».proof.Proof.ProjConv.Ref
public import proofs.«01_k».proof.Proof.Gen.ProjConv
public import proofs.«01_k».proof.Proof.Gen.ProjConvIdeal.Value
public import proofs.«01_k».proof.Proof.Gen.ProjConvRefIdeal.Read
public import proofs.«01_k».proof.Proof.Gen.ProjConvRefIdeal.Run

@[expose] public section

set_option maxRecDepth 16384

noncomputable section

namespace Cert.Proof.ProjConv

open Idealize.ShloMosaic Idealize.SL.Sem Idealize.ShloMosaic.TcCoe

/-- From equal arguments the kernel and the reference end with equal results and their arguments unchanged. -/
theorem algebraic : Cert.algebraic_ProjConvIdeal_ProjConvRefIdeal (hProjConvIdeal := Cert.ProjConvIdeal.Gen.facts)
    (hProjConvRefIdeal := Cert.ProjConvRefIdeal.Gen.facts) := by
  intro m g m' g' _ hargs
  refine ⟨fun c => out4 m c, (θ_run (Cert.ProjConvIdeal.defs (F := Ideal)) _ _).mono (fun r h c => ⟨(h c).1.trans (final m c), (h c).2⟩)
    (Cert.ProjConvIdeal.Value.run_blocks (F := Ideal) m g), ?_⟩
  refine (θ_run (Cert.ProjConvRefIdeal.defs (F := Ideal)) _ _).mono (fun r h c => ?_) (Cert.ProjConvRefIdeal.Value.run (F := Ideal) m' g')
  refine ⟨(h c).1.trans ?_, (h c).2⟩
  obtain ⟨e0, e1, e2⟩ := hargs c
  refine (Cert.ProjConvRefIdeal.Read.val_main_v40_eq (F := Ideal) _ _).trans ?_
  rw [e0, e1, e2]
  refine funext fun i => ?_
  have hi : i = ix2 (n0 := 8192) (n1 := 12288) (i 0) (i 1) := by
    funext a
    match a with
    | ⟨0, _⟩ => rfl
    | ⟨1, _⟩ => rfl
  rw [hi]
  exact Ref.result_apply (argX m c) (argW m c) (argC m c) (i 0) (i 1)

/-- The reference runs and leaves its arguments as they were. -/
theorem frame_ref : Cert.quiescent_ProjConvRefIdeal (hProjConvRefIdeal := Cert.ProjConvRefIdeal.Gen.facts) := by
  intro m ρ _
  exact (θ_run Cert.ProjConvRefIdeal.defs _ _).mono
    (fun r h => ⟨fun c => (h c).2, sem_eq_zero_of_no_sems (by decide) r.2⟩) (Cert.ProjConvRefIdeal.Value.run (F := Ideal) m ρ)

section Frame

variable {F : FTy → Type} [FloatOps F]

local instance factsOne : Cert.ProjConv.Facts := Cert.ProjConv.Gen.facts
local instance factsTwo : Cert.ProjConvIdeal.Facts := Cert.ProjConvIdeal.Gen.facts

/-- The two instances of the program have the same bodies. -/
theorem bodies_eq : Cert.ProjConv.defs₀ (F := F) = Cert.ProjConvIdeal.defs₀ (F := F) := by
  unfold Cert.ProjConv.defs₀ Cert.ProjConvIdeal.defs₀
  refine congrArg Defs.onTc (funext fun x => funext fun a => ?_)
  match x, a with
  | ⟨0, _⟩, (t, s) => rfl
  | ⟨n + 1, h⟩, _ => exact absurd h (Nat.not_lt.2 (Nat.le_add_left _ _))

/-- The two instances of the program have the same definitions. -/
theorem defs_eq : Cert.ProjConv.defs (F := F) = Cert.ProjConvIdeal.defs (F := F) :=
  congrArg (Pipeline.defs Cert.ProjConv.pcfgs) bodies_eq

/-- The program runs on the machine's numbers and leaves its arguments as they were: the run is the one for any numbers. -/
theorem frame_bits : Cert.quiescent_ProjConv (hProjConv := Cert.ProjConv.Gen.facts) := fun m ρ _ => by
  rw [defs_eq]
  exact Cert.ProjConvIdeal.Gen.frame m ρ

end Frame

end Cert.Proof.ProjConv

end
-- ==== Proof.ProjRope.Spec.lean ====
/-
  The attention's projection as one closed form: a product of the rows with the weights' columns; the first 2048 columns
  (queries) and the next 2048 (keys) are turned by their row's angles, head by head of 128 columns, and the queries scaled.
-/
module

public import Idealize.ShloMosaic.Lib.Pointwise
public import Idealize.ShloMosaic.Lib.ValueIdx
public import Idealize.ShloMosaic.Lib.IdealHost

@[expose] public section

noncomputable section

namespace Cert.Proof.ProjRope

open Idealize.ShloMosaic Idealize.ShloMosaic.TcCoe

variable (x : (⟨2, ![8192, 2048]⟩ : Shape).Idx → EReal) (w : (⟨3, ![1, 2048, 6144]⟩ : Shape).Idx → EReal)
  (co si : (⟨2, ![2048, 128]⟩ : Shape).Idx → EReal)

/-- The product of a row and a column. -/
def prod (r : Fin 8192) (y : Fin 6144) : EReal :=
  ∑ k : Fin 2048, x (ix2 r k) * w (ix3 0 k y)

/-- The column a column is paired with: 64 columns further, within its head. -/
def partner (y : Fin 6144) : Fin 6144 := ⟨y.val / 128 * 128 + (y.val % 128 + 64) % 128, by have := y.isLt; omega⟩

/-- An entry turned by its angle, with `co` and `si` the cosines and sines by position and column of a head. -/
def turned (r : Fin 8192) (y : Fin 6144) : EReal :=
  prod x w r y * co (ix2 ⟨r.val % 2048, by omega⟩ ⟨y.val % 128, by omega⟩)
    + (if y.val % 128 < 64 then -prod x w r (partner y) else prod x w r (partner y)) * si (ix2 ⟨r.val % 2048, by omega⟩ ⟨y.val % 128, by omega⟩)

/-- The scale of the queries: the square root of 1/128, rounded. -/
def scale : EReal := FloatOps.ofBits (F := Ideal) .f32 0x3DB504F3#32

/-- One result entry. -/
def result (r : Fin 8192) (y : Fin 6144) : EReal :=
  if y.val < 2048 then turned x w co si r y * scale else if y.val < 4096 then turned x w co si r y else prod x w r y

end Cert.Proof.ProjRope

end
-- ==== Proof.ProjRope.Body.lean ====
/-
  One point of the attention's projection: the product of its rows and the weights' columns that are kept, head by head of
  128 columns turned by the point's cosines and sines and scaled, or the product alone.
-/
module

public import proofs.«01_k».proof.Defs
public import proofs.«01_k».proof.Proof.ProjRope.Spec
public import proofs.«01_k».proof.Proof.Gen.ProjRopeIdeal.Value
public import Idealize.ShloMosaic.Lib.Pointwise
public import Idealize.ShloMosaic.Lib.ValueIdx
public import Idealize.ShloMosaic.Lib.Pipeline.ValueKit.Acc
public import Idealize.ShloMosaic.Lib.IdealHost
public import Idealize.ShloMosaic.Lib.Pipeline.CanonAppend

@[expose] public section

set_option maxRecDepth 16384

noncomputable section

namespace Cert.Proof.ProjRope

open Idealize.ShloMosaic Idealize.SL.Sem Cert.ProjRopeIdeal Cert.ProjRopeIdeal.Gen Cert.ProjRopeIdeal.Value Idealize.ShloMosaic.TcCoe

/-- The product of a point's row and a column of the weights that are kept. -/
def pdot {W : ℕ} (x : (⟨2, ![1024, 2048]⟩ : Shape).Idx → EReal) (w : (⟨2, ![2048, W]⟩ : Shape).Idx → EReal) (r : Fin 1024) (y : Fin W) : EReal :=
  ∑ k : Fin 2048, x (ix2 r k) * w (ix2 k y)

/-- The weights' columns of a point. -/
theorem pay1_apply (w : Vec Ideal S1x2048x1024 .f32) (k : Fin 2048) (y : Fin 1024) : k0_pay1 (F := Ideal) w (ix2 k y) = w (ix3 0 k y) := by
  pointwise [k0_pay1]

/-- The product alone. -/
theorem pay5_apply (x : Vec Ideal S1024x2048 .bf16) (w : Vec Ideal S2048x1024 .bf16) (r : Fin 1024) (y : Fin 1024) :
    k0_pay5 (F := Ideal) x w (ix2 r y) = pdot x w r y := by
  pointwise [k0_pay5]
  rfl

/-- The cosines as used. -/
theorem pay6_apply (v : Vec Ideal S1024x128 .f32) (r : Fin 1024) (y : Fin 128) : k0_pay6 (F := Ideal) v (ix2 r y) = v (ix2 r y) := by
  pointwise [k0_pay6]

/-- The sines as used. -/
theorem pay7_apply (v : Vec Ideal S1024x128 .f32) (r : Fin 1024) (y : Fin 128) : k0_pay7 (F := Ideal) v (ix2 r y) = v (ix2 r y) := by
  pointwise [k0_pay7]

/-- A row of 128 turned round by 64. -/
theorem rot_apply (v : FVec Ideal S1024x128 .f32) (r : Fin 1024) (y : Fin 128) :
    dynamicRotate 1 64#32 none v rotates_S1024x128_d1 (ix2 r y) = v (ix2 r ⟨(y.val + 64) % 128, Nat.mod_lt _ (by decide)⟩) := by
  rw [Pointwise.dynamicRotate_apply]
  refine congrArg v ?_
  funext e
  match e with
  | ⟨0, _⟩ => rfl
  | ⟨1, _⟩ => rfl

/-- Two heads' product. -/
theorem pay2_apply (x : Vec Ideal S1024x2048 .bf16) (w : Vec Ideal S2048x256 .bf16) (r : Fin 1024) (y : Fin 256) :
    k0_pay2 (F := Ideal) x w (ix2 r y) = pdot x w r y := by
  pointwise [k0_pay2]
  rfl

section Chunk
variable (co si : FVec Ideal S1024x128 .f32) (sc : Ideal .f32) (x : Vec Ideal S1024x2048 .bf16) (w : Vec Ideal S2048x256 .bf16)

/-- The first of two heads as written. -/
theorem even_apply (r : Fin 1024) (y : Fin 128) :
    k0_pay3 (F := Ideal) co si sc x w (ix2 r y)
      = ((pdot x w r ⟨y.val, by omega⟩ * co (ix2 r y) + pdot x w r ⟨(y.val + 64) % 128, by omega⟩ * si (ix2 r y)) * sc : EReal) := by
  rw [← pay2_apply, ← pay2_apply]
  unfold k0_pay3
  dsimp only
  generalize hp : k0_pay2 (F := Ideal) x w = p
  have hs : ∀ y : Fin 128, extractStridedSlice S1024x128 ![0, 0] p slices_S1024x256_o0_0_S1024x128 (ix2 r y) = p (ix2 r ⟨y.val, by omega⟩) := fun y => by
    pointwise
  show ((extractStridedSlice S1024x128 ![0, 0] p slices_S1024x256_o0_0_S1024x128 (ix2 r y) * co (ix2 r y)
    + dynamicRotate 1 64#32 none (extractStridedSlice S1024x128 ![0, 0] p slices_S1024x256_o0_0_S1024x128) rotates_S1024x128_d1 (ix2 r y) * si (ix2 r y)) * sc : EReal) = _
  rw [rot_apply, hs, hs]

/-- The second of two heads as written. -/
theorem odd_apply (r : Fin 1024) (y : Fin 128) :
    k0_pay4 (F := Ideal) co si sc x w (ix2 r y)
      = ((pdot x w r ⟨128 + y.val, by omega⟩ * co (ix2 r y) + pdot x w r ⟨128 + (y.val + 64) % 128, by omega⟩ * si (ix2 r y)) * sc : EReal) := by
  rw [← pay2_apply, ← pay2_apply]
  unfold k0_pay4
  dsimp only
  generalize hp : k0_pay2 (F := Ideal) x w = p
  have hs : ∀ y : Fin 128, extractStridedSlice S1024x128 ![0, 128] p slices_S1024x256_o0_128_S1024x128 (ix2 r y) = p (ix2 r ⟨128 + y.val, by omega⟩) := fun y => by
    pointwise
  show ((extractStridedSlice S1024x128 ![0, 128] p slices_S1024x256_o0_128_S1024x128 (ix2 r y) * co (ix2 r y)
    + dynamicRotate 1 64#32 none (extractStridedSlice S1024x128 ![0, 128] p slices_S1024x256_o0_128_S1024x128) rotates_S1024x128_d1 (ix2 r y) * si (ix2 r y)) * sc : EReal) = _
  rw [rot_apply, hs, hs]

end Chunk

/-- The column of a tile a column is paired with: 64 columns further, within its head. -/
def mate (y : Fin 1024) : Fin 1024 := ⟨y.val / 128 * 128 + (y.val % 128 + 64) % 128, by have := y.isLt; omega⟩

/-- An entry of the output block after a point whose heads are turned. -/
def goalAt (co si : S1024x128.Idx → EReal) (sc : EReal) (x : S1024x2048.Idx → EReal) (w : S2048x1024.Idx → EReal) (r y : Fin 1024) : EReal :=
  (pdot x w r y * co (ix2 r (⟨y.val % 128, Nat.mod_lt _ (by decide)⟩ : Fin 128))
    + pdot x w r (mate y) * si (ix2 r (⟨y.val % 128, Nat.mod_lt _ (by decide)⟩ : Fin 128))) * sc

/-- What the output block holds after a point whose heads are turned. -/
def goal (co si : S1024x128.Idx → EReal) (sc : EReal) (x : S1024x2048.Idx → EReal) (w : S2048x1024.Idx → EReal) : S1024x1024.Idx → EReal := fun i =>
  goalAt co si sc x w (i 0) (i 1)

section Pieces
variable (co si : FVec Ideal S1024x128 .f32) (sc : Ideal .f32) (x : Vec Ideal S1024x2048 .bf16) (w : Vec Ideal S2048x1024 .bf16)

/-- Two heads' columns lie inside the weights that are kept. -/
theorem inside_w (o : ℕ) (ho : o + 256 ≤ 1024) : ∀ a, (![0, o] : Fin 2 → ℕ) a + S2048x256.size a ≤ S2048x1024.size a := fun a =>
  match a with
  | ⟨0, _⟩ => by show 0 + 2048 ≤ 2048; omega
  | ⟨1, _⟩ => ho

/-- A head's columns lie inside the output block. -/
theorem inside (o : ℕ) (ho : o + 128 ≤ 1024) : ∀ a, (![0, o] : Fin 2 → ℕ) a + S1024x128.size a ≤ S1024x1024.size a := fun a =>
  match a with
  | ⟨0, _⟩ => by show 0 + 1024 ≤ 1024; omega
  | ⟨1, _⟩ => ho

/-- The product with two heads' columns is the product with those columns. -/
theorem pdot_ld (o : ℕ) (i1 : ∀ a, (![0, o] : Fin 2 → ℕ) a + S2048x256.size a ≤ S2048x1024.size a) (r : Fin 1024) (y : Fin 256) (Y : Fin 1024) (hY : Y.val = o + y.val) :
    pdot x (View.ld w (Rect.unit ![0, o] S2048x256.size i1)) r y = pdot x w r Y := by
  unfold pdot
  refine Finset.sum_congr rfl fun k _ => congrArg _ ?_
  show w _ = w _
  refine congrArg w (funext fun a => ?_)
  match a with
  | ⟨0, _⟩ => exact Fin.ext (by show 0 + 1 * k.val = k.val; omega)
  | ⟨1, _⟩ => exact Fin.ext (by show o + 1 * y.val = Y.val; omega)

/-- The first of two heads as stored is those columns of the block. -/
theorem piece_even (o O : ℕ) (hO : O = o + 0) (ho : o + 256 ≤ 1024) (h256 : o % 256 = 0)
    (i1 : ∀ a, (![0, o] : Fin 2 → ℕ) a + S2048x256.size a ≤ S2048x1024.size a)
    (i4 : ∀ a, (![0, O] : Fin 2 → ℕ) a + S1024x128.size a ≤ S1024x1024.size a) (z : S1024x128.Idx) :
    k0_pay3 (F := Ideal) co si sc x (View.ld w (Rect.unit ![0, o] S2048x256.size i1)) z
      = goal co si sc x w ((Rect.unit (s := S1024x1024) ![0, O] S1024x128.size i4).emb z) := by
  have hz0 : (z 0).val < 1024 := (z 0).isLt
  have hz1 : (z 1).val < 128 := (z 1).isLt
  have hz : z = ix2 (n0 := 1024) (n1 := 128) ⟨(z 0).val, hz0⟩ ⟨(z 1).val, hz1⟩ := by
    funext a
    match a with
    | ⟨0, _⟩ => rfl
    | ⟨1, _⟩ => rfl
  have g0 : ((Rect.unit (s := S1024x1024) ![0, O] S1024x128.size i4).emb z) 0 = (⟨(z 0).val, hz0⟩ : Fin 1024) := Fin.ext (by show 0 + 1 * (z 0).val = (z 0).val; omega)
  have g1 : ((Rect.unit (s := S1024x1024) ![0, O] S1024x128.size i4).emb z) 1 = (⟨O + (z 1).val, by omega⟩ : Fin 1024) := Fin.ext (by show O + 1 * (z 1).val = O + (z 1).val; omega)
  have gm : (⟨(O + (z 1).val) % 128, by omega⟩ : Fin 128) = ⟨(z 1).val, hz1⟩ := Fin.ext (by show (O + (z 1).val) % 128 = (z 1).val; omega)
  unfold goal
  rw [g0, g1]
  unfold goalAt
  refine (congrArg _ hz).trans ((even_apply _ _ _ _ _ _ _).trans ?_)
  rw [pdot_ld x w o i1 _ _ ⟨O + (z 1).val, by omega⟩ (by show O + (z 1).val = o + ((z 1).val); omega),
    pdot_ld x w o i1 _ _ (mate ⟨O + (z 1).val, by omega⟩) (by show (O + (z 1).val) / 128 * 128 + ((O + (z 1).val) % 128 + 64) % 128 = o + (((z 1).val + 64) % 128); omega)]
  show _ = (_ * co (ix2 _ (⟨(O + (z 1).val) % 128, by omega⟩ : Fin 128)) + _ * si (ix2 _ (⟨(O + (z 1).val) % 128, by omega⟩ : Fin 128))) * sc
  rw [gm]

/-- The second of two heads as stored is those columns of the block. -/
theorem piece_odd (o O : ℕ) (hO : O = o + 128) (ho : o + 256 ≤ 1024) (h256 : o % 256 = 0)
    (i1 : ∀ a, (![0, o] : Fin 2 → ℕ) a + S2048x256.size a ≤ S2048x1024.size a)
    (i4 : ∀ a, (![0, O] : Fin 2 → ℕ) a + S1024x128.size a ≤ S1024x1024.size a) (z : S1024x128.Idx) :
    k0_pay4 (F := Ideal) co si sc x (View.ld w (Rect.unit ![0, o] S2048x256.size i1)) z
      = goal co si sc x w ((Rect.unit (s := S1024x1024) ![0, O] S1024x128.size i4).emb z) := by
  have hz0 : (z 0).val < 1024 := (z 0).isLt
  have hz1 : (z 1).val < 128 := (z 1).isLt
  have hz : z = ix2 (n0 := 1024) (n1 := 128) ⟨(z 0).val, hz0⟩ ⟨(z 1).val, hz1⟩ := by
    funext a
    match a with
    | ⟨0, _⟩ => rfl
    | ⟨1, _⟩ => rfl
  have g0 : ((Rect.unit (s := S1024x1024) ![0, O] S1024x128.size i4).emb z) 0 = (⟨(z 0).val, hz0⟩ : Fin 1024) := Fin.ext (by show 0 + 1 * (z 0).val = (z 0).val; omega)
  have g1 : ((Rect.unit (s := S1024x1024) ![0, O] S1024x128.size i4).emb z) 1 = (⟨O + (z 1).val, by omega⟩ : Fin 1024) := Fin.ext (by show O + 1 * (z 1).val = O + (z 1).val; omega)
  have gm : (⟨(O + (z 1).val) % 128, by omega⟩ : Fin 128) = ⟨(z 1).val, hz1⟩ := Fin.ext (by show (O + (z 1).val) % 128 = (z 1).val; omega)
  unfold goal
  rw [g0, g1]
  unfold goalAt
  refine (congrArg _ hz).trans ((odd_apply _ _ _ _ _ _ _).trans ?_)
  rw [pdot_ld x w o i1 _ _ ⟨O + (z 1).val, by omega⟩ (by show O + (z 1).val = o + (128 + (z 1).val); omega),
    pdot_ld x w o i1 _ _ (mate ⟨O + (z 1).val, by omega⟩) (by show (O + (z 1).val) / 128 * 128 + ((O + (z 1).val) % 128 + 64) % 128 = o + (128 + ((z 1).val + 64) % 128); omega)]
  show _ = (_ * co (ix2 _ (⟨(O + (z 1).val) % 128, by omega⟩ : Fin 128)) + _ * si (ix2 _ (⟨(O + (z 1).val) % 128, by omega⟩ : Fin 128))) * sc
  rw [gm]

end Pieces

/-! Each pair of heads is the same computation, cut up differently. -/

section Groups
variable (j : BitVec 32) (co si : Vec Ideal S1024x128 .f32) (x : Vec Ideal S1024x2048 .bf16) (w : Vec Ideal S2048x256 .bf16)

/-- The first head. -/
theorem same_0 : k0_pay10 (F := Ideal) j co si x w = k0_pay3 (F := Ideal) (k0_pay6 co) (k0_pay7 si) (k0_pay8 (F := Ideal) j) x w := rfl
/-- The second head. -/
theorem same_1 : k0_pay11 (F := Ideal) j co si x w = k0_pay4 (F := Ideal) (k0_pay6 co) (k0_pay7 si) (k0_pay8 (F := Ideal) j) x w := rfl
/-- The third head. -/
theorem same_2 : k0_pay16 (F := Ideal) (k0_pay8 (F := Ideal) j) (k0_pay14 co x w) (k0_pay15 si x w) = k0_pay3 (F := Ideal) (k0_pay6 co) (k0_pay7 si) (k0_pay8 (F := Ideal) j) x w := rfl
/-- The fourth head. -/
theorem same_3 : k0_pay17 (F := Ideal) (k0_pay6 co) (k0_pay7 si) (k0_pay8 (F := Ideal) j) (k0_pay12 x w) = k0_pay4 (F := Ideal) (k0_pay6 co) (k0_pay7 si) (k0_pay8 (F := Ideal) j) x w := rfl
/-- The fifth head. -/
theorem same_4 : k0_pay19 (F := Ideal) (k0_pay6 co) (k0_pay7 si) (k0_pay8 (F := Ideal) j) x w = k0_pay3 (F := Ideal) (k0_pay6 co) (k0_pay7 si) (k0_pay8 (F := Ideal) j) x w := rfl
/-- The sixth head. -/
theorem same_5 : k0_pay20 (F := Ideal) (k0_pay6 co) (k0_pay7 si) (k0_pay8 (F := Ideal) j) x w = k0_pay4 (F := Ideal) (k0_pay6 co) (k0_pay7 si) (k0_pay8 (F := Ideal) j) x w := rfl

end Groups

/-- The column tile of a point. -/
theorem coord : ∀ t : Fin cfg0.N, ((grid0.coords t) 0).val = t.val / 8 := (by decide +kernel : ∀ t : Fin grid0.N, _)

/-- The word that says whether a column tile is one of the queries'. -/
theorem word_eq : ∀ n : Fin 6, Scalar.cmpi .slt (BitVec.ofNat 32 n.val) 2#32 = if n.val < 2 then 1#1 else 0#1 := by decide +kernel

/-- The scale of a point: the queries' over their tiles, one over the others. -/
theorem scale_point (t : Fin cfg0.N) : (k0_pay8 (F := Ideal) (BitVec.ofNat 32 ((grid0.coords t) 0).val) : EReal) = if t.val / 8 < 2 then scale else 1 := by
  have hN : t.val < 48 := lt_of_lt_of_eq t.isLt N_0
  show (Scalar.select (Scalar.cmpi .slt (BitVec.ofNat 32 ((grid0.coords t) 0).val) 2#32) (Ideal.ofBits .f32 0x3DB504F3#32) (Ideal.ofBits .f32 0x3F800000#32) : EReal) = _
  rw [coord t, word_eq ⟨t.val / 8, by omega⟩, Ideal.ofBits_one_f32]
  by_cases h : t.val / 8 < 2
  · rw [if_pos h, if_pos h]; rfl
  · rw [if_neg h, if_neg h]; rfl

/-- Reading the weights' columns that a point has just kept. -/
theorem kept (w : Vec Ideal S2048x1024 .bf16) (b : Rect S2048x1024) (i0 : ∀ a, (![0, 0] : Fin 2 → ℕ) a + S2048x1024.size a ≤ S2048x1024.size a) :
    (View.whole cc0_scratch0 : View sig .tc .vmem S2048x1024 .bf16).readCov (Val := Elt Ideal) [⟨Rect.unit (s := S2048x1024) ![0, 0] S2048x1024.size i0, w⟩] b.toLoadRect = View.ld w b := by
  have hz : (![0, 0] : Fin S2048x1024.rank → Nat) = fun _ => 0 := funext fun a => by fin_cases a <;> rfl
  rw [View.readCov_eq_canon']
  funext j
  exact congrFun (View.canon_unit_zero hz i0 w) (b.toLoadRect.idx j)

section Out
variable (c : Dev nD) (t : Fin cfg0.N) (x0 : Vec Ideal S1024x2048 .bf16) (x1 : Vec Ideal S1x2048x1024 .f32) (x2 : Vec Ideal S1024x128 .f32)
  (x3 : Vec Ideal S1024x128 .f32)

/-- What a point that uses kept weights leaves in the output block. -/
theorem outB (xs0 : Vec Ideal S2048x1024 .bf16) (hc0 hc1 hc2) (i : S1024x1024.Idx) :
    out0_B_4 (F := Ideal) c (grid0.coords t) (ms0_0 t) (hs0_0 t) (ms0_1 t) (hs0_1 t) (ms0_2 t) (hs0_2 t) (ms0_3 t) (hs0_3 t) (ms0_4 t) (hs0_4 t)
      (Memref.whole cc0_scratch0) (Memref.isWhole_whole cc0_scratch0) hc0 hc1 hc2 x0 x1 x2 x3 xs0 i
      = goal (k0_pay6 x2) (k0_pay7 x3) (k0_pay8 (F := Ideal) (BitVec.ofNat 32 ((grid0.coords t) 0).val)) x0 xs0 i := by
  have hz : (![0, 0] : Fin S1024x2048.rank → Nat) = fun _ => 0 := funext fun a => by fin_cases a <;> rfl
  have hz1 : (![0, 0] : Fin S1024x128.rank → Nat) = fun _ => 0 := funext fun a => by fin_cases a <;> rfl
  have hz2 : (![0, 0, 0] : Fin S1x2048x1024.rank → Nat) = fun _ => 0 := funext fun a => by fin_cases a <;> rfl
  have hcov := cover0_B_4 c (grid0.coords t) (ms0_0 t) (hs0_0 t) (ms0_1 t) (hs0_1 t) (ms0_2 t) (hs0_2 t) (ms0_3 t) (hs0_3 t) (ms0_4 t) (hs0_4 t)
      (Memref.whole cc0_scratch0) (Memref.isWhole_whole cc0_scratch0) hc0 hc1 hc2 x0 x1 x2 x3 xs0 i
  unfold out0_B_4
  rw [View.read_writes_eq_canon _ _ _ (cover0_B_4 c (grid0.coords t) (ms0_0 t) (hs0_0 t) (ms0_1 t) (hs0_1 t) (ms0_2 t) (hs0_2 t) (ms0_3 t) (hs0_3 t) (ms0_4 t) (hs0_4 t)
      (Memref.whole cc0_scratch0) (Memref.isWhole_whole cc0_scratch0) hc0 hc1 hc2 x0 x1 x2 x3 xs0)]
  refine (congrFun (congrArg View.canon (List.append_nil _).symm) _).trans
    (View.canon_append_of_pieces (goal (k0_pay6 x2) (k0_pay7 x3) (k0_pay8 (F := Ideal) (BitVec.ofNat 32 ((grid0.coords t) 0).val)) x0 xs0) [] _ ?_ _ hcov)
  unfold kernelRun0_B
  dsimp only
  sl_unfold_words
  simp only [View.readAt_eq_ld, (hs0_0 t).read_unread, (hs0_1 t).read_unread, (hs0_2 t).read_unread, (hs0_3 t).read_unread, (Memref.isWhole_whole cc0_scratch0).read_unread]
  rw [View.ld_unit_zero hz, View.ld_unit_zero hz1, View.ld_unit_zero hz1]
  intro p hp
  simp only [List.mem_cons, List.not_mem_nil, or_false] at hp
  rcases hp with rfl | rfl | rfl | rfl | rfl | rfl | rfl | rfl
  · intro z
    exact (piece_odd (k0_pay6 x2) (k0_pay7 x3) (k0_pay8 (F := Ideal) (BitVec.ofNat 32 ((grid0.coords t) 0).val)) x0 xs0 768 896 rfl (by omega) rfl (inside_w 768 (by omega)) (inside 896 (by omega)) z)
  · intro z
    exact (piece_even (k0_pay6 x2) (k0_pay7 x3) (k0_pay8 (F := Ideal) (BitVec.ofNat 32 ((grid0.coords t) 0).val)) x0 xs0 768 768 rfl (by omega) rfl (inside_w 768 (by omega)) (inside 768 (by omega)) z)
  · intro z
    refine (congrFun (same_5 (BitVec.ofNat 32 ((grid0.coords t) 0).val) x2 x3 x0 _) z).trans ?_
    exact (piece_odd (k0_pay6 x2) (k0_pay7 x3) (k0_pay8 (F := Ideal) (BitVec.ofNat 32 ((grid0.coords t) 0).val)) x0 xs0 512 640 rfl (by omega) rfl (inside_w 512 (by omega)) (inside 640 (by omega)) z)
  · intro z
    refine (congrFun (same_4 (BitVec.ofNat 32 ((grid0.coords t) 0).val) x2 x3 x0 _) z).trans ?_
    exact (piece_even (k0_pay6 x2) (k0_pay7 x3) (k0_pay8 (F := Ideal) (BitVec.ofNat 32 ((grid0.coords t) 0).val)) x0 xs0 512 512 rfl (by omega) rfl (inside_w 512 (by omega)) (inside 512 (by omega)) z)
  · intro z
    refine (congrFun (same_3 (BitVec.ofNat 32 ((grid0.coords t) 0).val) x2 x3 x0 _) z).trans ?_
    exact (piece_odd (k0_pay6 x2) (k0_pay7 x3) (k0_pay8 (F := Ideal) (BitVec.ofNat 32 ((grid0.coords t) 0).val)) x0 xs0 256 384 rfl (by omega) rfl (inside_w 256 (by omega)) (inside 384 (by omega)) z)
  · intro z
    refine (congrFun (same_2 (BitVec.ofNat 32 ((grid0.coords t) 0).val) x2 x3 x0 _) z).trans ?_
    exact (piece_even (k0_pay6 x2) (k0_pay7 x3) (k0_pay8 (F := Ideal) (BitVec.ofNat 32 ((grid0.coords t) 0).val)) x0 xs0 256 256 rfl (by omega) rfl (inside_w 256 (by omega)) (inside 256 (by omega)) z)
  · intro z
    refine (congrFun (same_1 (BitVec.ofNat 32 ((grid0.coords t) 0).val) x2 x3 x0 _) z).trans ?_
    exact (piece_odd (k0_pay6 x2) (k0_pay7 x3) (k0_pay8 (F := Ideal) (BitVec.ofNat 32 ((grid0.coords t) 0).val)) x0 xs0 0 128 rfl (by omega) rfl (inside_w 0 (by omega)) (inside 128 (by omega)) z)
  · intro z
    refine (congrFun (same_0 (BitVec.ofNat 32 ((grid0.coords t) 0).val) x2 x3 x0 _) z).trans ?_
    exact (piece_even (k0_pay6 x2) (k0_pay7 x3) (k0_pay8 (F := Ideal) (BitVec.ofNat 32 ((grid0.coords t) 0).val)) x0 xs0 0 0 rfl (by omega) rfl (inside_w 0 (by omega)) (inside 0 (by omega)) z)

/-- What a point that keeps its weights leaves in the output block. -/
theorem outA (hc0 hc1 hc2) (i : S1024x1024.Idx) :
    out0_A_4 (F := Ideal) c (grid0.coords t) (ms0_0 t) (hs0_0 t) (ms0_1 t) (hs0_1 t) (ms0_2 t) (hs0_2 t) (ms0_3 t) (hs0_3 t) (ms0_4 t) (hs0_4 t)
      (Memref.whole cc0_scratch0) (Memref.isWhole_whole cc0_scratch0) hc0 hc1 hc2 x0 x1 x2 x3 i
      = goal (k0_pay6 x2) (k0_pay7 x3) (k0_pay8 (F := Ideal) (BitVec.ofNat 32 ((grid0.coords t) 0).val)) x0 (k0_pay1 (F := Ideal) x1) i := by
  have hz : (![0, 0] : Fin S1024x2048.rank → Nat) = fun _ => 0 := funext fun a => by fin_cases a <;> rfl
  have hz1 : (![0, 0] : Fin S1024x128.rank → Nat) = fun _ => 0 := funext fun a => by fin_cases a <;> rfl
  have hz2 : (![0, 0, 0] : Fin S1x2048x1024.rank → Nat) = fun _ => 0 := funext fun a => by fin_cases a <;> rfl
  have hcov := cover0_A_4 c (grid0.coords t) (ms0_0 t) (hs0_0 t) (ms0_1 t) (hs0_1 t) (ms0_2 t) (hs0_2 t) (ms0_3 t) (hs0_3 t) (ms0_4 t) (hs0_4 t)
      (Memref.whole cc0_scratch0) (Memref.isWhole_whole cc0_scratch0) hc0 hc1 hc2 x0 x1 x2 x3 i
  unfold out0_A_4
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t)
      (Memref.whole cc0_scratch0) (Memref.isWhole_whole cc0_scratch0) hc0 hc1 hc2 x0 x1 x2 x3)]
  refine (congrFun (congrArg View.canon (List.append_nil _).symm) _).trans
    (View.canon_append_of_pieces (goal (k0_pay6 x2) (k0_pay7 x3) (k0_pay8 (F := Ideal) (BitVec.ofNat 32 ((grid0.coords t) 0).val)) x0 (k0_pay1 (F := Ideal) x1)) [] _ ?_ _ hcov)
  unfold kernelRun0_A
  dsimp only
  sl_unfold_words
  simp only [View.readAt_eq_ld, (hs0_0 t).read_unread, (hs0_1 t).read_unread, (hs0_2 t).read_unread, (hs0_3 t).read_unread, (Memref.isWhole_whole cc0_scratch0).read_unread]
  rw [View.ld_unit_zero hz, View.ld_unit_zero hz1, View.ld_unit_zero hz1]
  rw [View.ld_unit_zero hz2]
  intro p hp
  simp only [List.mem_cons, List.not_mem_nil, or_false] at hp
  rcases hp with rfl | rfl | rfl | rfl | rfl | rfl | rfl | rfl
  · intro z
    refine (congrArg (fun W : Vec Ideal S2048x256 .bf16 => k0_pay4 (F := Ideal) (k0_pay6 x2) (k0_pay7 x3) (k0_pay8 (F := Ideal) (BitVec.ofNat 32 ((grid0.coords t) 0).val)) x0 W z) (kept (k0_pay1 (F := Ideal) x1) (Rect.unit ![0, 768] S2048x256.size (inside_w 768 (by omega))) _)).trans ?_
    exact (piece_odd (k0_pay6 x2) (k0_pay7 x3) (k0_pay8 (F := Ideal) (BitVec.ofNat 32 ((grid0.coords t) 0).val)) x0 (k0_pay1 (F := Ideal) x1) 768 896 rfl (by omega) rfl (inside_w 768 (by omega)) (inside 896 (by omega)) z)
  · intro z
    refine (congrArg (fun W : Vec Ideal S2048x256 .bf16 => k0_pay3 (F := Ideal) (k0_pay6 x2) (k0_pay7 x3) (k0_pay8 (F := Ideal) (BitVec.ofNat 32 ((grid0.coords t) 0).val)) x0 W z) (kept (k0_pay1 (F := Ideal) x1) (Rect.unit ![0, 768] S2048x256.size (inside_w 768 (by omega))) _)).trans ?_
    exact (piece_even (k0_pay6 x2) (k0_pay7 x3) (k0_pay8 (F := Ideal) (BitVec.ofNat 32 ((grid0.coords t) 0).val)) x0 (k0_pay1 (F := Ideal) x1) 768 768 rfl (by omega) rfl (inside_w 768 (by omega)) (inside 768 (by omega)) z)
  · intro z
    refine (congrFun (same_5 (BitVec.ofNat 32 ((grid0.coords t) 0).val) x2 x3 x0 _) z).trans ?_
    refine (congrArg (fun W : Vec Ideal S2048x256 .bf16 => k0_pay4 (F := Ideal) (k0_pay6 x2) (k0_pay7 x3) (k0_pay8 (F := Ideal) (BitVec.ofNat 32 ((grid0.coords t) 0).val)) x0 W z) (kept (k0_pay1 (F := Ideal) x1) (Rect.unit ![0, 512] S2048x256.size (inside_w 512 (by omega))) _)).trans ?_
    exact (piece_odd (k0_pay6 x2) (k0_pay7 x3) (k0_pay8 (F := Ideal) (BitVec.ofNat 32 ((grid0.coords t) 0).val)) x0 (k0_pay1 (F := Ideal) x1) 512 640 rfl (by omega) rfl (inside_w 512 (by omega)) (inside 640 (by omega)) z)
  · intro z
    refine (congrFun (same_4 (BitVec.ofNat 32 ((grid0.coords t) 0).val) x2 x3 x0 _) z).trans ?_
    refine (congrArg (fun W : Vec Ideal S2048x256 .bf16 => k0_pay3 (F := Ideal) (k0_pay6 x2) (k0_pay7 x3) (k0_pay8 (F := Ideal) (BitVec.ofNat 32 ((grid0.coords t) 0).val)) x0 W z) (kept (k0_pay1 (F := Ideal) x1) (Rect.unit ![0, 512] S2048x256.size (inside_w 512 (by omega))) _)).trans ?_
    exact (piece_even (k0_pay6 x2) (k0_pay7 x3) (k0_pay8 (F := Ideal) (BitVec.ofNat 32 ((grid0.coords t) 0).val)) x0 (k0_pay1 (F := Ideal) x1) 512 512 rfl (by omega) rfl (inside_w 512 (by omega)) (inside 512 (by omega)) z)
  · intro z
    refine (congrFun (same_3 (BitVec.ofNat 32 ((grid0.coords t) 0).val) x2 x3 x0 _) z).trans ?_
    refine (congrArg (fun W : Vec Ideal S2048x256 .bf16 => k0_pay4 (F := Ideal) (k0_pay6 x2) (k0_pay7 x3) (k0_pay8 (F := Ideal) (BitVec.ofNat 32 ((grid0.coords t) 0).val)) x0 W z) (kept (k0_pay1 (F := Ideal) x1) (Rect.unit ![0, 256] S2048x256.size (inside_w 256 (by omega))) _)).trans ?_
    exact (piece_odd (k0_pay6 x2) (k0_pay7 x3) (k0_pay8 (F := Ideal) (BitVec.ofNat 32 ((grid0.coords t) 0).val)) x0 (k0_pay1 (F := Ideal) x1) 256 384 rfl (by omega) rfl (inside_w 256 (by omega)) (inside 384 (by omega)) z)
  · intro z
    refine (congrFun (same_2 (BitVec.ofNat 32 ((grid0.coords t) 0).val) x2 x3 x0 _) z).trans ?_
    refine (congrArg (fun W : Vec Ideal S2048x256 .bf16 => k0_pay3 (F := Ideal) (k0_pay6 x2) (k0_pay7 x3) (k0_pay8 (F := Ideal) (BitVec.ofNat 32 ((grid0.coords t) 0).val)) x0 W z) (kept (k0_pay1 (F := Ideal) x1) (Rect.unit ![0, 256] S2048x256.size (inside_w 256 (by omega))) _)).trans ?_
    exact (piece_even (k0_pay6 x2) (k0_pay7 x3) (k0_pay8 (F := Ideal) (BitVec.ofNat 32 ((grid0.coords t) 0).val)) x0 (k0_pay1 (F := Ideal) x1) 256 256 rfl (by omega) rfl (inside_w 256 (by omega)) (inside 256 (by omega)) z)
  · intro z
    refine (congrFun (same_1 (BitVec.ofNat 32 ((grid0.coords t) 0).val) x2 x3 x0 _) z).trans ?_
    refine (congrArg (fun W : Vec Ideal S2048x256 .bf16 => k0_pay4 (F := Ideal) (k0_pay6 x2) (k0_pay7 x3) (k0_pay8 (F := Ideal) (BitVec.ofNat 32 ((grid0.coords t) 0).val)) x0 W z) (kept (k0_pay1 (F := Ideal) x1) (Rect.unit ![0, 0] S2048x256.size (inside_w 0 (by omega))) _)).trans ?_
    exact (piece_odd (k0_pay6 x2) (k0_pay7 x3) (k0_pay8 (F := Ideal) (BitVec.ofNat 32 ((grid0.coords t) 0).val)) x0 (k0_pay1 (F := Ideal) x1) 0 128 rfl (by omega) rfl (inside_w 0 (by omega)) (inside 128 (by omega)) z)
  · intro z
    refine (congrFun (same_0 (BitVec.ofNat 32 ((grid0.coords t) 0).val) x2 x3 x0 _) z).trans ?_
    refine (congrArg (fun W : Vec Ideal S2048x256 .bf16 => k0_pay3 (F := Ideal) (k0_pay6 x2) (k0_pay7 x3) (k0_pay8 (F := Ideal) (BitVec.ofNat 32 ((grid0.coords t) 0).val)) x0 W z) (kept (k0_pay1 (F := Ideal) x1) (Rect.unit ![0, 0] S2048x256.size (inside_w 0 (by omega))) _)).trans ?_
    exact (piece_even (k0_pay6 x2) (k0_pay7 x3) (k0_pay8 (F := Ideal) (BitVec.ofNat 32 ((grid0.coords t) 0).val)) x0 (k0_pay1 (F := Ideal) x1) 0 0 rfl (by omega) rfl (inside_w 0 (by omega)) (inside 0 (by omega)) z)

end Out

end Cert.Proof.ProjRope

end
-- ==== Proof.ProjRope.Ref.lean ====
/-
  The reference of the attention's projection, read at an index: the product, its queries and keys turned by the angles of
  their position, the queries scaled.
-/
module

public import proofs.«01_k».proof.Defs
public import proofs.«01_k».proof.Proof.ProjRope.Spec
public import proofs.«01_k».proof.Proof.Gen.ProjRopeRefIdeal.Read
public import Idealize.ShloMosaic.Lib.Pointwise
public import Idealize.ShloMosaic.Lib.ValueIdx
public import Idealize.ShloMosaic.Lib.IdealHost
public import Idealize.ShloMosaic.Lib.KernelVsHost

@[expose] public section

set_option maxRecDepth 16384

noncomputable section

namespace Cert.Proof.ProjRope.Ref

open Idealize.ShloMosaic Idealize.SL.Sem Cert.ProjRopeRefIdeal Cert.ProjRopeRefIdeal.Gen Cert.ProjRopeRefIdeal.Value Cert.ProjRopeRefIdeal.Read Idealize.ShloMosaic.TcCoe

/-- The cosines of the angles. -/
abbrev cosT : (⟨2, ![2048, 128]⟩ : Shape).Idx → EReal := val_main_v26 (F := Ideal)
/-- The sines of the angles. -/
abbrev sinT : (⟨2, ![2048, 128]⟩ : Shape).Idx → EReal := val_main_v27 (F := Ideal)

variable (x : (⟨2, ![8192, 2048]⟩ : Shape).Idx → EReal) (w : (⟨3, ![1, 2048, 6144]⟩ : Shape).Idx → EReal)

/-- The product of a row and a column. -/
theorem dot_apply (r : Fin 8192) (y : Fin 6144) : val_main_v2 (F := Ideal) x w (ix2 r y) = prod x w r y := by
  have hy := y.isLt
  rw [val_main_v2_apply]
  unfold prod
  refine Finset.sum_congr rfl fun k _ => ?_
  have hk := k.isLt
  have el : lidx_main_v2 (ix2 r y) k = ix2 r k := by
    funext a
    match a with
    | ⟨0, _⟩ => rfl
    | ⟨1, _⟩ => rfl
  have er : idx_main_v1 (ridx_main_v2 (ix2 r y) k) = ix3 0 k y := by
    funext a
    match a with
    | ⟨0, _⟩ => rfl
    | ⟨1, _⟩ => refine Fin.ext ?_; show (k.val * 6144 + y.val) / 6144 % 2048 = k.val; omega
    | ⟨2, _⟩ => refine Fin.ext ?_; show (k.val * 6144 + y.val) % 6144 = y.val; omega
  rw [val_main_v1_apply, er, el]
  rfl

/-- The queries by sequence, position, head and column of a head. -/
theorem q_apply (b : Fin 4) (s : Fin 2048) (h : Fin 16) (d : Fin 128) :
    val_main_v6 (F := Ideal) x w (ix4 b s h d) = prod x w ⟨b.val * 2048 + s.val, by omega⟩ ⟨0 + (h.val * 128 + d.val), by omega⟩ := by
  have hb := b.isLt
  have hs := s.isLt
  have hh := h.isLt
  have hd := d.isLt
  rw [val_main_v6_apply, val_main_v3_apply, ← dot_apply]
  refine congrArg _ ?_
  funext a
  match a with
  | ⟨0, _⟩ => refine Fin.ext ?_; show (((b.val * 2048 + s.val) * 16 + h.val) * 128 + d.val) / 2048 = b.val * 2048 + s.val; omega
  | ⟨1, _⟩ => refine Fin.ext ?_; show (((b.val * 2048 + s.val) * 16 + h.val) * 128 + d.val) % 2048 = 0 + (h.val * 128 + d.val); omega

/-- The queries with the halves of a head swapped, one negated. -/
theorem q_swap (b : Fin 4) (s : Fin 2048) (h : Fin 16) (d : Fin 128) :
    val_main_v31 (F := Ideal) x w (ix4 b s h d)
      = (if d.val < 64 then -val_main_v6 (F := Ideal) x w (ix4 b s h ⟨(d.val + 64) % 128, by omega⟩) else val_main_v6 (F := Ideal) x w (ix4 b s h ⟨(d.val + 64) % 128, by omega⟩)) := by
  have hd := d.isLt
  unfold val_main_v31
  by_cases hc : d.val < 64
  · rw [if_pos hc, concatenate_pair_apply_left (t := S4x2048x16x128) (s₁ := S4x2048x16x64) (s₂ := S4x2048x16x64) (3 : Fin 4) _ _ _ _ rfl (ix4 b s h (⟨d.val, hc⟩ : Fin 64))
      (fun b => match b with
        | ⟨0, _⟩ => rfl
        | ⟨1, _⟩ => rfl
        | ⟨2, _⟩ => rfl
        | ⟨3, _⟩ => rfl), val_main_v29_apply, val_main_v28_apply]
    have e : idx_main_v28 (ix4 b s h (⟨d.val, hc⟩ : Fin 64)) = ix4 b s h ⟨(d.val + 64) % 128, by omega⟩ := by
      funext a
      match a with
      | ⟨0, _⟩ => rfl
      | ⟨1, _⟩ => rfl
      | ⟨2, _⟩ => rfl
      | ⟨3, _⟩ => refine Fin.ext ?_; show 64 + d.val = (d.val + 64) % 128; omega
    rw [e]
    rfl
  · rw [if_neg hc, concatenate_pair_apply_right (t := S4x2048x16x128) (s₁ := S4x2048x16x64) (s₂ := S4x2048x16x64) (3 : Fin 4) _ _ _ _ rfl rfl (ix4 b s h (⟨d.val - 64, by omega⟩ : Fin 64))
      (fun b hb => match b with
        | ⟨0, _⟩ => rfl
        | ⟨1, _⟩ => rfl
        | ⟨2, _⟩ => rfl
        | ⟨3, _⟩ => absurd rfl hb)
      (by show d.val - 64 + 64 = d.val; omega), val_main_v30_apply]
    have e : idx_main_v30 (ix4 b s h (⟨d.val - 64, by omega⟩ : Fin 64)) = ix4 b s h ⟨(d.val + 64) % 128, by omega⟩ := by
      funext a
      match a with
      | ⟨0, _⟩ => rfl
      | ⟨1, _⟩ => rfl
      | ⟨2, _⟩ => rfl
      | ⟨3, _⟩ => refine Fin.ext ?_; show d.val - 64 = (d.val + 64) % 128; omega
    rw [e]

/-- The queries turned by their angles. -/
theorem q_turned (b : Fin 4) (s : Fin 2048) (h : Fin 16) (d : Fin 128) (R : Fin 8192) (Y : Fin 6144)
    (hR : R.val = b.val * 2048 + s.val) (hY : Y.val = 0 + (h.val * 128 + d.val)) :
    val_main_v38 (F := Ideal) x w (ix4 b s h d) = turned x w cosT sinT R Y := by
  have hd := d.isLt
  have hs := s.isLt
  have hh := h.isLt
  have ec : idx_main_v32 (idx_main_v33 (ix4 b s h d)) = ix2 s d := by
    funext a
    match a with
    | ⟨0, _⟩ => rfl
    | ⟨1, _⟩ => rfl
  have es : idx_main_v35 (idx_main_v36 (ix4 b s h d)) = ix2 s d := by
    funext a
    match a with
    | ⟨0, _⟩ => rfl
    | ⟨1, _⟩ => rfl
  have hr1 : (⟨b.val * 2048 + s.val, by omega⟩ : Fin 8192) = R := Fin.ext hR.symm
  have hy1 : (⟨0 + (h.val * 128 + d.val), by omega⟩ : Fin 6144) = Y := Fin.ext hY.symm
  have hy2 : (⟨0 + (h.val * 128 + (⟨(d.val + 64) % 128, by omega⟩ : Fin 128).val), by show 0 + (h.val * 128 + (d.val + 64) % 128) < 6144; omega⟩ : Fin 6144) = partner Y :=
    Fin.ext (by show 0 + (h.val * 128 + (d.val + 64) % 128) = Y.val / 128 * 128 + (Y.val % 128 + 64) % 128; omega)
  have hi : (ix2 ⟨R.val % 2048, by omega⟩ ⟨Y.val % 128, by omega⟩ : (⟨2, ![2048, 128]⟩ : Shape).Idx) = ix2 s d := by
    funext a
    match a with
    | ⟨0, _⟩ => refine Fin.ext ?_; show R.val % 2048 = s.val; omega
    | ⟨1, _⟩ => refine Fin.ext ?_; show Y.val % 128 = d.val; omega
  have hlt : d.val < 64 ↔ Y.val % 128 < 64 := by omega
  rw [val_main_v38_apply, val_main_v34_apply, val_main_v37_apply, val_main_v33_apply, val_main_v32_apply, ec, val_main_v36_apply, val_main_v35_apply, es,
    q_swap, q_apply, q_apply, hr1, hy1, hy2]
  unfold turned
  rw [hi]
  simp only [hlt]
  rfl

/-- The keys by sequence, position, head and column of a head. -/
theorem k_apply (b : Fin 4) (s : Fin 2048) (h : Fin 16) (d : Fin 128) :
    val_main_v7 (F := Ideal) x w (ix4 b s h d) = prod x w ⟨b.val * 2048 + s.val, by omega⟩ ⟨2048 + (h.val * 128 + d.val), by omega⟩ := by
  have hb := b.isLt
  have hs := s.isLt
  have hh := h.isLt
  have hd := d.isLt
  rw [val_main_v7_apply, val_main_v4_apply, ← dot_apply]
  refine congrArg _ ?_
  funext a
  match a with
  | ⟨0, _⟩ => refine Fin.ext ?_; show (((b.val * 2048 + s.val) * 16 + h.val) * 128 + d.val) / 2048 = b.val * 2048 + s.val; omega
  | ⟨1, _⟩ => refine Fin.ext ?_; show 2048 + (((b.val * 2048 + s.val) * 16 + h.val) * 128 + d.val) % 2048 = 2048 + (h.val * 128 + d.val); omega

/-- The keys with the halves of a head swapped, one negated. -/
theorem k_swap (b : Fin 4) (s : Fin 2048) (h : Fin 16) (d : Fin 128) :
    val_main_v44 (F := Ideal) x w (ix4 b s h d)
      = (if d.val < 64 then -val_main_v7 (F := Ideal) x w (ix4 b s h ⟨(d.val + 64) % 128, by omega⟩) else val_main_v7 (F := Ideal) x w (ix4 b s h ⟨(d.val + 64) % 128, by omega⟩)) := by
  have hd := d.isLt
  unfold val_main_v44
  by_cases hc : d.val < 64
  · rw [if_pos hc, concatenate_pair_apply_left (t := S4x2048x16x128) (s₁ := S4x2048x16x64) (s₂ := S4x2048x16x64) (3 : Fin 4) _ _ _ _ rfl (ix4 b s h (⟨d.val, hc⟩ : Fin 64))
      (fun b => match b with
        | ⟨0, _⟩ => rfl
        | ⟨1, _⟩ => rfl
        | ⟨2, _⟩ => rfl
        | ⟨3, _⟩ => rfl), val_main_v42_apply, val_main_v41_apply]
    have e : idx_main_v41 (ix4 b s h (⟨d.val, hc⟩ : Fin 64)) = ix4 b s h ⟨(d.val + 64) % 128, by omega⟩ := by
      funext a
      match a with
      | ⟨0, _⟩ => rfl
      | ⟨1, _⟩ => rfl
      | ⟨2, _⟩ => rfl
      | ⟨3, _⟩ => refine Fin.ext ?_; show 64 + d.val = (d.val + 64) % 128; omega
    rw [e]
    rfl
  · rw [if_neg hc, concatenate_pair_apply_right (t := S4x2048x16x128) (s₁ := S4x2048x16x64) (s₂ := S4x2048x16x64) (3 : Fin 4) _ _ _ _ rfl rfl (ix4 b s h (⟨d.val - 64, by omega⟩ : Fin 64))
      (fun b hb => match b with
        | ⟨0, _⟩ => rfl
        | ⟨1, _⟩ => rfl
        | ⟨2, _⟩ => rfl
        | ⟨3, _⟩ => absurd rfl hb)
      (by show d.val - 64 + 64 = d.val; omega), val_main_v43_apply]
    have e : idx_main_v43 (ix4 b s h (⟨d.val - 64, by omega⟩ : Fin 64)) = ix4 b s h ⟨(d.val + 64) % 128, by omega⟩ := by
      funext a
      match a with
      | ⟨0, _⟩ => rfl
      | ⟨1, _⟩ => rfl
      | ⟨2, _⟩ => rfl
      | ⟨3, _⟩ => refine Fin.ext ?_; show d.val - 64 = (d.val + 64) % 128; omega
    rw [e]

/-- The keys turned by their angles. -/
theorem k_turned (b : Fin 4) (s : Fin 2048) (h : Fin 16) (d : Fin 128) (R : Fin 8192) (Y : Fin 6144)
    (hR : R.val = b.val * 2048 + s.val) (hY : Y.val = 2048 + (h.val * 128 + d.val)) :
    val_main_v51 (F := Ideal) x w (ix4 b s h d) = turned x w cosT sinT R Y := by
  have hd := d.isLt
  have hs := s.isLt
  have hh := h.isLt
  have ec : idx_main_v45 (idx_main_v46 (ix4 b s h d)) = ix2 s d := by
    funext a
    match a with
    | ⟨0, _⟩ => rfl
    | ⟨1, _⟩ => rfl
  have es : idx_main_v48 (idx_main_v49 (ix4 b s h d)) = ix2 s d := by
    funext a
    match a with
    | ⟨0, _⟩ => rfl
    | ⟨1, _⟩ => rfl
  have hr1 : (⟨b.val * 2048 + s.val, by omega⟩ : Fin 8192) = R := Fin.ext hR.symm
  have hy1 : (⟨2048 + (h.val * 128 + d.val), by omega⟩ : Fin 6144) = Y := Fin.ext hY.symm
  have hy2 : (⟨2048 + (h.val * 128 + (⟨(d.val + 64) % 128, by omega⟩ : Fin 128).val), by show 2048 + (h.val * 128 + (d.val + 64) % 128) < 6144; omega⟩ : Fin 6144) = partner Y :=
    Fin.ext (by show 2048 + (h.val * 128 + (d.val + 64) % 128) = Y.val / 128 * 128 + (Y.val % 128 + 64) % 128; omega)
  have hi : (ix2 ⟨R.val % 2048, by omega⟩ ⟨Y.val % 128, by omega⟩ : (⟨2, ![2048, 128]⟩ : Shape).Idx) = ix2 s d := by
    funext a
    match a with
    | ⟨0, _⟩ => refine Fin.ext ?_; show R.val % 2048 = s.val; omega
    | ⟨1, _⟩ => refine Fin.ext ?_; show Y.val % 128 = d.val; omega
  have hlt : d.val < 64 ↔ Y.val % 128 < 64 := by omega
  rw [val_main_v51_apply, val_main_v47_apply, val_main_v50_apply, val_main_v46_apply, val_main_v45_apply, ec, val_main_v49_apply, val_main_v48_apply, es,
    k_swap, k_apply, k_apply, hr1, hy1, hy2]
  unfold turned
  rw [hi]
  simp only [hlt]
  rfl

/-- The queries, keys and values side by side. -/
abbrev pieces : List ((s : Shape) × (s.Idx → EReal)) :=
  [⟨S8192x2048, val_main_v52 (F := Ideal) x w⟩, ⟨S8192x2048, val_main_v53 (F := Ideal) x w⟩, ⟨S8192x2048, val_main_v5 (F := Ideal) x w⟩]

/-- The reference's result. -/
theorem result_apply (r : Fin 8192) (y : Fin 6144) : val_main_v55 (F := Ideal) x w (ix2 r y) = result x w cosT sinT r y := by
  have hy := y.isLt
  have hr := r.isLt
  rw [val_main_v55_apply]
  show val_main_v54 (F := Ideal) x w (ix2 r y) = _
  unfold val_main_v54 result
  by_cases h : y.val < 2048
  · rw [if_pos h, concatenate_apply_piece (t := S8192x6144) (1 : Fin 2) (pieces x w) _ (ix2 r y) 0 (show 0 < 3 by decide) S8192x2048 (val_main_v52 (F := Ideal) x w) rfl rfl 0 rfl
      (ix2 r (⟨y.val, h⟩ : Fin 2048))
      (fun b hb => match b with
        | ⟨0, _⟩ => rfl
        | ⟨1, _⟩ => absurd rfl hb)
      (by show 0 + y.val = y.val; omega)]
    have e : idx_main_v52 (ix2 r (⟨y.val, h⟩ : Fin 2048)) = ix4 ⟨r.val / 2048, by omega⟩ ⟨r.val % 2048, by omega⟩ ⟨y.val / 128, by omega⟩ ⟨y.val % 128, by omega⟩ := by
      funext a
      match a with
      | ⟨0, _⟩ => refine Fin.ext ?_; show (r.val * 2048 + y.val) / 4194304 = r.val / 2048; omega
      | ⟨1, _⟩ => refine Fin.ext ?_; show (r.val * 2048 + y.val) / 2048 % 2048 = r.val % 2048; omega
      | ⟨2, _⟩ => refine Fin.ext ?_; show (r.val * 2048 + y.val) / 128 % 16 = y.val / 128; omega
      | ⟨3, _⟩ => refine Fin.ext ?_; show (r.val * 2048 + y.val) % 128 = y.val % 128; omega
    rw [val_main_v52_apply, e, val_main_v40_apply, val_main_v39_apply, val_main_cst_4_apply,
      q_turned x w _ _ _ _ r y (by show r.val = r.val / 2048 * 2048 + r.val % 2048; omega) (by show y.val = 0 + (y.val / 128 * 128 + y.val % 128); omega)]
    rfl
  · rw [if_neg h]
    by_cases h' : y.val < 4096
    · rw [if_pos h', concatenate_apply_piece (t := S8192x6144) (1 : Fin 2) (pieces x w) _ (ix2 r y) 1 (show 1 < 3 by decide) S8192x2048 (val_main_v53 (F := Ideal) x w) rfl rfl 2048 rfl
        (ix2 r (⟨y.val - 2048, by omega⟩ : Fin 2048))
        (fun b hb => match b with
          | ⟨0, _⟩ => rfl
          | ⟨1, _⟩ => absurd rfl hb)
        (by show 2048 + (y.val - 2048) = y.val; omega)]
      have e : idx_main_v53 (ix2 r (⟨y.val - 2048, by omega⟩ : Fin 2048)) = ix4 ⟨r.val / 2048, by omega⟩ ⟨r.val % 2048, by omega⟩ ⟨(y.val - 2048) / 128, by omega⟩ ⟨y.val % 128, by omega⟩ := by
        funext a
        match a with
        | ⟨0, _⟩ => refine Fin.ext ?_; show (r.val * 2048 + (y.val - 2048)) / 4194304 = r.val / 2048; omega
        | ⟨1, _⟩ => refine Fin.ext ?_; show (r.val * 2048 + (y.val - 2048)) / 2048 % 2048 = r.val % 2048; omega
        | ⟨2, _⟩ => refine Fin.ext ?_; show (r.val * 2048 + (y.val - 2048)) / 128 % 16 = (y.val - 2048) / 128; omega
        | ⟨3, _⟩ => refine Fin.ext ?_; show (r.val * 2048 + (y.val - 2048)) % 128 = y.val % 128; omega
      rw [val_main_v53_apply, e]
      exact k_turned x w _ _ _ _ r y (by show r.val = r.val / 2048 * 2048 + r.val % 2048; omega) (by show y.val = 2048 + ((y.val - 2048) / 128 * 128 + y.val % 128); omega)
    · rw [if_neg h', concatenate_apply_piece (t := S8192x6144) (1 : Fin 2) (pieces x w) _ (ix2 r y) 2 (show 2 < 3 by decide) S8192x2048 (val_main_v5 (F := Ideal) x w) rfl rfl 4096 rfl
        (ix2 r (⟨y.val - 4096, by omega⟩ : Fin 2048))
        (fun b hb => match b with
          | ⟨0, _⟩ => rfl
          | ⟨1, _⟩ => absurd rfl hb)
        (by show 4096 + (y.val - 4096) = y.val; omega)]
      rw [val_main_v5_apply, ← dot_apply]
      refine congrArg _ ?_
      funext a
      match a with
      | ⟨0, _⟩ => rfl
      | ⟨1, _⟩ => refine Fin.ext ?_; show 4096 + (y.val - 4096) = y.val; omega

end Cert.Proof.ProjRope.Ref

end
-- ==== Proof.ProjRope.Array.lean ====
/-
  The array the attention's projection leaves: the grid's points tile by tile, each from the weights' columns that the first
  point of a column tile keeps.
-/
module

public import proofs.«01_k».proof.Defs
public import proofs.«01_k».proof.Proof.ProjRope.Spec
public import proofs.«01_k».proof.Proof.ProjRope.Body
public import proofs.«01_k».proof.Proof.ProjRope.Ref
public import proofs.«01_k».proof.Proof.Gen.ProjRopeIdeal.Value
public import Idealize.ShloMosaic.Lib.Pointwise
public import Idealize.ShloMosaic.Lib.ValueIdx
public import Idealize.ShloMosaic.Lib.Pipeline.ValueKit.Acc
public import Idealize.ShloMosaic.Lib.StableHlo.Run
public import Idealize.ShloMosaic.Lib.IdealHost
public import Idealize.ShloMosaic.Lib.KernelVsHost

@[expose] public section

set_option maxRecDepth 16384

noncomputable section

namespace Cert.Proof.ProjRope

open Idealize.ShloMosaic Idealize.SL.Sem Cert.ProjRopeIdeal Cert.ProjRopeIdeal.Gen Cert.ProjRopeIdeal.Value Idealize.ShloMosaic.TcCoe

variable (m : (ℓ : Loc nD τ sig) → Buf (Elt Ideal) ℓ) (c : Dev nD)

/-- The rows. -/
abbrev argX : (⟨2, ![8192, 2048]⟩ : Shape).Idx → EReal := m ((c.tc : Thread nD τ).loc main_arg0)
/-- The weights. -/
abbrev argW : (⟨3, ![1, 2048, 6144]⟩ : Shape).Idx → EReal := m ((c.tc : Thread nD τ).loc main_arg1)

/-! ## The tables when the grid is entered -/

/-- The signs by column of a head. -/
def signs : FVec Ideal S128 .f32 :=
  select (cmpi .slt (iotaInDim S128 32 0) (broadcastInDim S128 ![] bcast_S_S128 (constantI S_ 32 64#32)))
    (broadcastInDim S128 ![] bcast_S_S128 (constant (F := Ideal) S_ .f32 0xBF800000#32))
    (broadcastInDim S128 ![] bcast_S_S128 (constant (F := Ideal) S_ .f32 0x3F800000#32))

set_option maxHeartbeats 1000000 in
/-- The table of cosines is the reference's. -/
theorem cos_eq : V m c main_v23 = (Ref.cosT : FVec Ideal S2048x128 .f32) := by
  unfold V
  simp only [hostOps0, hostOps0_1, hostOps0_2, List.flatten_cons, List.flatten_nil, List.append_nil, List.cons_append, List.nil_append]
  after_results
  rfl

set_option maxHeartbeats 1000000 in
/-- The table of sines is the reference's, with the signs. -/
theorem sin_eq : V m c main_v27 = (mulf (Ref.sinT : FVec Ideal S2048x128 .f32)
    (broadcastInDim S2048x128 ![0, 1] bcast_S1x128_S2048x128_0_1 (broadcastInDim S1x128 ![1] bcast_S128_S1x128_1 signs)) : FVec Ideal S2048x128 .f32) := by
  unfold V
  simp only [hostOps0, hostOps0_1, hostOps0_2, List.flatten_cons, List.flatten_nil, List.append_nil, List.cons_append, List.nil_append]
  after_results
  rfl

/-- Minus one. -/
theorem neg_one_word : Ideal.ofBits .f32 0xBF800000#32 = (-1 : EReal) := by
  rw [show (-1 : EReal) = ((-(1 : ℝ) : ℝ) : EReal) by rw [EReal.coe_neg, EReal.coe_one]]
  simp [Ideal.ofBits, Ideal.ieee, -EReal.coe_mul, -EReal.coe_neg]; norm_num

/-- Whether a column lies in the first half of a head, as a word. -/
theorem half_word : ∀ d : Fin 128, Scalar.cmpi .slt (BitVec.ofNat 32 d.val) 64#32 = if d.val < 64 then 1#1 else 0#1 := by decide +kernel

/-- An entry of the table of sines. -/
theorem sin_apply (s : Fin 2048) (d : Fin 128) :
    V m c main_v27 (ix2 s d) = (Ref.sinT (ix2 s d) * (if d.val < 64 then -1 else 1) : EReal) := by
  rw [sin_eq]
  show (Ref.sinT (ix2 s d) * broadcastInDim S2048x128 ![0, 1] bcast_S1x128_S2048x128_0_1 (broadcastInDim S1x128 ![1] bcast_S128_S1x128_1 signs) (ix2 s d) : EReal) = _
  refine congrArg _ ?_
  rw [broadcastInDim_apply _ bcast_S1x128_S2048x128_0_1 _ (ix2 s d) (ix2 (0 : Fin 1) d) (fun a => match a with
      | ⟨0, _⟩ => rfl
      | ⟨1, _⟩ => rfl),
    broadcastInDim_apply _ bcast_S128_S1x128_1 _ (ix2 (0 : Fin 1) d) (ix1 d) (fun a => match a with
      | ⟨0, _⟩ => rfl)]
  show (Scalar.select (Scalar.cmpi .slt (BitVec.ofNat 32 d.val) 64#32) (Ideal.ofBits .f32 0xBF800000#32) (Ideal.ofBits .f32 0x3F800000#32) : EReal) = _
  rw [half_word, neg_one_word, Ideal.ofBits_one_f32]
  by_cases h : d.val < 64
  · rw [if_pos h, if_pos h]; rfl
  · rw [if_neg h, if_neg h]; rfl

/-! ## The blocks of a point -/

/-- Each point's rows. -/
theorem idx0 : ∀ t : Fin cfg0.N, win0_0.index t (0 : Fin 2) = t.val % 8 ∧ win0_0.index t (1 : Fin 2) = 0 :=
  (by decide +kernel : ∀ t : Fin grid0.N, _)
/-- Each point's columns of the weights. -/
theorem idx1 : ∀ t : Fin cfg0.N,
    win0_1.index t (0 : Fin 3) = 0 ∧ win0_1.index t (1 : Fin 3) = 0 ∧ win0_1.index t (2 : Fin 3) = t.val / 8 :=
  (by decide +kernel : ∀ t : Fin grid0.N, _)
/-- Each point's positions in the table of cosines. -/
theorem idx2 : ∀ t : Fin cfg0.N, win0_2.index t (0 : Fin 2) = t.val % 2 ∧ win0_2.index t (1 : Fin 2) = 0 :=
  (by decide +kernel : ∀ t : Fin grid0.N, _)
/-- Each point's positions in the table of sines. -/
theorem idx3 : ∀ t : Fin cfg0.N, win0_3.index t (0 : Fin 2) = t.val % 2 ∧ win0_3.index t (1 : Fin 2) = 0 :=
  (by decide +kernel : ∀ t : Fin grid0.N, _)

/-- An entry of a point's rows. -/
theorem iblk0 (t : Fin cfg0.N) (r : Fin 1024) (k : Fin 2048) (R : Fin 8192) (hR : R.val = t.val % 8 * 1024 + r.val) :
    iblk m c 0 t (ix2 r k) = argX m c (ix2 R k) := by
  obtain ⟨e0, e1⟩ := idx0 t
  unfold iblk
  show V m c main_arg0 (((cfg0.win 0).blk t).view.emb (ix2 r k)) = _
  rw [V_main_arg0]
  refine congrArg (m ((c.tc : Thread nD τ).loc main_arg0)) ?_
  have hb0 : (((cfg0.win 0).blk t).view.emb (ix2 r k) 0).val = win0_0.index t (0 : Fin 2) * 1024 + 1 * r.val := rfl
  have hb1 : (((cfg0.win 0).blk t).view.emb (ix2 r k) 1).val = win0_0.index t (1 : Fin 2) * 2048 + 1 * k.val := rfl
  rw [e0] at hb0
  rw [e1] at hb1
  funext a
  match a with
  | ⟨0, _⟩ => exact Fin.ext (hb0.trans (by show _ = R.val; omega))
  | ⟨1, _⟩ => exact Fin.ext (hb1.trans (by show _ = k.val; omega))

/-- An entry of a point's columns of the weights. -/
theorem iblk1 (t : Fin cfg0.N) (k : Fin 2048) (y : Fin 1024) (Y : Fin 6144) (hY : Y.val = t.val / 8 * 1024 + y.val) :
    iblk m c 1 t (ix3 0 k y) = argW m c (ix3 0 k Y) := by
  obtain ⟨e0, e1, e2⟩ := idx1 t
  unfold iblk
  show V m c main_arg1 (((cfg0.win 1).blk t).view.emb (ix3 0 k y)) = _
  rw [V_main_arg1]
  refine congrArg (m ((c.tc : Thread nD τ).loc main_arg1)) ?_
  have hb0 : (((cfg0.win 1).blk t).view.emb (ix3 0 k y) 0).val = win0_1.index t (0 : Fin 3) * 1 + 1 * 0 := rfl
  have hb1 : (((cfg0.win 1).blk t).view.emb (ix3 0 k y) 1).val = win0_1.index t (1 : Fin 3) * 2048 + 1 * k.val := rfl
  have hb2 : (((cfg0.win 1).blk t).view.emb (ix3 0 k y) 2).val = win0_1.index t (2 : Fin 3) * 1024 + 1 * y.val := rfl
  rw [e0] at hb0
  rw [e1] at hb1
  rw [e2] at hb2
  funext b
  match b with
  | ⟨0, _⟩ => exact Fin.ext (hb0.trans rfl)
  | ⟨1, _⟩ => exact Fin.ext (hb1.trans (by show _ = k.val; omega))
  | ⟨2, _⟩ => exact Fin.ext (hb2.trans (by show _ = Y.val; omega))

/-- An entry of a point's block of the cosines. -/
theorem iblk2 (t : Fin cfg0.N) (r : Fin 1024) (d : Fin 128) (s : Fin 2048) (hs : s.val = t.val % 2 * 1024 + r.val) :
    iblk m c 2 t (ix2 r d) = Ref.cosT (ix2 s d) := by
  obtain ⟨e0, e1⟩ := idx2 t
  unfold iblk
  show V m c main_v23 (((cfg0.win 2).blk t).view.emb (ix2 r d)) = _
  rw [cos_eq]
  refine congrArg Ref.cosT ?_
  have hb0 : (((cfg0.win 2).blk t).view.emb (ix2 r d) 0).val = win0_2.index t (0 : Fin 2) * 1024 + 1 * r.val := rfl
  have hb1 : (((cfg0.win 2).blk t).view.emb (ix2 r d) 1).val = win0_2.index t (1 : Fin 2) * 128 + 1 * d.val := rfl
  rw [e0] at hb0
  rw [e1] at hb1
  funext a
  match a with
  | ⟨0, _⟩ => exact Fin.ext (hb0.trans (by show _ = s.val; omega))
  | ⟨1, _⟩ => exact Fin.ext (hb1.trans (by show _ = d.val; omega))

/-- An entry of a point's block of the sines. -/
theorem iblk3 (t : Fin cfg0.N) (r : Fin 1024) (d : Fin 128) (s : Fin 2048) (hs : s.val = t.val % 2 * 1024 + r.val) :
    iblk m c 3 t (ix2 r d) = (Ref.sinT (ix2 s d) * (if d.val < 64 then -1 else 1) : EReal) := by
  obtain ⟨e0, e1⟩ := idx3 t
  rw [← sin_apply m c s d]
  unfold iblk
  show V m c main_v27 (((cfg0.win 3).blk t).view.emb (ix2 r d)) = _
  refine congrArg (V m c main_v27) ?_
  have hb0 : (((cfg0.win 3).blk t).view.emb (ix2 r d) 0).val = win0_3.index t (0 : Fin 2) * 1024 + 1 * r.val := rfl
  have hb1 : (((cfg0.win 3).blk t).view.emb (ix2 r d) 1).val = win0_3.index t (1 : Fin 2) * 128 + 1 * d.val := rfl
  rw [e0] at hb0
  rw [e1] at hb1
  funext a
  match a with
  | ⟨0, _⟩ => exact Fin.ext (hb0.trans (by show _ = s.val; omega))
  | ⟨1, _⟩ => exact Fin.ext (hb1.trans (by show _ = d.val; omega))

/-! ## What a point computes -/

/-- A point's product, from the weights' columns that are kept. -/
theorem pdot_eq (t : Fin cfg0.N) (w : Vec Ideal S2048x1024 .bf16)
    (hw : ∀ (k : Fin 2048) (y : Fin 1024) (Y : Fin 6144), Y.val = t.val / 8 * 1024 + y.val → w (ix2 k y) = argW m c (ix3 0 k Y))
    (r : Fin 1024) (y : Fin 1024) (R : Fin 8192) (Y : Fin 6144)
    (hR : R.val = t.val % 8 * 1024 + r.val) (hY : Y.val = t.val / 8 * 1024 + y.val) :
    pdot (iblk m c 0 t) w r y = prod (argX m c) (argW m c) R Y := by
  unfold pdot prod
  refine Finset.sum_congr rfl fun k _ => ?_
  rw [iblk0 m c t r k R hR, hw k y Y hY]

/-- A number times minus another. -/
theorem swap_sign (p s : EReal) (b : Prop) [Decidable b] : p * (s * (if b then -1 else 1)) = (if b then -p else p) * s := by
  by_cases h : b
  · rw [if_pos h, if_pos h, mul_neg, mul_one, mul_neg, neg_mul]
  · rw [if_neg h, if_neg h, mul_one]

/-- A point of the column tiles of queries and keys. -/
theorem point_turned (t : Fin cfg0.N) (ht : t.val < 32) (w : Vec Ideal S2048x1024 .bf16)
    (hw : ∀ (k : Fin 2048) (y : Fin 1024) (Y : Fin 6144), Y.val = t.val / 8 * 1024 + y.val → w (ix2 k y) = argW m c (ix3 0 k Y))
    (r : Fin 1024) (y : Fin 1024) (R : Fin 8192) (Y : Fin 6144)
    (hR : R.val = t.val % 8 * 1024 + r.val) (hY : Y.val = t.val / 8 * 1024 + y.val) :
    goal (k0_pay6 (iblk m c 2 t)) (k0_pay7 (iblk m c 3 t)) (k0_pay8 (F := Ideal) (BitVec.ofNat 32 ((grid0.coords t) 0).val)) (iblk m c 0 t) w (ix2 r y)
      = result (argX m c) (argW m c) Ref.cosT Ref.sinT R Y := by
  have hr := r.isLt
  have hy := y.isLt
  have hs : (⟨R.val % 2048, by omega⟩ : Fin 2048).val = t.val % 2 * 1024 + r.val := by show R.val % 2048 = _; omega
  have hd : (⟨Y.val % 128, by omega⟩ : Fin 128) = ⟨y.val % 128, by omega⟩ := Fin.ext (by show Y.val % 128 = y.val % 128; omega)
  have hm : (partner Y).val = t.val / 8 * 1024 + (mate y).val := by
    show Y.val / 128 * 128 + (Y.val % 128 + 64) % 128 = t.val / 8 * 1024 + (y.val / 128 * 128 + (y.val % 128 + 64) % 128)
    omega
  have hg : goal (k0_pay6 (iblk m c 2 t)) (k0_pay7 (iblk m c 3 t)) (k0_pay8 (F := Ideal) (BitVec.ofNat 32 ((grid0.coords t) 0).val)) (iblk m c 0 t) w (ix2 r y)
      = turned (argX m c) (argW m c) Ref.cosT Ref.sinT R Y * (if t.val / 8 < 2 then scale else 1) := by
    show (pdot (iblk m c 0 t) w r y * k0_pay6 (F := Ideal) (iblk m c 2 t) (ix2 r (⟨y.val % 128, by omega⟩ : Fin 128))
      + pdot (iblk m c 0 t) w r (mate y) * k0_pay7 (F := Ideal) (iblk m c 3 t) (ix2 r (⟨y.val % 128, by omega⟩ : Fin 128)))
      * (k0_pay8 (F := Ideal) (BitVec.ofNat 32 ((grid0.coords t) 0).val) : EReal) = _
    rw [scale_point t, pay6_apply, pay7_apply, iblk2 m c t r _ _ hs, iblk3 m c t r _ _ hs, pdot_eq m c t w hw r y R Y hR hY,
      pdot_eq m c t w hw r (mate y) R (partner Y) hR hm, swap_sign]
    unfold turned
    rw [hd]
    simp only [show Y.val % 128 = y.val % 128 from by omega]
  rw [hg]
  unfold result
  by_cases h : t.val / 8 < 2
  · rw [if_pos h, if_pos (by omega : Y.val < 2048)]
  · rw [if_neg h, if_neg (by omega : ¬Y.val < 2048), if_pos (by omega : Y.val < 4096), mul_one]

/-- A point of the column tiles of values. -/
theorem point_plain (t : Fin cfg0.N) (ht : 32 ≤ t.val) (w : Vec Ideal S2048x1024 .bf16)
    (hw : ∀ (k : Fin 2048) (y : Fin 1024) (Y : Fin 6144), Y.val = t.val / 8 * 1024 + y.val → w (ix2 k y) = argW m c (ix3 0 k Y))
    (r : Fin 1024) (y : Fin 1024) (R : Fin 8192) (Y : Fin 6144)
    (hR : R.val = t.val % 8 * 1024 + r.val) (hY : Y.val = t.val / 8 * 1024 + y.val) :
    k0_pay5 (F := Ideal) (iblk m c 0 t) w (ix2 r y) = result (argX m c) (argW m c) Ref.cosT Ref.sinT R Y := by
  rw [pay5_apply, pdot_eq m c t w hw r y R Y hR hY]
  unfold result
  rw [if_neg (by omega : ¬Y.val < 2048), if_neg (by omega : ¬Y.val < 4096)]

/-- What is kept and what the result block holds after point `n`. -/
theorem state : ∀ (n : ℕ) (hn : n < cfg0.N),
    (∀ (k : Fin 2048) (y : Fin 1024) (Y : Fin 6144), Y.val = n / 8 * 1024 + y.val → (outsAt0 m c n hn).2 (ix2 k y) = argW m c (ix3 0 k Y))
    ∧ (∀ (r : Fin 1024) (y : Fin 1024) (R : Fin 8192) (Y : Fin 6144), R.val = n % 8 * 1024 + r.val → Y.val = n / 8 * 1024 + y.val →
        (outsAt0 m c n hn).1 (ix2 r y) = result (argX m c) (argW m c) Ref.cosT Ref.sinT R Y) := by
  intro n
  induction n using Nat.strong_induction_on with
  | _ n ih =>
    intro hn
    by_cases h0 : n % 8 = 0
    · have hw : ∀ (k : Fin 2048) (y : Fin 1024) (Y : Fin 6144), Y.val = n / 8 * 1024 + y.val →
          k0_pay1 (F := Ideal) (iblk m c 1 ⟨n, hn⟩) (ix2 k y) = argW m c (ix3 0 k Y) := fun k y Y hY => by
        rw [pay1_apply, iblk1 m c ⟨n, hn⟩ k y Y hY]
      by_cases h1 : n < 32
      · rw [outsAt0_A m c ⟨n, hn⟩ h0 h1 (by show ¬32 ≤ n; omega)]
        refine ⟨fun k y Y hY => ?_, fun r y R Y hR hY => ?_⟩
        · frame_out
          exact hw k y Y hY
        · dsimp only
          refine (outA c ⟨n, hn⟩ (iblk m c 0 ⟨n, hn⟩) (iblk m c 1 ⟨n, hn⟩) (iblk m c 2 ⟨n, hn⟩) (iblk m c 3 ⟨n, hn⟩) _ _ _ (ix2 r y)).trans ?_
          exact (point_turned m c ⟨n, hn⟩ h1 _ hw r y R Y hR hY)
      · rw [outsAt0_C m c ⟨n, hn⟩ h0 h1 (by show 32 ≤ n; omega)]
        refine ⟨fun k y Y hY => ?_, fun r y R Y hR hY => ?_⟩
        · frame_out
          exact hw k y Y hY
        · frame_out
          exact point_plain m c ⟨n, hn⟩ (by show 32 ≤ n; omega) _ hw r y R Y hR hY
    · have hn' : n - 1 < cfg0.N := by omega
      have hq : (n - 1) / 8 = n / 8 := by omega
      have ihw := (ih (n - 1) (by omega) hn').1
      rw [hq] at ihw
      by_cases h1 : n < 32
      · rw [outsAt0_B m c ⟨n, hn⟩ h0 h1 (by show ¬32 ≤ n; omega)]
        refine ⟨fun k y Y hY => ihw k y Y hY, fun r y R Y hR hY => ?_⟩
        dsimp only
        refine (outB c ⟨n, hn⟩ (iblk m c 0 ⟨n, hn⟩) (iblk m c 1 ⟨n, hn⟩) (iblk m c 2 ⟨n, hn⟩) (iblk m c 3 ⟨n, hn⟩) (outsAt0 m c (n - 1) hn').2 _ _ _ (ix2 r y)).trans ?_
        exact (point_turned m c ⟨n, hn⟩ h1 _ ihw r y R Y hR hY)
      · rw [outsAt0_D m c ⟨n, hn⟩ h0 h1 (by show 32 ≤ n; omega)]
        refine ⟨fun k y Y hY => ihw k y Y hY, fun r y R Y hR hY => ?_⟩
        frame_out
        rw [(Memref.isWhole_whole cc0_scratch0).read_unread]
        exact point_plain m c ⟨n, hn⟩ (by show 32 ≤ n; omega) _ ihw r y R Y hR hY

/-- The result array. -/
theorem G4_apply (r : Fin 8192) (y : Fin 6144) : G4 m c (ix2 r y) = result (argX m c) (argW m c) Ref.cosT Ref.sinT r y := by
  have hr := r.isLt
  have hy := y.isLt
  have hp : pt4Of (ix2 r y) = r.val / 1024 + 8 * (y.val / 1024) := by
    show 1 * (r.val / 1024 - 0) + 8 * (y.val / 1024 - 0) = _
    omega
  have hl : loc4Of (ix2 r y) = ix2 ⟨r.val % 1024, Nat.mod_lt _ (by decide)⟩ ⟨y.val % 1024, Nat.mod_lt _ (by decide)⟩ := by
    funext a
    match a with
    | ⟨0, _⟩ => rfl
    | ⟨1, _⟩ => rfl
  have hN : pt4Of (ix2 r y) < cfg0.N := lt_of_lt_of_eq (b := 6 * 8) (by rw [hp]; omega) N_0.symm
  unfold G4
  rw [dif_pos hN, hl, ← outsAt0_sweep m c _ hN]
  refine (state m c _ hN).2 _ _ r y ?_ ?_
  · show r.val = pt4Of (ix2 r y) % 8 * 1024 + r.val % 1024
    rw [hp]; omega
  · show y.val = pt4Of (ix2 r y) / 8 * 1024 + y.val % 1024
    rw [hp]; omega

end Cert.Proof.ProjRope

end
-- ==== Proof.ProjRope.Claim.lean ====
/-
  The projection into the attention: the claims.
-/
module

public import proofs.«01_k».proof.Defs
public import proofs.«01_k».proof.Proof.ProjRope.Array
public import proofs.«01_k».proof.Proof.ProjRope.Ref
public import proofs.«01_k».proof.Proof.Gen.ProjRope
public import proofs.«01_k».proof.Proof.Gen.ProjRopeIdeal.Value
public import proofs.«01_k».proof.Proof.Gen.ProjRopeRefIdeal.Read
public import proofs.«01_k».proof.Proof.Gen.ProjRopeRefIdeal.Run

@[expose] public section

set_option maxRecDepth 16384

noncomputable section

namespace Cert.Proof.ProjRope

open Idealize.ShloMosaic Idealize.SL.Sem Idealize.ShloMosaic.TcCoe

/-- From equal arguments the kernel and the reference end with equal results and their arguments unchanged. -/
theorem algebraic : Cert.algebraic_ProjRopeIdeal_ProjRopeRefIdeal (hProjRopeIdeal := Cert.ProjRopeIdeal.Gen.facts)
    (hProjRopeRefIdeal := Cert.ProjRopeRefIdeal.Gen.facts) := by
  intro m g m' g' _ hargs
  refine ⟨fun c => Cert.ProjRopeIdeal.Value.G4 m c, Cert.ProjRopeIdeal.Value.run (F := Ideal) m g, ?_⟩
  refine (θ_run (Cert.ProjRopeRefIdeal.defs (F := Ideal)) _ _).mono (fun r h c => ?_) (Cert.ProjRopeRefIdeal.Value.run (F := Ideal) m' g')
  refine ⟨(h c).1.trans ?_, (h c).2⟩
  obtain ⟨e0, e1⟩ := hargs c
  refine (Cert.ProjRopeRefIdeal.Read.val_main_v55_eq (F := Ideal) _ _).trans ?_
  rw [e0, e1]
  refine funext fun i => ?_
  have hi : i = ix2 (n0 := 8192) (n1 := 6144) (i 0) (i 1) := by
    funext a
    match a with
    | ⟨0, _⟩ => rfl
    | ⟨1, _⟩ => rfl
  rw [hi]
  refine (Ref.result_apply (argX m c) (argW m c) (i 0) (i 1)).trans ?_
  exact (G4_apply m c (i 0) (i 1)).symm

/-- The reference runs and leaves its arguments as they were. -/
theorem frame_ref : Cert.quiescent_ProjRopeRefIdeal (hProjRopeRefIdeal := Cert.ProjRopeRefIdeal.Gen.facts) := by
  intro m ρ _
  exact (θ_run Cert.ProjRopeRefIdeal.defs _ _).mono
    (fun r h => ⟨fun c => (h c).2, sem_eq_zero_of_no_sems (by decide) r.2⟩) (Cert.ProjRopeRefIdeal.Value.run (F := Ideal) m ρ)

section Frame

variable {F : FTy → Type} [FloatOps F]

local instance factsOne : Cert.ProjRope.Facts := Cert.ProjRope.Gen.facts
local instance factsTwo : Cert.ProjRopeIdeal.Facts := Cert.ProjRopeIdeal.Gen.facts

/-- The two instances of the program have the same bodies. -/
theorem bodies_eq : Cert.ProjRope.defs₀ (F := F) = Cert.ProjRopeIdeal.defs₀ (F := F) := by
  unfold Cert.ProjRope.defs₀ Cert.ProjRopeIdeal.defs₀
  refine congrArg Defs.onTc (funext fun x => funext fun a => ?_)
  match x, a with
  | ⟨0, _⟩, (t, s) => rfl
  | ⟨n + 1, h⟩, _ => exact absurd h (Nat.not_lt.2 (Nat.le_add_left _ _))

/-- The two instances of the program have the same definitions. -/
theorem defs_eq : Cert.ProjRope.defs (F := F) = Cert.ProjRopeIdeal.defs (F := F) :=
  congrArg (Pipeline.defs Cert.ProjRope.pcfgs) bodies_eq

/-- The program runs on the machine's numbers and leaves its arguments as they were: the run is the one for any numbers. -/
theorem frame_bits : Cert.quiescent_ProjRope (hProjRope := Cert.ProjRope.Gen.facts) := fun m ρ _ => by
  rw [defs_eq]
  exact Cert.ProjRopeIdeal.Gen.frame m ρ

end Frame

end Cert.Proof.ProjRope

end
-- ==== Proof.OutGdn.Claim.lean ====
/-
  The output projection of the gated delta rule, 4096 columns in: each result entry is the residual's plus the product of a row and a column
  of the weights.

  The first point of a block of result columns keeps the weights' columns; the points after it use what is kept.
-/
module

public import proofs.«01_k».proof.Defs
public import proofs.«01_k».proof.Proof.Gen.OutGdn
public import proofs.«01_k».proof.Proof.Gen.OutGdnIdeal.Value
public import proofs.«01_k».proof.Proof.Gen.OutGdnRefIdeal.Read
public import proofs.«01_k».proof.Proof.Gen.OutGdnRefIdeal.Run
public import Idealize.ShloMosaic.Lib.Pointwise
public import Idealize.ShloMosaic.Lib.ValueIdx
public import Idealize.ShloMosaic.Lib.Pipeline.ValueKit.Acc
public import Idealize.ShloMosaic.Lib.StableHlo.Run
public import Idealize.ShloMosaic.Lib.IdealHost

@[expose] public section

set_option maxRecDepth 16384

noncomputable section

namespace Cert.Proof.OutGdn

open Idealize.ShloMosaic Idealize.SL.Sem Cert.OutGdnIdeal Cert.OutGdnIdeal.Gen Cert.OutGdnIdeal.Value Idealize.ShloMosaic.TcCoe

/-! ## What a point computes -/

/-- The weights' columns of a point. -/
theorem pay1_apply (w : Vec Ideal S1x4096x1024 .f32) (k : Fin 4096) (y : Fin 1024) : k0_pay1 (F := Ideal) w (ix2 k y) = w (ix3 0 k y) := by
  pointwise [k0_pay1]

/-- The residual plus the product. -/
theorem pay2_apply (h : Vec Ideal S512x1024 .f32) (x : Vec Ideal S512x4096 .bf16) (w : Vec Ideal S4096x1024 .bf16) (r : Fin 512) (y : Fin 1024) :
    k0_pay2 (F := Ideal) h x w (ix2 r y) = (h (ix2 r y) : EReal) + ∑ k : Fin 4096, (x (ix2 r k) : EReal) * (w (ix2 k y) : EReal) := by
  pointwise [k0_pay2]

/-! ## The result array -/

/-- One result entry: the residual's plus the product of a row and a column. -/
def lin (x : (⟨2, ![8192, 4096]⟩ : Shape).Idx → EReal) (w : (⟨3, ![1, 4096, 2048]⟩ : Shape).Idx → EReal)
    (h : (⟨2, ![8192, 2048]⟩ : Shape).Idx → EReal) (r : Fin 8192) (y : Fin 2048) : EReal :=
  h (ix2 r y) + ∑ k : Fin 4096, x (ix2 r k) * w (ix3 0 k y)

variable (m : (ℓ : Loc nD τ sig) → Buf (Elt Ideal) ℓ) (c : Dev nD)

/-- The rows. -/
abbrev argX : (⟨2, ![8192, 4096]⟩ : Shape).Idx → EReal := m ((c.tc : Thread nD τ).loc main_arg0)
/-- The weights. -/
abbrev argW : (⟨3, ![1, 4096, 2048]⟩ : Shape).Idx → EReal := m ((c.tc : Thread nD τ).loc main_arg1)
/-- The residual. -/
abbrev argH : (⟨2, ![8192, 2048]⟩ : Shape).Idx → EReal := m ((c.tc : Thread nD τ).loc main_arg2)

/-- Each point's rows. -/
theorem idx0 : ∀ t : Fin cfg0.N, win0_0.index t (0 : Fin 2) = t.val % 16 ∧ win0_0.index t (1 : Fin 2) = 0 :=
  (by decide +kernel : ∀ t : Fin grid0.N, _)
/-- Each point's columns of the weights. -/
theorem idx1 : ∀ t : Fin cfg0.N,
    win0_1.index t (0 : Fin 3) = 0 ∧ win0_1.index t (1 : Fin 3) = 0 ∧ win0_1.index t (2 : Fin 3) = t.val / 16 :=
  (by decide +kernel : ∀ t : Fin grid0.N, _)
/-- Each point's block of the residual. -/
theorem idx2 : ∀ t : Fin cfg0.N, win0_2.index t (0 : Fin 2) = t.val % 16 ∧ win0_2.index t (1 : Fin 2) = t.val / 16 :=
  (by decide +kernel : ∀ t : Fin grid0.N, _)

/-- An entry of a point's rows. -/
theorem iblk0 (t : Fin cfg0.N) (r : Fin 512) (k : Fin 4096) (R : Fin 8192) (hR : R.val = t.val % 16 * 512 + r.val) :
    iblk m c 0 t (ix2 r k) = argX m c (ix2 R k) := by
  obtain ⟨e0, e1⟩ := idx0 t
  unfold iblk
  show V m c main_arg0 (((cfg0.win 0).blk t).view.emb (ix2 r k)) = _
  rw [V_main_arg0]
  refine congrArg (m ((c.tc : Thread nD τ).loc main_arg0)) ?_
  have hb0 : (((cfg0.win 0).blk t).view.emb (ix2 r k) 0).val = win0_0.index t (0 : Fin 2) * 512 + 1 * r.val := rfl
  have hb1 : (((cfg0.win 0).blk t).view.emb (ix2 r k) 1).val = win0_0.index t (1 : Fin 2) * 4096 + 1 * k.val := rfl
  rw [e0] at hb0
  rw [e1] at hb1
  funext a
  match a with
  | ⟨0, _⟩ => exact Fin.ext (hb0.trans (by show _ = R.val; omega))
  | ⟨1, _⟩ => exact Fin.ext (hb1.trans (by show _ = k.val; omega))

/-- An entry of a point's columns of the weights. -/
theorem iblk1 (t : Fin cfg0.N) (k : Fin 4096) (y : Fin 1024) (Y : Fin 2048) (hY : Y.val = t.val / 16 * 1024 + y.val) :
    iblk m c 1 t (ix3 0 k y) = argW m c (ix3 0 k Y) := by
  obtain ⟨e0, e1, e2⟩ := idx1 t
  unfold iblk
  show V m c main_arg1 (((cfg0.win 1).blk t).view.emb (ix3 0 k y)) = _
  rw [V_main_arg1]
  refine congrArg (m ((c.tc : Thread nD τ).loc main_arg1)) ?_
  have hb0 : (((cfg0.win 1).blk t).view.emb (ix3 0 k y) 0).val = win0_1.index t (0 : Fin 3) * 1 + 1 * 0 := rfl
  have hb1 : (((cfg0.win 1).blk t).view.emb (ix3 0 k y) 1).val = win0_1.index t (1 : Fin 3) * 4096 + 1 * k.val := rfl
  have hb2 : (((cfg0.win 1).blk t).view.emb (ix3 0 k y) 2).val = win0_1.index t (2 : Fin 3) * 1024 + 1 * y.val := rfl
  rw [e0] at hb0
  rw [e1] at hb1
  rw [e2] at hb2
  funext b
  match b with
  | ⟨0, _⟩ => exact Fin.ext (hb0.trans rfl)
  | ⟨1, _⟩ => exact Fin.ext (hb1.trans (by show _ = k.val; omega))
  | ⟨2, _⟩ => exact Fin.ext (hb2.trans (by show _ = Y.val; omega))

/-- An entry of a point's block of the residual. -/
theorem iblk2 (t : Fin cfg0.N) (r : Fin 512) (y : Fin 1024) (R : Fin 8192) (Y : Fin 2048)
    (hR : R.val = t.val % 16 * 512 + r.val) (hY : Y.val = t.val / 16 * 1024 + y.val) :
    iblk m c 2 t (ix2 r y) = argH m c (ix2 R Y) := by
  obtain ⟨e0, e1⟩ := idx2 t
  unfold iblk
  show V m c main_arg2 (((cfg0.win 2).blk t).view.emb (ix2 r y)) = _
  rw [V_main_arg2]
  refine congrArg (m ((c.tc : Thread nD τ).loc main_arg2)) ?_
  have hb0 : (((cfg0.win 2).blk t).view.emb (ix2 r y) 0).val = win0_2.index t (0 : Fin 2) * 512 + 1 * r.val := rfl
  have hb1 : (((cfg0.win 2).blk t).view.emb (ix2 r y) 1).val = win0_2.index t (1 : Fin 2) * 1024 + 1 * y.val := rfl
  rw [e0] at hb0
  rw [e1] at hb1
  funext a
  match a with
  | ⟨0, _⟩ => exact Fin.ext (hb0.trans (by show _ = R.val; omega))
  | ⟨1, _⟩ => exact Fin.ext (hb1.trans (by show _ = Y.val; omega))

/-- What a point computes from the weights' columns that are kept. -/
theorem point (t : Fin cfg0.N) (w : Vec Ideal S4096x1024 .bf16)
    (hw : ∀ (k : Fin 4096) (y : Fin 1024) (Y : Fin 2048), Y.val = t.val / 16 * 1024 + y.val → w (ix2 k y) = argW m c (ix3 0 k Y))
    (r : Fin 512) (y : Fin 1024) (R : Fin 8192) (Y : Fin 2048)
    (hR : R.val = t.val % 16 * 512 + r.val) (hY : Y.val = t.val / 16 * 1024 + y.val) :
    k0_pay2 (F := Ideal) (iblk m c 2 t) (iblk m c 0 t) w (ix2 r y) = lin (argX m c) (argW m c) (argH m c) R Y := by
  rw [pay2_apply, iblk2 m c t r y R Y hR hY]
  unfold lin
  refine congrArg _ (Finset.sum_congr rfl fun k _ => ?_)
  rw [iblk0 m c t r k R hR, hw k y Y hY]

/-- What is kept and what the result block holds after point `n`. -/
theorem state : ∀ (n : ℕ) (hn : n < cfg0.N),
    (∀ (k : Fin 4096) (y : Fin 1024) (Y : Fin 2048), Y.val = n / 16 * 1024 + y.val → (outsAt0 m c n hn).2 (ix2 k y) = argW m c (ix3 0 k Y))
    ∧ (∀ (r : Fin 512) (y : Fin 1024) (R : Fin 8192) (Y : Fin 2048), R.val = n % 16 * 512 + r.val → Y.val = n / 16 * 1024 + y.val →
        (outsAt0 m c n hn).1 (ix2 r y) = lin (argX m c) (argW m c) (argH m c) R Y) := by
  intro n
  induction n using Nat.strong_induction_on with
  | _ n ih =>
    intro hn
    by_cases h0 : n % 16 = 0
    · have hw : ∀ (k : Fin 4096) (y : Fin 1024) (Y : Fin 2048), Y.val = n / 16 * 1024 + y.val →
          k0_pay1 (F := Ideal) (iblk m c 1 ⟨n, hn⟩) (ix2 k y) = argW m c (ix3 0 k Y) := fun k y Y hY => by
        rw [pay1_apply, iblk1 m c ⟨n, hn⟩ k y Y hY]
      refine ⟨fun k y Y hY => ?_, fun r y R Y hR hY => ?_⟩
      · rw [outsAt0_A m c ⟨n, hn⟩ h0]
        frame_out
        exact hw k y Y hY
      · rw [outsAt0_A m c ⟨n, hn⟩ h0]
        frame_out
        exact point m c ⟨n, hn⟩ _ hw r y R Y hR hY
    · have hn' : n - 1 < cfg0.N := by omega
      have hq : (n - 1) / 16 = n / 16 := by omega
      have ihw := (ih (n - 1) (by omega) hn').1
      rw [hq] at ihw
      refine ⟨fun k y Y hY => ?_, fun r y R Y hR hY => ?_⟩
      · rw [outsAt0_B m c ⟨n, hn⟩ h0]
        exact ihw k y Y hY
      · rw [outsAt0_B m c ⟨n, hn⟩ h0]
        frame_out
        rw [(Memref.isWhole_whole cc0_scratch0).read_unread]
        exact point m c ⟨n, hn⟩ _ ihw r y R Y hR hY

/-- The result array. -/
theorem G3_apply (r : Fin 8192) (y : Fin 2048) : G3 m c (ix2 r y) = lin (argX m c) (argW m c) (argH m c) r y := by
  have hr := r.isLt
  have hy := y.isLt
  have hp : pt3Of (ix2 r y) = r.val / 512 + 16 * (y.val / 1024) := by
    show 1 * (r.val / 512 - 0) + 16 * (y.val / 1024 - 0) = _
    omega
  have hl : loc3Of (ix2 r y) = ix2 ⟨r.val % 512, Nat.mod_lt _ (by decide)⟩ ⟨y.val % 1024, Nat.mod_lt _ (by decide)⟩ := by
    funext a
    match a with
    | ⟨0, _⟩ => rfl
    | ⟨1, _⟩ => rfl
  have hN : pt3Of (ix2 r y) < cfg0.N := lt_of_lt_of_eq (b := 2 * 16) (by rw [hp]; omega) N_0.symm
  unfold G3
  rw [dif_pos hN, hl, ← outsAt0_sweep m c _ hN]
  refine (state m c _ hN).2 _ _ r y ?_ ?_
  · show r.val = pt3Of (ix2 r y) % 16 * 512 + r.val % 512
    rw [hp]; omega
  · show y.val = pt3Of (ix2 r y) / 16 * 1024 + y.val % 1024
    rw [hp]; omega

end Cert.Proof.OutGdn

namespace Cert.Proof.OutGdn.Ref

open Idealize.ShloMosaic Idealize.SL.Sem Cert.OutGdnRefIdeal Cert.OutGdnRefIdeal.Gen Cert.OutGdnRefIdeal.Value Cert.OutGdnRefIdeal.Read Idealize.ShloMosaic.TcCoe

/-- The reference's result. -/
theorem lin_apply (x : (⟨2, ![8192, 4096]⟩ : Shape).Idx → EReal) (w : (⟨3, ![1, 4096, 2048]⟩ : Shape).Idx → EReal)
    (h : (⟨2, ![8192, 2048]⟩ : Shape).Idx → EReal) (r : Fin 8192) (y : Fin 2048) :
    val_main_v3 (F := Ideal) x w h (ix2 r y) = lin x w h r y := by
  have hy := y.isLt
  rw [val_main_v3_apply, val_main_v2_apply]
  unfold lin
  show (_ : EReal) + _ = _
  refine congrArg _ (Finset.sum_congr rfl fun k _ => ?_)
  have hk := k.isLt
  have el : lidx_main_v2 (ix2 r y) k = ix2 r k := by
    funext a
    match a with
    | ⟨0, _⟩ => rfl
    | ⟨1, _⟩ => rfl
  have er : idx_main_v1 (ridx_main_v2 (ix2 r y) k) = ix3 0 k y := by
    funext a
    match a with
    | ⟨0, _⟩ => rfl
    | ⟨1, _⟩ => refine Fin.ext ?_; show (k.val * 2048 + y.val) / 2048 % 4096 = k.val; omega
    | ⟨2, _⟩ => refine Fin.ext ?_; show (k.val * 2048 + y.val) % 2048 = y.val; omega
  rw [val_main_v1_apply, er, el]
  rfl

end Cert.Proof.OutGdn.Ref

namespace Cert.Proof.OutGdn

open Idealize.ShloMosaic Idealize.SL.Sem Idealize.ShloMosaic.TcCoe

/-- From equal arguments the kernel and the reference end with equal results and their arguments unchanged. -/
theorem algebraic : Cert.algebraic_OutGdnIdeal_OutGdnRefIdeal (hOutGdnIdeal := Cert.OutGdnIdeal.Gen.facts)
    (hOutGdnRefIdeal := Cert.OutGdnRefIdeal.Gen.facts) := by
  intro m g m' g' _ hargs
  refine ⟨fun c => Cert.OutGdnIdeal.Value.G3 m c, Cert.OutGdnIdeal.Value.run (F := Ideal) m g, ?_⟩
  refine (θ_run (Cert.OutGdnRefIdeal.defs (F := Ideal)) _ _).mono (fun r h c => ?_) (Cert.OutGdnRefIdeal.Value.run (F := Ideal) m' g')
  refine ⟨(h c).1.trans ?_, (h c).2⟩
  obtain ⟨e0, e1, e2⟩ := hargs c
  refine (Cert.OutGdnRefIdeal.Read.val_main_v3_eq (F := Ideal) _ _ _).trans ?_
  rw [e0, e1, e2]
  refine funext fun i => ?_
  have hi : i = ix2 (n0 := 8192) (n1 := 2048) (i 0) (i 1) := by
    funext a
    match a with
    | ⟨0, _⟩ => rfl
    | ⟨1, _⟩ => rfl
  rw [hi]
  refine (Ref.lin_apply (argX m c) (argW m c) (argH m c) (i 0) (i 1)).trans ?_
  exact (G3_apply m c (i 0) (i 1)).symm

/-- The reference runs and leaves its arguments as they were. -/
theorem frame_ref : Cert.quiescent_OutGdnRefIdeal (hOutGdnRefIdeal := Cert.OutGdnRefIdeal.Gen.facts) := by
  intro m ρ _
  exact (θ_run Cert.OutGdnRefIdeal.defs _ _).mono
    (fun r h => ⟨fun c => (h c).2, sem_eq_zero_of_no_sems (by decide) r.2⟩) (Cert.OutGdnRefIdeal.Value.run (F := Ideal) m ρ)

section Frame

variable {F : FTy → Type} [FloatOps F]

local instance factsOne : Cert.OutGdn.Facts := Cert.OutGdn.Gen.facts
local instance factsTwo : Cert.OutGdnIdeal.Facts := Cert.OutGdnIdeal.Gen.facts

/-- The two instances of the program have the same bodies. -/
theorem bodies_eq : Cert.OutGdn.defs₀ (F := F) = Cert.OutGdnIdeal.defs₀ (F := F) := by
  unfold Cert.OutGdn.defs₀ Cert.OutGdnIdeal.defs₀
  refine congrArg Defs.onTc (funext fun x => funext fun a => ?_)
  match x, a with
  | ⟨0, _⟩, (t, s) => rfl
  | ⟨n + 1, h⟩, _ => exact absurd h (Nat.not_lt.2 (Nat.le_add_left _ _))

/-- The two instances of the program have the same definitions. -/
theorem defs_eq : Cert.OutGdn.defs (F := F) = Cert.OutGdnIdeal.defs (F := F) :=
  congrArg (Pipeline.defs Cert.OutGdn.pcfgs) bodies_eq

/-- The program runs on the machine's numbers and leaves its arguments as they were: the run is the one for any numbers. -/
theorem frame_bits : Cert.quiescent_OutGdn (hOutGdn := Cert.OutGdn.Gen.facts) := fun m ρ _ => by
  rw [defs_eq]
  exact Cert.OutGdnIdeal.Gen.frame m ρ

end Frame

end Cert.Proof.OutGdn

end
-- ==== Proof.lean ====
/-
  The certificate: every program runs, leaves its arguments as they were and its counters at zero; the idealized programs
  are the compiled ones with the mask constant named; and from equal arguments each kernel and its reference end with
  equal results.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.FfnFinal
public import proofs.«01_k».proof.Proof.Gen.FfnFinal.Frame
public import proofs.«01_k».proof.Proof.Gen.FfnFinalIdeal
public import proofs.«01_k».proof.Proof.Gen.FfnFinalIdeal.Frame
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnNext
public import proofs.«01_k».proof.Proof.Gen.FfnNextIdeal
public import proofs.«01_k».proof.Proof.Gen.ReferenceIdeal
public import proofs.«01_k».proof.Proof.Gen.ReferenceIdeal.Run
public import proofs.«01_k».proof.Proof.Gen.FfnFinalRefIdeal
public import proofs.«01_k».proof.Proof.Gen.FfnFinalRefIdeal.Run
public import proofs.«01_k».proof.Proof.Gen.FfnRefIdeal
public import proofs.«01_k».proof.Proof.Gen.FfnRefIdeal.Run
public import proofs.«01_k».proof.Proof.Gen.FfnNextRefIdeal
public import proofs.«01_k».proof.Proof.Gen.FfnNextRefIdeal.Run
public import proofs.«01_k».proof.Proof.Gen.Pre_attn_finite
public import proofs.«01_k».proof.Proof.Attn.Claim
public import proofs.«01_k».proof.Proof.Ffn.Claim
public import proofs.«01_k».proof.Proof.Next.Claim
public import proofs.«01_k».proof.Proof.Plain.Claim
public import proofs.«01_k».proof.Proof.OutAttn.Claim
public import proofs.«01_k».proof.Proof.ProjConv.Claim
public import proofs.«01_k».proof.Proof.ProjRope.Claim
public import proofs.«01_k».proof.Proof.OutGdn.Claim

@[expose] public section

noncomputable section

namespace Cert.Proof

open Idealize.ShloMosaic Idealize.SL.Sem

/-- The attention's reference runs, keeps its arguments, and ends with its counters at zero: it declares none. -/
theorem frame_attn_ref : Cert.quiescent_ReferenceIdeal (hReferenceIdeal := Cert.ReferenceIdeal.Gen.facts) := by
  intro m ρ _
  exact (θ_run Cert.ReferenceIdeal.defs _ _).mono
    (fun r h => ⟨fun c => (h c).2, sem_eq_zero_of_no_sems (by decide) r.2⟩) (Cert.ReferenceIdeal.Value.run (F := Ideal) m ρ)

/-- The last feed-forward's reference likewise. -/
theorem frame_ffn_ref : Cert.quiescent_FfnFinalRefIdeal (hFfnFinalRefIdeal := Cert.FfnFinalRefIdeal.Gen.facts) := by
  intro m ρ _
  exact (θ_run Cert.FfnFinalRefIdeal.defs _ _).mono
    (fun r h => ⟨fun c => (h c).2, sem_eq_zero_of_no_sems (by decide) r.2⟩) (Cert.FfnFinalRefIdeal.Value.run (F := Ideal) m ρ)

/-- The inner feed-forward's reference likewise. -/
theorem frame_plain_ref : Cert.quiescent_FfnRefIdeal (hFfnRefIdeal := Cert.FfnRefIdeal.Gen.facts) := by
  intro m ρ _
  exact (θ_run Cert.FfnRefIdeal.defs _ _).mono
    (fun r h => ⟨fun c => (h c).2, sem_eq_zero_of_no_sems (by decide) r.2⟩) (Cert.FfnRefIdeal.Value.run (F := Ideal) m ρ)

/-- The opening feed-forward's reference runs and leaves its arguments as they were. -/
theorem frame_next_ref : Cert.quiescent_FfnNextRefIdeal (hFfnNextRefIdeal := Cert.FfnNextRefIdeal.Gen.facts) := by
  intro m ρ _
  exact (θ_run Cert.FfnNextRefIdeal.defs _ _).mono
    (fun r h => ⟨fun c => (h c).2.2, sem_eq_zero_of_no_sems (by decide) r.2⟩) (Cert.FfnNextRefIdeal.Value.run (F := Ideal) m ρ)

/-- Every claim of the certificate. -/
theorem claim : Cert.Claim :=
  ⟨Cert.Kernel.Gen.facts, Cert.KernelIdeal.Gen.facts, Cert.ReferenceIdeal.Gen.facts, Cert.FfnFinal.Gen.facts,
    Cert.FfnFinalIdeal.Gen.facts, Cert.FfnFinalRefIdeal.Gen.facts,
    Cert.Ffn.Gen.facts, Cert.FfnIdeal.Gen.facts, Cert.FfnRefIdeal.Gen.facts,
    Cert.FfnNext.Gen.facts, Cert.FfnNextIdeal.Gen.facts, Cert.FfnNextRefIdeal.Gen.facts,
    Cert.OutGdn.Gen.facts, Cert.OutGdnIdeal.Gen.facts, Cert.OutGdnRefIdeal.Gen.facts,
    Cert.OutAttn.Gen.facts, Cert.OutAttnIdeal.Gen.facts, Cert.OutAttnRefIdeal.Gen.facts,
    Cert.ProjConv.Gen.facts, Cert.ProjConvIdeal.Gen.facts, Cert.ProjConvRefIdeal.Gen.facts,
    Cert.ProjRope.Gen.facts, Cert.ProjRopeIdeal.Gen.facts, Cert.ProjRopeRefIdeal.Gen.facts,
    Cert.Pre_attn_finite.Gen.facts,
    fun m ρ _ => Cert.Kernel.Gen.frame m ρ,
    fun m ρ _ => Cert.KernelIdeal.Gen.frame m ρ,
    fun m ρ _ => Cert.KernelIdeal.Gen.frame m ρ,
    frame_attn_ref,
    fun m ρ _ => frame_attn_ref m ρ trivial,
    fun m ρ _ => Cert.FfnFinal.Gen.frame m ρ,
    fun m ρ _ => Cert.FfnFinalIdeal.Gen.frame m ρ,
    frame_ffn_ref,
    fun m ρ _ => Cert.Ffn.Gen.frame m ρ,
    fun m ρ _ => Cert.FfnIdeal.Gen.frame m ρ,
    frame_plain_ref,
    Next.frame_bits,
    fun m ρ _ => Next.frame_run m ρ,
    frame_next_ref,
    OutGdn.frame_bits,
    fun m ρ _ => Cert.OutGdnIdeal.Gen.frame m ρ,
    OutGdn.frame_ref,
    OutAttn.frame_bits,
    fun m ρ _ => Cert.OutAttnIdeal.Gen.frame m ρ,
    OutAttn.frame_ref,
    ProjConv.frame_bits,
    fun m ρ _ => Cert.ProjConvIdeal.Gen.frame m ρ,
    ProjConv.frame_ref,
    ProjRope.frame_bits,
    fun m ρ _ => Cert.ProjRopeIdeal.Gen.frame m ρ,
    ProjRope.frame_ref,
    IdealRules.named_const.statement Cert.KernelIdeal.κ "mask" .f32 0xF149F2CA#32 ⊥ rfl,
    Attn.algebraic,
    trivial,
    Ffn.algebraic,
    trivial,
    Plain.algebraic,
    trivial,
    Next.algebraic,
    trivial,
    OutGdn.algebraic,
    trivial,
    OutAttn.algebraic,
    trivial,
    ProjConv.algebraic,
    trivial,
    ProjRope.algebraic⟩

end Cert.Proof

end
